-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v42) = v0 c
          ∧ r.2.mem ((c.tc : Thread Cert.Reference8Ideal.nD Cert.Reference8Ideal.τ).loc Cert.Reference8Ideal.main_v43) = v1 c
          ∧ r.2.mem ((c.tc : Thread Cert.Reference8Ideal.nD Cert.Reference8Ideal.τ).loc Cert.Reference8Ideal.main_v25) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_v11) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v9) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v7) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)) (v2 : (c : Dev Cert.Kernel16Ideal.nD) → Buf (Elt Ideal) ((c.tc : Thread Cert.Kernel16Ideal.nD Cert.Kernel16Ideal.τ).loc Cert.Kernel16Ideal.main_v3_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_v3_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_v15) = v1 c
          ∧ r.2.mem ((c.tc : Thread Cert.Reference16Ideal.nD Cert.Reference16Ideal.τ).loc Cert.Reference16Ideal.main_v28) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v16) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_v16) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_v17) = v1 c
          ∧ r.2.mem ((c.tc : Thread Cert.Reference21Ideal.nD Cert.Reference21Ideal.τ).loc Cert.Reference21Ideal.main_v30) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v53) = v0 c
          ∧ r.2.mem ((c.tc : Thread Cert.Reference22Ideal.nD Cert.Reference22Ideal.τ).loc Cert.Reference22Ideal.main_v54) = v1 c
          ∧ r.2.mem ((c.tc : Thread Cert.Reference22Ideal.nD Cert.Reference22Ideal.τ).loc Cert.Reference22Ideal.main_v55) = v2 c
          ∧ r.2.mem ((c.tc : Thread Cert.Reference22Ideal.nD Cert.Reference22Ideal.τ).loc Cert.Reference22Ideal.main_v37) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v78) = v0 c
          ∧ r.2.mem ((c.tc : Thread Cert.Reference23Ideal.nD Cert.Reference23Ideal.τ).loc Cert.Reference23Ideal.main_v79) = v1 c
          ∧ r.2.mem ((c.tc : Thread Cert.Reference23Ideal.nD Cert.Reference23Ideal.τ).loc Cert.Reference23Ideal.main_v41) = v2 c
          ∧ r.2.mem ((c.tc : Thread Cert.Reference23Ideal.nD Cert.Reference23Ideal.τ).loc Cert.Reference23Ideal.main_v61) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v34) = v0 c
          ∧ r.2.mem ((c.tc : Thread Cert.Reference24Ideal.nD Cert.Reference24Ideal.τ).loc Cert.Reference24Ideal.main_v35) = v1 c
          ∧ r.2.mem ((c.tc : Thread Cert.Reference24Ideal.nD Cert.Reference24Ideal.τ).loc Cert.Reference24Ideal.main_v17) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v16) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v8) = v0 c
          ∧ r.2.mem ((c.tc : Thread Cert.Reference26Ideal.nD Cert.Reference26Ideal.τ).loc Cert.Reference26Ideal.main_v7) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v30) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v5) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v6) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v11) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v6) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
-- ==== Pre_finite.lean ====
abbrev S4096x5632 : Shape := ⟨2, ![4096, 5632]⟩
abbrev S4096x2816 : Shape := ⟨2, ![4096, 2816]⟩
abbrev S3x5632 : Shape := ⟨2, ![3, 5632]⟩
abbrev S1x5632 : Shape := ⟨2, ![1, 5632]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S4096x2816 : S_.BroadcastsInDim S4096x2816 (![] : Fin 0 → Fin S4096x2816.rank)
  reducesTo_S4096x2816_S_d0_1 : S4096x2816.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_v13 : IVec S_ 1) (main_v16 : IVec S1x5632 1) : IVec S_ 1 :=
  let main_c_5 : IVec S_ 1 := constantI S_ 1 1#1
  let main_v17 : IVec S_ 1 := (fun x v => Host.reduce IntOp.andi x v reducesTo_S1x5632_S_d0_1 h_S_) main_v16 main_c_5
  let main_v18 : IVec S_ 1 := andi main_v13 main_v17
  main_v18

def fn {F : FTy → Type} [FloatOps F] (main_arg0 : FVec F S4096x5632 .f32) (main_arg1 : FVec F S4096x2816 .f32) (main_arg2 : FVec F S3x5632 .f32) (main_arg3 : FVec F S1x5632 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S3x5632 .f32 := Host.absf main_arg2
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_c_3 : IVec S_ 1 := constantI S_ 1 1#1
  let main_v12 : IVec S_ 1 := (fun x v => Host.reduce IntOp.andi x v reducesTo_S3x5632_S_d0_1 h_S_) main_v11 main_c_3
  let main_v13 : IVec S_ 1 := andi main_v8 main_v12
  let main_v14 : FVec F S1x5632 .f32 := Host.absf main_arg3
  let main_cst_4 : FVec F S_ .f32 := constant S_ .f32 0x7F800000#32
  let main_v15 : FVec F S1x5632 .f32 := broadcastInDim S1x5632 ![] bcast_S_S1x5632 main_cst_4
  let main_v16 : IVec S1x5632 1 := cmpf .olt main_v14 main_v15
  fn_part1 (F := F) main_v13 main_v16
-- ==== Kernel.lean ====
abbrev S4096x5632 : Shape := ⟨2, ![4096, 5632]⟩
abbrev S4096x2816 : Shape := ⟨2, ![4096, 2816]⟩
abbrev S3x5632 : Shape := ⟨2, ![3, 5632]⟩
abbrev S1x5632 : Shape := ⟨2, ![1, 5632]⟩
abbrev S2x4096x2816 : Shape := ⟨3, ![2, 4096, 2816]⟩
abbrev S2x3x2816 : Shape := ⟨3, ![2, 3, 2816]⟩
abbrev S2x1x2816 : Shape := ⟨3, ![2, 1, 2816]⟩
abbrev S256x1408 : Shape := ⟨2, ![256, 1408]⟩
abbrev S8x1408 : Shape := ⟨2, ![8, 1408]⟩
abbrev S3x1408 : Shape := ⟨2, ![3, 1408]⟩
abbrev S1x1408 : Shape := ⟨2, ![1, 1408]⟩
abbrev S2x256x1408 : Shape := ⟨3, ![2, 256, 1408]⟩
abbrev S2x3x1408 : Shape := ⟨3, ![2, 3, 1408]⟩
abbrev S2x1x1408 : Shape := ⟨3, ![2, 1, 1408]⟩
abbrev S264x1408 : Shape := ⟨2, ![264, 1408]⟩
abbrev S1x256x1408 : Shape := ⟨3, ![1, 256, 1408]⟩
abbrev S1x3x1408 : Shape := ⟨3, ![1, 3, 1408]⟩
abbrev S1408 : Shape := ⟨1, ![1408]⟩
abbrev S1x1x1408 : Shape := ⟨3, ![1, 1, 1408]⟩

abbrev nBuf : Space → Nat
  | .hbm => 7
  | .vmem => 26
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S3x5632, .f32⟩
  | .hbm, ⟨3, _⟩ => ⟨S1x5632, .f32⟩
  | .hbm, ⟨4, _⟩ => ⟨S2x4096x2816, .bf16⟩
  | .hbm, ⟨5, _⟩ => ⟨S2x3x2816, .f32⟩
  | .hbm, ⟨6, _⟩ => ⟨S2x1x2816, .f32⟩
  | .local _ .vmem, ⟨0, _⟩ => ⟨S256x1408, .f32⟩
  | .local _ .vmem, ⟨1, _⟩ => ⟨S256x1408, .f32⟩
  | .local _ .vmem, ⟨2, _⟩ => ⟨S8x1408, .f32⟩
  | .local _ .vmem, ⟨3, _⟩ => ⟨S8x1408, .f32⟩
  | .local _ .vmem, ⟨4, _⟩ => ⟨S256x1408, .f32⟩
  | .local _ .vmem, ⟨5, _⟩ => ⟨S256x1408, .f32⟩
  | .local _ .vmem, ⟨6, _⟩ => ⟨S8x1408, .f32⟩
  | .local _ .vmem, ⟨7, _⟩ => ⟨S8x1408, .f32⟩
  | .local _ .vmem, ⟨8, _⟩ => ⟨S256x1408, .f32⟩
  | .local _ .vmem, ⟨9, _⟩ => ⟨S256x1408, .f32⟩
  | .local _ .vmem, ⟨10, _⟩ => ⟨S3x1408, .f32⟩
  | .local _ .vmem, ⟨11, _⟩ => ⟨S3x1408, .f32⟩
  | .local _ .vmem, ⟨12, _⟩ => ⟨S3x1408, .f32⟩
  | .local _ .vmem, ⟨13, _⟩ => ⟨S3x1408, .f32⟩
  | .local _ .vmem, ⟨14, _⟩ => ⟨S1x1408, .f32⟩
  | .local _ .vmem, ⟨15, _⟩ => ⟨S1x1408, .f32⟩
  | .local _ .vmem, ⟨16, _⟩ => ⟨S1x1408, .f32⟩
  | .local _ .vmem, ⟨17, _⟩ => ⟨S1x1408, .f32⟩
  | .local _ .vmem, ⟨18, _⟩ => ⟨S2x256x1408, .bf16⟩
  | .local _ .vmem, ⟨19, _⟩ => ⟨S2x256x1408, .bf16⟩
  | .local _ .vmem, ⟨20, _⟩ => ⟨S2x3x1408, .f32⟩
  | .local _ .vmem, ⟨21, _⟩ => ⟨S2x3x1408, .f32⟩
  | .local _ .vmem, ⟨22, _⟩ => ⟨S2x1x1408, .f32⟩
  | .local _ .vmem, ⟨23, _⟩ => ⟨S2x1x1408, .f32⟩
  | .local _ .vmem, ⟨24, _⟩ => ⟨S8x1408, .f32⟩
  | .local _ .vmem, ⟨25, _⟩ => ⟨S8x1408, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let v1 : BitVec 32 := Scalar.addi arg0 c2_i32
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let v4 : BitVec 32 := Scalar.addi arg0 c2_i32
  let c0_i32_0 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x256x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x3x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x1x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4096x5632 : Shape := ⟨2, ![4096, 5632]⟩
abbrev S4096x2816 : Shape := ⟨2, ![4096, 2816]⟩
abbrev S3x5632 : Shape := ⟨2, ![3, 5632]⟩
abbrev S1x5632 : Shape := ⟨2, ![1, 5632]⟩
abbrev S5632 : Shape := ⟨1, ![5632]⟩
abbrev S_ : Shape := ⟨0, ![]⟩
abbrev S2x5632 : Shape := ⟨2, ![2, 5632]⟩
abbrev S4098x5632 : Shape := ⟨2, ![4098, 5632]⟩
abbrev S1x4096x2816 : Shape := ⟨3, ![1, 4096, 2816]⟩
abbrev S2x4096x2816 : Shape := ⟨3, ![2, 4096, 2816]⟩
abbrev S3x2816 : Shape := ⟨2, ![3, 2816]⟩
abbrev S1x3x2816 : Shape := ⟨3, ![1, 3, 2816]⟩
abbrev S2x3x2816 : Shape := ⟨3, ![2, 3, 2816]⟩
abbrev S1x2816 : Shape := ⟨2, ![1, 2816]⟩
abbrev S1x1x2816 : Shape := ⟨3, ![1, 1, 2816]⟩
abbrev S2x1x2816 : Shape := ⟨3, ![2, 1, 2816]⟩

abbrev nBuf : Space → Nat
  | .hbm => 123
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S3x5632, .f32⟩
  | .hbm, ⟨3, _⟩ => ⟨S1x5632, .f32⟩
  | .hbm, ⟨4, _⟩ => ⟨S5632, .f32⟩
  | .hbm, ⟨5, _⟩ => ⟨S_, .f32⟩
  | .hbm, ⟨6, _⟩ => ⟨S2x5632, .f32⟩
  | .hbm, ⟨7, _⟩ => ⟨S4098x5632, .f32⟩
  | .hbm, ⟨8, _⟩ => ⟨S_, .f32⟩
  | .hbm, ⟨9, _⟩ => ⟨S2x5632, .f32⟩
  | .hbm, ⟨10, _⟩ => ⟨S4096x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S4096x5632, .f32⟩
  | .hbm, ⟨15, _⟩ => ⟨S4096x5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x5632, .f32⟩
  | .hbm, ⟨56, _⟩ => ⟨S4096x5632, .f32⟩
  | .hbm, ⟨57, _⟩ => ⟨S_, .f32⟩
  | .hbm, ⟨58, _⟩ => ⟨S5632, .f32⟩
  | .hbm, ⟨59, _⟩ => ⟨S1x5632, .f32⟩
  | .hbm, ⟨60, _⟩ => ⟨S4096x5632, .f32⟩
  | .hbm, ⟨61, _⟩ => ⟨S4096x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S_, .f32⟩
  | .hbm, ⟨66, _⟩ => ⟨S3x5632, .f32⟩
  | .hbm, ⟨67, _⟩ => ⟨S_, .f32⟩
  | .hbm, ⟨68, _⟩ => ⟨S4098x5632, .f32⟩
  | .hbm, ⟨69, _⟩ => ⟨S4096x5632, .f32⟩
  | .hbm, ⟨70, _⟩ => ⟨S_, .f32⟩
  | .hbm, ⟨71, _⟩ => ⟨S5632, .f32⟩
  | .hbm, ⟨72, _⟩ => ⟨S1x5632, .f32⟩
  | .hbm, ⟨73, _⟩ => ⟨S4096x5632, .f32⟩
  | .hbm, ⟨74, _⟩ => ⟨S4096x5632, .f32⟩
  | .hbm, ⟨75, _⟩ => ⟨S_, .f32⟩
  | .hbm, ⟨76, _⟩ => ⟨S5632, .f32⟩
  | .hbm, ⟨77, _⟩ => ⟨S1x5632, .f32⟩
  | .hbm, ⟨78, _⟩ => ⟨S_, .f32⟩
  | .hbm, ⟨79, _⟩ => ⟨S3x5632, .f32⟩
  | .hbm, ⟨80, _⟩ => ⟨S3x5632, .f32⟩
  | .hbm, ⟨81, _⟩ => ⟨S_, .f32⟩
  | .hbm, ⟨82, _⟩ => ⟨S4098x5632, .f32⟩
  | .hbm, ⟨83, _⟩ => ⟨S4098x5632, .f32⟩
  | .hbm, ⟨84, _⟩ => ⟨S_, .f32⟩
  | .hbm, ⟨85, _⟩ => ⟨S5632, .f32⟩
  | .hbm, ⟨86, _⟩ => ⟨S1x5632, .f32⟩
  | .hbm, ⟨87, _⟩ => ⟨S_, .f32⟩
  | .hbm, ⟨88, _⟩ => ⟨S5632, .f32⟩
  | .hbm, ⟨89, _⟩ => ⟨S4096x5632, .f32⟩
  | .hbm, ⟨90, _⟩ => ⟨S_, .f32⟩
  | .hbm, ⟨91, _⟩ => ⟨S5632, .f32⟩
  | .hbm, ⟨92, _⟩ => ⟨S1x5632, .f32⟩
  | .hbm, ⟨93, _⟩ => ⟨S4096x5632, .f32⟩
  | .hbm, ⟨94, _⟩ => ⟨S4096x5632, .f32⟩
  | .hbm, ⟨95, _⟩ => ⟨S_, .f32⟩
  | .hbm, ⟨96, _⟩ => ⟨S5632, .f32⟩
  | .hbm, ⟨97, _⟩ => ⟨S1x5632, .f32⟩
  | .hbm, ⟨98, _⟩ => ⟨S_, .f32⟩
  | .hbm, ⟨99, _⟩ => ⟨S3x5632, .f32⟩
  | .hbm, ⟨100, _⟩ => ⟨S3x5632, .f32⟩
  | .hbm, ⟨101, _⟩ => ⟨S_, .f32⟩
  | .hbm, ⟨102, _⟩ => ⟨S4098x5632, .f32⟩
  | .hbm, ⟨103, _⟩ => ⟨S4098x5632, .f32⟩
  | .hbm, ⟨104, _⟩ => ⟨S2x5632, .f32⟩
  | .hbm, ⟨105, _⟩ => ⟨S4096x5632, .f32⟩
  | .hbm, ⟨106, _⟩ => ⟨S4096x5632, .bf16⟩
  | .hbm, ⟨107, _⟩ => ⟨S4096x2816, .bf16⟩
  | .hbm, ⟨108, _⟩ => ⟨S4096x2816, .bf16⟩
  | .hbm, ⟨109, _⟩ => ⟨S1x4096x2816, .bf16⟩
  | .hbm, ⟨110, _⟩ => ⟨S1x4096x2816, .bf16⟩
  | .hbm, ⟨111, _⟩ => ⟨S2x4096x2816, .bf16⟩
  | .hbm, ⟨112, _⟩ => ⟨S3x2816, .f32⟩
  | .hbm, ⟨113, _⟩ => ⟨S3x2816, .f32⟩
  | .hbm, ⟨114, _⟩ => ⟨S1x3x2816, .f32⟩
  | .hbm, ⟨115, _⟩ => ⟨S1x3x2816, .f32⟩
  | .hbm, ⟨116, _⟩ => ⟨S2x3x2816, .f32⟩
  | .hbm, ⟨117, _⟩ => ⟨S1x5632, .f32⟩
  | .hbm, ⟨118, _⟩ => ⟨S1x2816, .f32⟩
  | .hbm, ⟨119, _⟩ => ⟨S1x2816, .f32⟩
  | .hbm, ⟨120, _⟩ => ⟨S1x1x2816, .f32⟩
  | .hbm, ⟨121, _⟩ => ⟨S1x1x2816, .f32⟩
  | .hbm, ⟨122, _⟩ => ⟨S2x1x2816, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v29_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v29_1 : Ref sig .tc := ⟨.hbm, 46, rfl⟩
abbrev main_v29_0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_1 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_2 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]
-- ==== Kernel2.lean ====
abbrev S4096x1024 : Shape := ⟨2, ![4096, 1024]⟩
abbrev S1x1x2816x1024 : Shape := ⟨4, ![1, 1, 2816, 1024]⟩
abbrev S4096x2816 : Shape := ⟨2, ![4096, 2816]⟩
abbrev S512x1024 : Shape := ⟨2, ![512, 1024]⟩
abbrev S512x2816 : Shape := ⟨2, ![512, 2816]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1x2816x1024, .bf16⟩
  | .hbm, ⟨2, _⟩ => ⟨S4096x2816, .f32⟩
  | .local _ .vmem, ⟨0, _⟩ => ⟨S512x1024, .bf16⟩
  | .local _ .vmem, ⟨1, _⟩ => ⟨S512x1024, .bf16⟩
  | .local _ .vmem, ⟨2, _⟩ => ⟨S1x1x2816x1024, .bf16⟩
  | .local _ .vmem, ⟨3, _⟩ => ⟨S512x2816, .f32⟩
  | .local _ .vmem, ⟨4, _⟩ => ⟨S512x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4096x1024 : Shape := ⟨2, ![4096, 1024]⟩
abbrev S1x1x2816x1024 : Shape := ⟨4, ![1, 1, 2816, 1024]⟩
abbrev S_ : Shape := ⟨0, ![]⟩
abbrev S4096x2816 : Shape := ⟨2, ![4096, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1x2816x1024, .bf16⟩
  | .hbm, ⟨2, _⟩ => ⟨S_, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S1x4096x1024 : Shape := ⟨3, ![1, 4096, 1024]⟩
abbrev S1x2816x1024 : Shape := ⟨3, ![1, 2816, 1024]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x4096x1024, .bf16⟩
  | .hbm, ⟨3, _⟩ => ⟨S1x2816x1024, .f32⟩
  | .hbm, ⟨4, _⟩ => ⟨S1x2816x1024, .bf16⟩
  | .local _ .vmem, ⟨0, _⟩ => ⟨S4096x256, .bf16⟩
  | .local _ .vmem, ⟨1, _⟩ => ⟨S4096x256, .bf16⟩
  | .local _ .vmem, ⟨2, _⟩ => ⟨S1x4096x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x256x1024, .bf16⟩
  | .local _ .vmem, ⟨6, _⟩ => ⟨S1x256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 11, 1], ![false, false, false]⟩

def k0_cond2 (i : grid0.Coords) : BitVec 1 :=
  let arg2 : BitVec 32 := BitVec.ofNat 32 (i 2).val
  let c0_i32_11 : BitVec 32 := 0#32
  let v13 : BitVec 1 := Scalar.cmpi .eq arg2 c0_i32_11
  let v14 : BitVec 32 := Scalar.extui v13
  let c0_i32_12 : BitVec 32 := 0#32
  let v15 : BitVec 1 := Scalar.cmpi .ne v14 c0_i32_12
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S1x2816x1024, .f32⟩
  | .hbm, ⟨10, _⟩ => ⟨S1x2816x1024, .f32⟩
  | .hbm, ⟨11, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S2x4096x2816 : Shape := ⟨3, ![2, 4096, 2816]⟩
abbrev S4x1x1024x1408 : Shape := ⟨4, ![4, 1, 1024, 1408]⟩
abbrev S4096x1024 : Shape := ⟨2, ![4096, 1024]⟩
abbrev S1x1024 : Shape := ⟨2, ![1, 1024]⟩
abbrev S1x512x1408 : Shape := ⟨3, ![1, 512, 1408]⟩
abbrev S1x1x1024x1408 : Shape := ⟨4, ![1, 1, 1024, 1408]⟩
abbrev S512x1024 : Shape := ⟨2, ![512, 1024]⟩
abbrev S512x1408 : Shape := ⟨2, ![512, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S2x4096x2816, .bf16⟩
  | .hbm, ⟨1, _⟩ => ⟨S4x1x1024x1408, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_11 : BitVec 32 := 0#32
  let v15 : BitVec 1 := Scalar.cmpi .ne v14 c0_i32_11
  v15

def k0_cond3 (i : grid0.Coords) : BitVec 1 :=
  let arg0 : BitVec 32 := BitVec.ofNat 32 (i 0).val
  let c0_i32_14 : BitVec 32 := 0#32
  let v17 : BitVec 1 := Scalar.cmpi .eq arg0 c0_i32_14
  let v58 : BitVec 32 := Scalar.extui v17
  let c0_i32_33 : BitVec 32 := 0#32
  let v59 : BitVec 1 := Scalar.cmpi .ne v58 c0_i32_33
  v59

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference4Ideal.lean ====
abbrev S2x4096x2816 : Shape := ⟨3, ![2, 4096, 2816]⟩
abbrev S4x1x1024x1408 : Shape := ⟨4, ![4, 1, 1024, 1408]⟩
abbrev S4096x1024 : Shape := ⟨2, ![4096, 1024]⟩
abbrev S1x1024 : Shape := ⟨2, ![1, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1x1024x1408, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4x1024x1408, .bf16⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S1x4096x2816, .bf16⟩
  | .hbm, ⟨10, _⟩ => ⟨S4096x2816, .bf16⟩
  | .hbm, ⟨11, _⟩ => ⟨S1x4096x2816, .bf16⟩
  | .hbm, ⟨12, _⟩ => ⟨S4096x2816, .bf16⟩
  | .hbm, ⟨13, _⟩ => ⟨S4096x5632, .bf16⟩
  | .hbm, ⟨14, _⟩ => ⟨S4096x5632, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x5632, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel5.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S2048x512 : Shape := ⟨2, ![2048, 512]⟩
abbrev S1x2048x1408 : Shape := ⟨3, ![1, 2048, 1408]⟩
abbrev S1x512x1408 : Shape := ⟨3, ![1, 512, 1408]⟩
abbrev S512x1408 : Shape := ⟨2, ![512, 1408]⟩
abbrev S2048x1408 : Shape := ⟨2, ![2048, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .f32⟩
  | .hbm, ⟨3, _⟩ => ⟨S4x1024x1408, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .f32⟩
  | .local _ .vmem, ⟨5, _⟩ => ⟨S1x512x1408, .f32⟩
  | .local _ .vmem, ⟨6, _⟩ => ⟨S1x512x1408, .bf16⟩
  | .local _ .vmem, ⟨7, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S4096x5632, .f32⟩
  | .hbm, ⟨8, _⟩ => ⟨S_, .f32⟩
  | .hbm, ⟨9, _⟩ => ⟨S1024x5632, .f32⟩
  | .hbm, ⟨10, _⟩ => ⟨S4096x1024, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x4x1408, .f32⟩
  | .hbm, ⟨15, _⟩ => ⟨S4x1024x1408, .f32⟩
  | .hbm, ⟨16, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel6.lean ====
abbrev S4096x2048 : Shape := ⟨2, ![4096, 2048]⟩
abbrev S4x1x1024x512 : Shape := ⟨4, ![4, 1, 1024, 512]⟩
abbrev S4096x1024 : Shape := ⟨2, ![4096, 1024]⟩
abbrev S1x4096x2048 : Shape := ⟨3, ![1, 4096, 2048]⟩
abbrev S1x1024x512 : Shape := ⟨3, ![1, 1024, 512]⟩
abbrev S1x1x1024x512 : Shape := ⟨4, ![1, 1, 1024, 512]⟩
abbrev S1024x1024 : Shape := ⟨2, ![1024, 1024]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4x1x1024x512, .bf16⟩
  | .hbm, ⟨2, _⟩ => ⟨S4096x1024, .f32⟩
  | .hbm, ⟨3, _⟩ => ⟨S1x4096x2048, .bf16⟩
  | .hbm, ⟨4, _⟩ => ⟨S4096x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference6Ideal.lean ====
abbrev S4096x2048 : Shape := ⟨2, ![4096, 2048]⟩
abbrev S4x1x1024x512 : Shape := ⟨4, ![4, 1, 1024, 512]⟩
abbrev S4096x1024 : Shape := ⟨2, ![4096, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1x1024x512, .bf16⟩
  | .hbm, ⟨2, _⟩ => ⟨S4096x1024, .f32⟩
  | .hbm, ⟨3, _⟩ => ⟨S4x1024x512, .bf16⟩
  | .hbm, ⟨4, _⟩ => ⟨S4x1024x512, .f32⟩
  | .hbm, ⟨5, _⟩ => ⟨S1024x4x512, .f32⟩
  | .hbm, ⟨6, _⟩ => ⟨S1024x2048, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x2048, .f32⟩
  | .hbm, ⟨36, _⟩ => ⟨S4096x2048, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel7.lean ====
abbrev S4096x1024 : Shape := ⟨2, ![4096, 1024]⟩
abbrev S4096x2048 : Shape := ⟨2, ![4096, 2048]⟩
abbrev S1x4096x2048 : Shape := ⟨3, ![1, 4096, 2048]⟩
abbrev S4x1024x512 : Shape := ⟨3, ![4, 1024, 512]⟩
abbrev S4096x512 : Shape := ⟨2, ![4096, 512]⟩
abbrev S1x4096x512 : Shape := ⟨3, ![1, 4096, 512]⟩
abbrev S1x512x512 : Shape := ⟨3, ![1, 512, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1x4096x2048, .bf16⟩
  | .hbm, ⟨3, _⟩ => ⟨S4x1024x512, .f32⟩
  | .hbm, ⟨4, _⟩ => ⟨S4x1024x512, .bf16⟩
  | .local _ .vmem, ⟨0, _⟩ => ⟨S4096x512, .bf16⟩
  | .local _ .vmem, ⟨1, _⟩ => ⟨S4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_11 : BitVec 32 := 0#32
  let v13 : BitVec 1 := Scalar.cmpi .eq arg2 c0_i32_11
  let v14 : BitVec 32 := Scalar.extui v13
  let c0_i32_12 : BitVec 32 := 0#32
  let v15 : BitVec 1 := Scalar.cmpi .ne v14 c0_i32_12
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x1024 : Shape := ⟨2, ![4096, 1024]⟩
abbrev S1x1x1024x1024 : Shape := ⟨4, ![1, 1, 1024, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference8Ideal.lean ====
abbrev S4096x1024 : Shape := ⟨2, ![4096, 1024]⟩
abbrev S1x1x1024x1024 : Shape := ⟨4, ![1, 1, 1024, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel9.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S2048x512 : Shape := ⟨2, ![2048, 512]⟩
abbrev S1x2048x1024 : Shape := ⟨3, ![1, 2048, 1024]⟩
abbrev S1x512x1024 : Shape := ⟨3, ![1, 512, 1024]⟩
abbrev S512x1024 : Shape := ⟨2, ![512, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x4096x1024, .f32⟩
  | .hbm, ⟨3, _⟩ => ⟨S1x1024x1024, .f32⟩
  | .hbm, ⟨4, _⟩ => ⟨S1x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .bf16⟩
  | .local _ .vmem, ⟨7, _⟩ => ⟨S1x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S1024x1024, .f32⟩
  | .hbm, ⟨14, _⟩ => ⟨S1x1024x1024, .f32⟩
  | .hbm, ⟨15, _⟩ => ⟨S1x1024x1024, .f32⟩
  | .hbm, ⟨16, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel10.lean ====
abbrev S4096x1024 : Shape := ⟨2, ![4096, 1024]⟩
abbrev S1x1x1024x1024 : Shape := ⟨4, ![1, 1, 1024, 1024]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S4096x1024, .f32⟩
  | .hbm, ⟨3, _⟩ => ⟨S4096x1024, .f32⟩
  | .hbm, ⟨4, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference10Ideal.lean ====
abbrev S4096x1024 : Shape := ⟨2, ![4096, 1024]⟩
abbrev S1x1x1024x1024 : Shape := ⟨4, ![1, 1, 1024, 1024]⟩
abbrev S1024x1024 : Shape := ⟨2, ![1024, 1024]⟩
abbrev S4096x16x64 : Shape := ⟨3, ![4096, 16, 64]⟩
abbrev S_ : Shape := ⟨0, ![]⟩
abbrev S4096x16 : Shape := ⟨2, ![4096, 16]⟩
abbrev S4096x112 : Shape := ⟨2, ![4096, 112]⟩
abbrev S4096x128 : Shape := ⟨2, ![4096, 128]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S4096x1024, .f32⟩
  | .hbm, ⟨3, _⟩ => ⟨S1024x1024, .bf16⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x16x64, .f32⟩
  | .hbm, ⟨10, _⟩ => ⟨S_, .f32⟩
  | .hbm, ⟨11, _⟩ => ⟨S4096x16, .f32⟩
  | .hbm, ⟨12, _⟩ => ⟨S_, .f32⟩
  | .hbm, ⟨13, _⟩ => ⟨S4096x112, .f32⟩
  | .hbm, ⟨14, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel11.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S2048x512 : Shape := ⟨2, ![2048, 512]⟩
abbrev S1x2048x1024 : Shape := ⟨3, ![1, 2048, 1024]⟩
abbrev S1x512x1024 : Shape := ⟨3, ![1, 512, 1024]⟩
abbrev S512x1024 : Shape := ⟨2, ![512, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x4096x1024, .bf16⟩
  | .hbm, ⟨3, _⟩ => ⟨S1x1024x1024, .f32⟩
  | .hbm, ⟨4, _⟩ => ⟨S1x1024x1024, .bf16⟩
  | .local _ .vmem, ⟨0, _⟩ => ⟨S2048x512, .f32⟩
  | .local _ .vmem, ⟨1, _⟩ => ⟨S2048x512, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .bf16⟩
  | .local _ .vmem, ⟨7, _⟩ => ⟨S1x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1x1024x1024, .f32⟩
  | .hbm, ⟨9, _⟩ => ⟨S1x1024x1024, .f32⟩
  | .hbm, ⟨10, _⟩ => ⟨S1x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x2048 : Shape := ⟨2, ![4096, 2048]⟩
abbrev S1x1x1024x2048 : Shape := ⟨4, ![1, 1, 1024, 2048]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1x1x1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x2048 : Shape := ⟨2, ![4096, 2048]⟩
abbrev S1x1x1024x2048 : Shape := ⟨4, ![1, 1, 1024, 2048]⟩
abbrev S_ : Shape := ⟨0, ![]⟩
abbrev S4096x1024 : Shape := ⟨2, ![4096, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x1x1024x2048, .bf16⟩
  | .hbm, ⟨2, _⟩ => ⟨S_, .f32⟩
  | .hbm, ⟨3, _⟩ => ⟨S4096x1024, .f32⟩
  | .hbm, ⟨4, _⟩ => ⟨S1024x2048, .bf16⟩
  | .hbm, ⟨5, _⟩ => ⟨S1024x2048, .f32⟩
  | .hbm, ⟨6, _⟩ => ⟨S4096x2048, .f32⟩
  | .hbm, ⟨7, _⟩ => ⟨S4096x2048, .f32⟩
  | .hbm, ⟨8, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S4096x2048 : Shape := ⟨2, ![4096, 2048]⟩
abbrev S1x4096x2048 : Shape := ⟨3, ![1, 4096, 2048]⟩
abbrev S1x1024x2048 : Shape := ⟨3, ![1, 1024, 2048]⟩
abbrev S2048x512 : Shape := ⟨2, ![2048, 512]⟩
abbrev S1x2048x2048 : Shape := ⟨3, ![1, 2048, 2048]⟩
abbrev S1x512x2048 : Shape := ⟨3, ![1, 512, 2048]⟩
abbrev S512x2048 : Shape := ⟨2, ![512, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1x4096x2048, .bf16⟩
  | .hbm, ⟨3, _⟩ => ⟨S1x1024x2048, .f32⟩
  | .local _ .vmem, ⟨0, _⟩ => ⟨S2048x512, .bf16⟩
  | .local _ .vmem, ⟨1, _⟩ => ⟨S2048x512, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x512x2048, .f32⟩
  | .local _ .vmem, ⟨5, _⟩ => ⟨S1x512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1x1024x2048 : Shape := ⟨3, ![1, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1x1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x1024 : Shape := ⟨2, ![4096, 1024]⟩
abbrev S4x1x1024x1408 : Shape := ⟨4, ![4, 1, 1024, 1408]⟩
abbrev S4096x5632 : Shape := ⟨2, ![4096, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x1408, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x1408, .bf16⟩
  | .hbm, ⟨2, _⟩ => ⟨S4096x1024, .f32⟩
  | .hbm, ⟨3, _⟩ => ⟨S4x1024x1408, .bf16⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S4096x2816 : Shape := ⟨2, ![4096, 2816]⟩
abbrev S1x1x2816x1024 : Shape := ⟨4, ![1, 1, 2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S1x1x2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S1x1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== Reference15Ideal.lean ====
abbrev S4096x2816 : Shape := ⟨2, ![4096, 2816]⟩
abbrev S1x1x2816x1024 : Shape := ⟨4, ![1, 1, 2816, 1024]⟩
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x1x2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel16.lean ====
abbrev S4096x1024 : Shape := ⟨2, ![4096, 1024]⟩
abbrev S4x1x1024x512 : Shape := ⟨4, ![4, 1, 1024, 512]⟩
abbrev S1x1024 : Shape := ⟨2, ![1, 1024]⟩
abbrev S4x1024x512 : Shape := ⟨3, ![4, 1024, 512]⟩
abbrev S1024x4x512 : Shape := ⟨3, ![1024, 4, 512]⟩
abbrev S1x1x1024x2048 : Shape := ⟨4, ![1, 1, 1024, 2048]⟩
abbrev S4096x2048 : Shape := ⟨2, ![4096, 2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x512, .bf16⟩
  | .hbm, ⟨2, _⟩ => ⟨S4096x1024, .f32⟩
  | .hbm, ⟨3, _⟩ => ⟨S1x1024, .f32⟩
  | .hbm, ⟨4, _⟩ => ⟨S4x1024x512, .bf16⟩
  | .hbm, ⟨5, _⟩ => ⟨S1024x4x512, .bf16⟩
  | .hbm, ⟨6, _⟩ => ⟨S1x1x1024x2048, .bf16⟩
  | .hbm, ⟨7, _⟩ => ⟨S4096x2048, .f32⟩
  | .hbm, ⟨8, _⟩ => ⟨S4096x1024, .f32⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x2048, .f32⟩
  | .local _ .vmem, ⟨7, _⟩ => ⟨S512x2048, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference16Ideal.lean ====
abbrev S4096x1024 : Shape := ⟨2, ![4096, 1024]⟩
abbrev S4x1x1024x512 : Shape := ⟨4, ![4, 1, 1024, 512]⟩
abbrev S1x1024 : Shape := ⟨2, ![1, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x512, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4x1024x512, .bf16⟩
  | .hbm, ⟨6, _⟩ => ⟨S4x1024x512, .f32⟩
  | .hbm, ⟨7, _⟩ => ⟨S1024x4x512, .f32⟩
  | .hbm, ⟨8, _⟩ => ⟨S1024x2048, .f32⟩
  | .hbm, ⟨9, _⟩ => ⟨S4096x2048, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel17.lean ====
abbrev S4096x1024 : Shape := ⟨2, ![4096, 1024]⟩
abbrev S1x1x1024x1024 : Shape := ⟨4, ![1, 1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x1024 : Shape := ⟨2, ![4096, 1024]⟩
abbrev S1x1x1024x1024 : Shape := ⟨4, ![1, 1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x1024, .bf16⟩
  | .hbm, ⟨2, _⟩ => ⟨S4096x1024, .f32⟩
  | .hbm, ⟨3, _⟩ => ⟨S1024x1024, .bf16⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4096x1024 : Shape := ⟨2, ![4096, 1024]⟩
abbrev S1x1x1024x1024 : Shape := ⟨4, ![1, 1, 1024, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== Reference18Ideal.lean ====
abbrev S4096x1024 : Shape := ⟨2, ![4096, 1024]⟩
abbrev S1x1x1024x1024 : Shape := ⟨4, ![1, 1, 1024, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1x1024x1024, .bf16⟩
  | .hbm, ⟨2, _⟩ => ⟨S4096x1024, .f32⟩
  | .hbm, ⟨3, _⟩ => ⟨S1x1024, .f32⟩
  | .hbm, ⟨4, _⟩ => ⟨S1024x1024, .bf16⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel19.lean ====
abbrev S4096x1024 : Shape := ⟨2, ![4096, 1024]⟩
abbrev S1x1x1024x2048 : Shape := ⟨4, ![1, 1, 1024, 2048]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x2048, .bf16⟩
  | .local _ .vmem, ⟨3, _⟩ => ⟨S1024x2048, .bf16⟩
  | .local _ .vmem, ⟨4, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4096x1024 : Shape := ⟨2, ![4096, 1024]⟩
abbrev S1x1x1024x2048 : Shape := ⟨4, ![1, 1, 1024, 2048]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x2048, .bf16⟩
  | .hbm, ⟨2, _⟩ => ⟨S4096x1024, .f32⟩
  | .hbm, ⟨3, _⟩ => ⟨S1024x2048, .bf16⟩
  | .hbm, ⟨4, _⟩ => ⟨S1024x2048, .f32⟩
  | .hbm, ⟨5, _⟩ => ⟨S4096x2048, .f32⟩
  | .hbm, ⟨6, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S4096x2816 : Shape := ⟨2, ![4096, 2816]⟩
abbrev S1x1x2816x1024 : Shape := ⟨4, ![1, 1, 2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S1x1x2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== Reference20Ideal.lean ====
abbrev S4096x2816 : Shape := ⟨2, ![4096, 2816]⟩
abbrev S1x1x2816x1024 : Shape := ⟨4, ![1, 1, 2816, 1024]⟩
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x1x2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel21.lean ====
abbrev S4096x2816 : Shape := ⟨2, ![4096, 2816]⟩
abbrev S1x1x2816x1024 : Shape := ⟨4, ![1, 1, 2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S1x1x2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S1x1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== Reference21Ideal.lean ====
abbrev S4096x2816 : Shape := ⟨2, ![4096, 2816]⟩
abbrev S1x1x2816x1024 : Shape := ⟨4, ![1, 1, 2816, 1024]⟩
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x1x2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2816, .f32⟩
  | .hbm, ⟨6, _⟩ => ⟨S2816x1024, .bf16⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel22.lean ====
abbrev S4096x2816 : Shape := ⟨2, ![4096, 2816]⟩
abbrev S1x1x2816x1024 : Shape := ⟨4, ![1, 1, 2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S1x1x2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x128, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1x1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference22Ideal.lean ====
abbrev S4096x2816 : Shape := ⟨2, ![4096, 2816]⟩
abbrev S1x1x2816x1024 : Shape := ⟨4, ![1, 1, 2816, 1024]⟩
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x1x2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .bf16⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .bf16⟩
  | .hbm, ⟨76, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel23.lean ====
abbrev S4096x1024 : Shape := ⟨2, ![4096, 1024]⟩
abbrev S1x1x1024x1024 : Shape := ⟨4, ![1, 1, 1024, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1x1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference23Ideal.lean ====
abbrev S4096x1024 : Shape := ⟨2, ![4096, 1024]⟩
abbrev S1x1x1024x1024 : Shape := ⟨4, ![1, 1, 1024, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1x1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S1024x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_15 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Kernel24.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference24Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel25.lean ====
abbrev S4096x2048 : Shape := ⟨2, ![4096, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S4096x2048 : Shape := ⟨2, ![4096, 2048]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2048, .f32⟩
  | .hbm, ⟨21, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel26.lean ====
abbrev S4096x128 : Shape := ⟨2, ![4096, 128]⟩
abbrev S1x128 : Shape := ⟨2, ![1, 128]⟩
abbrev S256x128 : Shape := ⟨2, ![256, 128]⟩
abbrev S256x256 : Shape := ⟨2, ![256, 256]⟩
abbrev S128 : Shape := ⟨1, ![128]⟩

abbrev nBuf : Space → Nat
  | .hbm => 5
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S1x128, .f32⟩
  | .hbm, ⟨3, _⟩ => ⟨S4096x128, .bf16⟩
  | .hbm, ⟨4, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S256x128, .bf16⟩
  | .local _ .vmem, ⟨6, _⟩ => ⟨S256x128, .bf16⟩
  | .local _ .vmem, ⟨7, _⟩ => ⟨S1x128, .f32⟩
  | .local _ .vmem, ⟨8, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference26Ideal.lean ====
abbrev S4096x128 : Shape := ⟨2, ![4096, 128]⟩
abbrev S1x128 : Shape := ⟨2, ![1, 128]⟩
abbrev S_ : Shape := ⟨0, ![]⟩
abbrev S128 : Shape := ⟨1, ![128]⟩

abbrev nBuf : Space → Nat
  | .hbm => 66
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S1x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .i1⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S4096x128, .f32⟩
  | .hbm, ⟨22, _⟩ => ⟨S4096x128, .i1⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x128, .f32⟩
  | .hbm, ⟨28, _⟩ => ⟨S4096x128, .i1⟩
  | .hbm, ⟨29, _⟩ => ⟨S_, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x128, .f32⟩
  | .hbm, ⟨42, _⟩ => ⟨S4096x128, .i1⟩
  | .hbm, ⟨43, _⟩ => ⟨S_, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S_, .f32⟩
  | .hbm, ⟨50, _⟩ => ⟨S4096x128, .f32⟩
  | .hbm, ⟨51, _⟩ => ⟨S4096x128, .f32⟩
  | .hbm, ⟨52, _⟩ => ⟨S4096x128, .f32⟩
  | .hbm, ⟨53, _⟩ => ⟨S_, .f32⟩
  | .hbm, ⟨54, _⟩ => ⟨S_, .f32⟩
  | .hbm, ⟨55, _⟩ => ⟨S4096x128, .f32⟩
  | .hbm, ⟨56, _⟩ => ⟨S_, .f32⟩
  | .hbm, ⟨57, _⟩ => ⟨S_, .f32⟩
  | .hbm, ⟨58, _⟩ => ⟨S4096x128, .f32⟩
  | .hbm, ⟨59, _⟩ => ⟨S4096x128, .f32⟩
  | .hbm, ⟨60, _⟩ => ⟨S4096x128, .f32⟩
  | .hbm, ⟨61, _⟩ => ⟨S4096x128, .f32⟩
  | .hbm, ⟨62, _⟩ => ⟨S_, .f32⟩
  | .hbm, ⟨63, _⟩ => ⟨S128, .f32⟩
  | .hbm, ⟨64, _⟩ => ⟨S1x128, .f32⟩
  | .hbm, ⟨65, _⟩ => ⟨S4096x128, .bf16⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩

abbrev nD : Nat := 1
abbrev τ : Topo := Topo.v7x

variable {F : FTy → Type} [FloatOps F]
-- ==== Kernel27.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S256x1408 : Shape := ⟨2, ![256, 1408]⟩
abbrev S3x1408 : Shape := ⟨2, ![3, 1408]⟩
abbrev S1x1408 : Shape := ⟨2, ![1, 1408]⟩
abbrev S8x1408 : Shape := ⟨2, ![8, 1408]⟩
abbrev S264x1408 : Shape := ⟨2, ![264, 1408]⟩

abbrev nBuf : Space → Nat
  | .hbm => 4
  | .vmem => 16
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .bf16⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | .local _ .vmem, ⟨8, _⟩ => ⟨S1x1408, .f32⟩
  | .local _ .vmem, ⟨9, _⟩ => ⟨S1x1408, .f32⟩
  | .local _ .vmem, ⟨10, _⟩ => ⟨S1x1408, .f32⟩
  | .local _ .vmem, ⟨11, _⟩ => ⟨S1x1408, .f32⟩
  | .local _ .vmem, ⟨12, _⟩ => ⟨S256x1408, .bf16⟩
  | .local _ .vmem, ⟨13, _⟩ => ⟨S256x1408, .bf16⟩
  | .local _ .vmem, ⟨14, _⟩ => ⟨S8x1408, .f32⟩
  | .local _ .vmem, ⟨15, _⟩ => ⟨S8x1408, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference27Ideal.lean ====
abbrev S4096x5632 : Shape := ⟨2, ![4096, 5632]⟩
abbrev S3x5632 : Shape := ⟨2, ![3, 5632]⟩
abbrev S1x5632 : Shape := ⟨2, ![1, 5632]⟩
abbrev S5632 : Shape := ⟨1, ![5632]⟩
abbrev S_ : Shape := ⟨0, ![]⟩
abbrev S2x5632 : Shape := ⟨2, ![2, 5632]⟩
abbrev S4098x5632 : Shape := ⟨2, ![4098, 5632]⟩
abbrev S4096x2816 : Shape := ⟨2, ![4096, 2816]⟩

abbrev nBuf : Space → Nat
  | .hbm => 43
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S5632, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S4096x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S4096x5632, .f32⟩
  | .hbm, ⟨12, _⟩ => ⟨S4096x5632, .f32⟩
  | .hbm, ⟨13, _⟩ => ⟨S1x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel28.lean ====
abbrev S4096x1024 : Shape := ⟨2, ![4096, 1024]⟩
abbrev S1x1x1024x128 : Shape := ⟨4, ![1, 1, 1024, 128]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S4096x1024 : Shape := ⟨2, ![4096, 1024]⟩
abbrev S1x1x1024x128 : Shape := ⟨4, ![1, 1, 1024, 128]⟩
abbrev S1024x128 : Shape := ⟨2, ![1024, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1x1024x128, .bf16⟩
  | .hbm, ⟨2, _⟩ => ⟨S4096x1024, .f32⟩
  | .hbm, ⟨3, _⟩ => ⟨S1024x128, .bf16⟩
  | .hbm, ⟨4, _⟩ => ⟨S1024x128, .f32⟩
  | .hbm, ⟨5, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel29.lean ====
abbrev S4096x128 : Shape := ⟨2, ![4096, 128]⟩
abbrev S1x1x1024x128 : Shape := ⟨4, ![1, 1, 1024, 128]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S1x1x1024x128, .bf16⟩
  | .hbm, ⟨2, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S1x1x1024x128, .bf16⟩
  | .local _ .vmem, ⟨3, _⟩ => ⟨S1024x1024, .f32⟩
  | .local _ .vmem, ⟨4, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference29Ideal.lean ====
abbrev S4096x128 : Shape := ⟨2, ![4096, 128]⟩
abbrev S1x1x1024x128 : Shape := ⟨4, ![1, 1, 1024, 128]⟩
abbrev S_ : Shape := ⟨0, ![]⟩
abbrev S4096x1024 : Shape := ⟨2, ![4096, 1024]⟩
abbrev S1024x128 : Shape := ⟨2, ![1024, 128]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S1x1x1024x128, .bf16⟩
  | .hbm, ⟨2, _⟩ => ⟨S_, .f32⟩
  | .hbm, ⟨3, _⟩ => ⟨S4096x1024, .f32⟩
  | .hbm, ⟨4, _⟩ => ⟨S1024x128, .bf16⟩
  | .hbm, ⟨5, _⟩ => ⟨S1024x128, .f32⟩
  | .hbm, ⟨6, _⟩ => ⟨S4096x128, .f32⟩
  | .hbm, ⟨7, _⟩ => ⟨S4096x128, .f32⟩
  | .hbm, ⟨8, _⟩ => ⟨S4096x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel30.lean ====
abbrev S4096x1024 : Shape := ⟨2, ![4096, 1024]⟩
abbrev S4096x128 : Shape := ⟨2, ![4096, 128]⟩
abbrev S1x4096x128 : Shape := ⟨3, ![1, 4096, 128]⟩
abbrev S1x1024x128 : Shape := ⟨3, ![1, 1024, 128]⟩
abbrev S4096x512 : Shape := ⟨2, ![4096, 512]⟩
abbrev S1x512x128 : Shape := ⟨3, ![1, 512, 128]⟩
abbrev S512x128 : Shape := ⟨2, ![512, 128]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1x4096x128, .bf16⟩
  | .hbm, ⟨3, _⟩ => ⟨S1x1024x128, .f32⟩
  | .local _ .vmem, ⟨0, _⟩ => ⟨S4096x512, .bf16⟩
  | .local _ .vmem, ⟨1, _⟩ => ⟨S4096x512, .bf16⟩
  | .local _ .vmem, ⟨2, _⟩ => ⟨S1x4096x128, .bf16⟩
  | .local _ .vmem, ⟨3, _⟩ => ⟨S1x512x128, .f32⟩
  | .local _ .vmem, ⟨4, _⟩ => ⟨S1x512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩
abbrev S1x1024x128 : Shape := ⟨3, ![1, 1024, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | .hbm, ⟨9, _⟩ => ⟨S1x1024x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel31.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference31Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel32.lean ====
abbrev S4096x1024 : Shape := ⟨2, ![4096, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .bf16⟩
  | .local _ .vmem, ⟨9, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S4096x1024 : Shape := ⟨2, ![4096, 1024]⟩
abbrev S_ : Shape := ⟨0, ![]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x2048, .f32⟩
  | .hbm, ⟨11, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel33.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference34Ideal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S2048x512 : Shape := ⟨2, ![2048, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference35Ideal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference36Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S1024x516 : Shape := ⟨2, ![1024, 516]⟩
abbrev S512x516 : Shape := ⟨2, ![512, 516]⟩

abbrev nBuf : Space → Nat
  | .hbm => 7
  | .vmem => 14
  | .smem => 0
  | _ => 0

abbrev bufTy : (tb : Table) → Fin (tcTables nBuf tb) → BufTy
  | .hbm, ⟨0, _⟩ => ⟨S1024x516, .f32⟩
  | .hbm, ⟨1, _⟩ => ⟨S1024x516, .f32⟩
  | .hbm, ⟨2, _⟩ => ⟨S1024x516, .f32⟩
  | .hbm, ⟨3, _⟩ => ⟨S1024x516, .f32⟩
  | .hbm, ⟨4, _⟩ => ⟨S1024x516, .f32⟩
  | .hbm, ⟨5, _⟩ => ⟨S1024x516, .f32⟩
  | .hbm, ⟨6, _⟩ => ⟨S1024x516, .f32⟩
  | .local _ .vmem, ⟨0, _⟩ => ⟨S512x516, .f32⟩
  | .local _ .vmem, ⟨1, _⟩ => ⟨S512x516, .f32⟩
  | .local _ .vmem, ⟨2, _⟩ => ⟨S512x516, .f32⟩
  | .local _ .vmem, ⟨3, _⟩ => ⟨S512x516, .f32⟩
  | .local _ .vmem, ⟨4, _⟩ => ⟨S512x516, .f32⟩
  | .local _ .vmem, ⟨5, _⟩ => ⟨S512x516, .f32⟩
  | .local _ .vmem, ⟨6, _⟩ => ⟨S512x516, .f32⟩
  | .local _ .vmem, ⟨7, _⟩ => ⟨S512x516, .f32⟩
  | .local _ .vmem, ⟨8, _⟩ => ⟨S512x516, .f32⟩
  | .local _ .vmem, ⟨9, _⟩ => ⟨S512x516, .f32⟩
  | .local _ .vmem, ⟨10, _⟩ => ⟨S512x516, .f32⟩
  | .local _ .vmem, ⟨11, _⟩ => ⟨S512x516, .f32⟩
  | .local _ .vmem, ⟨12, _⟩ => ⟨S512x516, .f32⟩
  | .local _ .vmem, ⟨13, _⟩ => ⟨S512x516, .f32⟩
  | _, _ => ⟨S1024x516, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x516 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x516 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x516 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x516 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x516 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x516 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x516 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference37Ideal.lean ====
abbrev S1024x516 : Shape := ⟨2, ![1024, 516]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x516, .f32⟩
  | .hbm, ⟨1, _⟩ => ⟨S1024x516, .f32⟩
  | .hbm, ⟨2, _⟩ => ⟨S1024x516, .f32⟩
  | .hbm, ⟨3, _⟩ => ⟨S1024x516, .f32⟩
  | .hbm, ⟨4, _⟩ => ⟨S_, .f32⟩
  | .hbm, ⟨5, _⟩ => ⟨S1024x516, .f32⟩
  | .hbm, ⟨6, _⟩ => ⟨S1024x516, .f32⟩
  | .hbm, ⟨7, _⟩ => ⟨S_, .f32⟩
  | .hbm, ⟨8, _⟩ => ⟨S1024x516, .f32⟩
  | .hbm, ⟨9, _⟩ => ⟨S1024x516, .f32⟩
  | .hbm, ⟨10, _⟩ => ⟨S1024x516, .f32⟩
  | .hbm, ⟨11, _⟩ => ⟨S_, .f32⟩
  | .hbm, ⟨12, _⟩ => ⟨S1024x516, .f32⟩
  | .hbm, ⟨13, _⟩ => ⟨S1024x516, .f32⟩
  | .hbm, ⟨14, _⟩ => ⟨S1024x516, .f32⟩
  | .hbm, ⟨15, _⟩ => ⟨S_, .f32⟩
  | .hbm, ⟨16, _⟩ => ⟨S1024x516, .f32⟩
  | .hbm, ⟨17, _⟩ => ⟨S1024x516, .f32⟩
  | .hbm, ⟨18, _⟩ => ⟨S1024x516, .f32⟩
  | .hbm, ⟨19, _⟩ => ⟨S_, .f32⟩
  | .hbm, ⟨20, _⟩ => ⟨S1024x516, .f32⟩
  | .hbm, ⟨21, _⟩ => ⟨S1024x516, .f32⟩
  | .hbm, ⟨22, _⟩ => ⟨S_, .f32⟩
  | .hbm, ⟨23, _⟩ => ⟨S1024x516, .f32⟩
  | .hbm, ⟨24, _⟩ => ⟨S1024x516, .f32⟩
  | .hbm, ⟨25, _⟩ => ⟨S1024x516, .f32⟩
  | .hbm, ⟨26, _⟩ => ⟨S_, .f32⟩
  | .hbm, ⟨27, _⟩ => ⟨S1024x516, .f32⟩
  | .hbm, ⟨28, _⟩ => ⟨S1024x516, .f32⟩
  | .hbm, ⟨29, _⟩ => ⟨S1024x516, .f32⟩
  | .hbm, ⟨30, _⟩ => ⟨S_, .f32⟩
  | .hbm, ⟨31, _⟩ => ⟨S1024x516, .f32⟩
  | .hbm, ⟨32, _⟩ => ⟨S1024x516, .f32⟩
  | .hbm, ⟨33, _⟩ => ⟨S1024x516, .f32⟩
  | .hbm, ⟨34, _⟩ => ⟨S_, .f32⟩
  | .hbm, ⟨35, _⟩ => ⟨S1024x516, .f32⟩
  | .hbm, ⟨36, _⟩ => ⟨S1024x516, .f32⟩
  | _, _ => ⟨S1024x516, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.ConvFrame.lean ====
/- The frame run of the idealized gradient kernel of the causal convolution and its gate, with what every output block
   and both carried scratch rows hold after each grid point named (`outsAt0`). The text is the generated frame module's,
   copied because the two equations `outsAt0_A` and `outsAt0_B` are proved here by rewriting with the recursion's own
   equation; everything else stands as generated. -/
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 9 tile its block (2 stores of `S1x256x1408`, checked by the kernel's evaluation: Lib/Ring.lean `Piece.tiledL`, linear in the pieces, through a loop's `@[irreducible]` trip theorem too), so they cover it. -/
theorem cover0_A_9 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (y : S2x256x1408.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1 S1x256x1408.size (by sl_kernel_rfl) y

/-- What case A leaves in output 9's staging buffer: its pieces read back over junk. -/
def out0_A_9 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) : Vec F S2x256x1408 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1)

/-- Case A's pieces for output 10 are of SEVERAL sizes (3 stores of `S1x3x1408`, `S2x3x1408`): cut into blocks of `![1, 3, 1408]` they tile its block (checked by the kernel's evaluation: Lib/Ring.lean `Piece.tiledBy`), so they cover it. -/
theorem cover0_A_10 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (y : S2x3x1408.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1 ![1, 3, 1408] (by sl_kernel_rfl) y

/-- What case A leaves in output 10's staging buffer: its pieces read back over junk. -/
def out0_A_10 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) : Vec F S2x3x1408 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1)

/-- Case A's pieces for output 11 are of SEVERAL sizes (3 stores of `S1x1x1408`, `S2x1x1408`): cut into blocks of `![1, 1, 1408]` they tile its block (checked by the kernel's evaluation: Lib/Ring.lean `Piece.tiledBy`), so they cover it. -/
theorem cover0_A_11 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (y : S2x1x1408.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1 ![1, 1, 1408] (by sl_kernel_rfl) y

/-- What case A leaves in output 11's staging buffer: its pieces read back over junk. -/
def out0_A_11 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) : Vec F S2x1x1408 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1)

/-- Case A's pieces for scratch `arg14`, which the kernel carries between points, cover it: 2 pieces of `S8x1408` tiling it (Lib/Ring.lean `Piece.tiledL`). -/
theorem scover0_A_0 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (y : S8x1408.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1 S8x1408.size (by sl_kernel_rfl) y

/-- What case A leaves in scratch `arg14`: its pieces read back over junk. -/
def sout0_A_0 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) : Vec F S8x1408 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1)

/-- Case A's pieces for scratch `arg15`, which the kernel carries between points, cover it: 2 pieces of `S8x1408` tiling it (Lib/Ring.lean `Piece.tiledL`). -/
theorem scover0_A_1 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (y : S8x1408.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.1 S8x1408.size (by sl_kernel_rfl) y

/-- What case A leaves in scratch `arg15`: its pieces read back over junk. -/
def sout0_A_1 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) : Vec F S8x1408 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.1)

/-- Case B's pieces for output 9 tile its block (2 stores of `S1x256x1408`, checked by the kernel's evaluation: Lib/Ring.lean `Piece.tiledL`, linear in the pieces, through a loop's `@[irreducible]` trip theorem too), so they cover it. -/
theorem cover0_B_9 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : ¬cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (xo10 : Vec F S2x3x1408 .f32) (xo11 : Vec F S2x1x1408 .f32) (xs0 : Vec F S8x1408 .f32) (xs1 : Vec F S8x1408 .f32) (y : S2x256x1408.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).1 S1x256x1408.size (by sl_kernel_rfl) y

/-- What case B leaves in output 9's staging buffer: its pieces read back over junk. -/
def out0_B_9 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : ¬cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (xo10 : Vec F S2x3x1408 .f32) (xo11 : Vec F S2x1x1408 .f32) (xs0 : Vec F S8x1408 .f32) (xs1 : Vec F S8x1408 .f32) : Vec F S2x256x1408 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).1)

/-- Case B's pieces for output 10 tile its block (2 stores of `S1x3x1408`, checked by the kernel's evaluation: Lib/Ring.lean `Piece.tiledL`, linear in the pieces, through a loop's `@[irreducible]` trip theorem too), so they cover it. -/
theorem cover0_B_10 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : ¬cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (xo10 : Vec F S2x3x1408 .f32) (xo11 : Vec F S2x1x1408 .f32) (xs0 : Vec F S8x1408 .f32) (xs1 : Vec F S8x1408 .f32) (y : S2x3x1408.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).2.1 S1x3x1408.size (by sl_kernel_rfl) y

/-- What case B leaves in output 10's staging buffer: its pieces read back over junk. -/
def out0_B_10 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : ¬cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (xo10 : Vec F S2x3x1408 .f32) (xo11 : Vec F S2x1x1408 .f32) (xs0 : Vec F S8x1408 .f32) (xs1 : Vec F S8x1408 .f32) : Vec F S2x3x1408 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).2.1)

/-- Case B's pieces for output 11 tile its block (2 stores of `S1x1x1408`, checked by the kernel's evaluation: Lib/Ring.lean `Piece.tiledL`, linear in the pieces, through a loop's `@[irreducible]` trip theorem too), so they cover it. -/
theorem cover0_B_11 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : ¬cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (xo10 : Vec F S2x3x1408 .f32) (xo11 : Vec F S2x1x1408 .f32) (xs0 : Vec F S8x1408 .f32) (xs1 : Vec F S8x1408 .f32) (y : S2x1x1408.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).2.2.1 S1x1x1408.size (by sl_kernel_rfl) y

/-- What case B leaves in output 11's staging buffer: its pieces read back over junk. -/
def out0_B_11 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : ¬cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (xo10 : Vec F S2x3x1408 .f32) (xo11 : Vec F S2x1x1408 .f32) (xs0 : Vec F S8x1408 .f32) (xs1 : Vec F S8x1408 .f32) : Vec F S2x1x1408 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).2.2.1)

/-- Case B's pieces for scratch `arg14`, which the kernel carries between points, cover it: 1 piece of `S8x1408` tiling it (Lib/Ring.lean `Piece.tiledL`). -/
theorem scover0_B_0 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : ¬cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (xo10 : Vec F S2x3x1408 .f32) (xo11 : Vec F S2x1x1408 .f32) (xs0 : Vec F S8x1408 .f32) (xs1 : Vec F S8x1408 .f32) (y : S8x1408.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).2.2.2.1 S8x1408.size (by sl_kernel_rfl) y

/-- What case B leaves in scratch `arg14`: its pieces read back over junk. -/
def sout0_B_0 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : ¬cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (xo10 : Vec F S2x3x1408 .f32) (xo11 : Vec F S2x1x1408 .f32) (xs0 : Vec F S8x1408 .f32) (xs1 : Vec F S8x1408 .f32) : Vec F S8x1408 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).2.2.2.1)

/-- Case B's pieces for scratch `arg15`, which the kernel carries between points, cover it: 1 piece of `S8x1408` tiling it (Lib/Ring.lean `Piece.tiledL`). -/
theorem scover0_B_1 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : ¬cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (xo10 : Vec F S2x3x1408 .f32) (xo11 : Vec F S2x1x1408 .f32) (xs0 : Vec F S8x1408 .f32) (xs1 : Vec F S8x1408 .f32) (y : S8x1408.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).2.2.2.2.1 S8x1408.size (by sl_kernel_rfl) y

/-- What case B leaves in scratch `arg15`: its pieces read back over junk. -/
def sout0_B_1 (c : Dev nD) (i : grid0.Coords) (arg2 : Memref sig .tc .vmem S256x1408 .f32) (harg2 : arg2.IsWhole) (arg3 : Memref sig .tc .vmem S8x1408 .f32) (harg3 : arg3.IsWhole) (arg4 : Memref sig .tc .vmem S256x1408 .f32) (harg4 : arg4.IsWhole) (arg5 : Memref sig .tc .vmem S8x1408 .f32) (harg5 : arg5.IsWhole) (arg6 : Memref sig .tc .vmem S256x1408 .f32) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S2x256x1408 .bf16) (harg11 : arg11.IsWhole) (arg12 : Memref sig .tc .vmem S2x3x1408 .f32) (harg12 : arg12.IsWhole) (arg13 : Memref sig .tc .vmem S2x1x1408 .f32) (harg13 : arg13.IsWhole) (arg14 : Memref sig .tc .vmem S8x1408 .f32) (harg14 : arg14.IsWhole) (arg15 : Memref sig .tc .vmem S8x1408 .f32) (harg15 : arg15.IsWhole) (hc0 : ¬cond0_0 i)
    (x0 : Vec F S256x1408 .f32) (x1 : Vec F S8x1408 .f32) (x2 : Vec F S256x1408 .f32) (x3 : Vec F S8x1408 .f32) (x4 : Vec F S256x1408 .f32) (x5 : Vec F S3x1408 .f32) (x6 : Vec F S3x1408 .f32) (x7 : Vec F S1x1408 .f32) (x8 : Vec F S1x1408 .f32) (xo10 : Vec F S2x3x1408 .f32) (xo11 : Vec F S2x1x1408 .f32) (xs0 : Vec F S8x1408 .f32) (xs1 : Vec F S8x1408 .f32) : Vec F S8x1408 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xs0 xs1).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2x256x1408 .bf16 × Vec F S2x3x1408 .f32 × Vec F S2x1x1408 .f32 × Vec F S8x1408 .f32 × Vec F S8x1408 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 16 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 16 = 0) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => rw [outsAt0, dif_pos h0]

/-- `outsAt0` at a point of case B: that case's contents, over what the point before left. -/
theorem outsAt0_B (c : Dev nD) (t : Fin cfg0.N) (h0 : ¬t.val % 16 = 0) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => rw [outsAt0, dif_neg h0]; simp only [Nat.add_sub_cancel]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 16 = 0) (d) :
    (dats m 0 c).before 10 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case B output 11's current staging buffer holds what the body left at the point before: the point is
    not the first, the buffer was not written back between (`flush0_11`), the window is live and uncut (Lib/Pipeline/Frame.lean
    `Dat.before_out_kept`). -/
theorem before0_11_B (c : Dev nD) (t : Fin cfg0.N) (h0 : ¬t.val % 16 = 0) (d) :
    (dats m 0 c).before 11 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases hz : t.val = 0
    · rw [PhiS_castSucc m c t, PhiS_zero m c _ _ hz, PhiA0_eq]
      rw [outsAt0_A m c t h0]
      unfold out0_A_9 out0_A_10 out0_A_11 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_9 out0_A_10 out0_A_11 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexists _; iexact HS0
      isplitl [HS1]; · iexists _; iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_10_B m c t h0, before0_11_B m c t h0]
      unfold out0_B_9 out0_B_10 out0_B_11 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Planes.lean ====
/- Blocks of two planes: what a list of stores into a `2 × a × b` block leaves at an index, and what a load of one plane
   of such a block reads, plane by plane. -/
module

public import Idealize.ShloMosaic.Lib.Pointwise
public import Idealize.ShloMosaic.Lib.Pipeline.Value

@[expose] public section

noncomputable section

namespace Cert.Planes

open Idealize.ShloMosaic

variable {Val : EltTy → Type} [∀ e, Nonempty (Val e)] {e : EltTy} {a b : ℕ}

theorem zero2 : (![0, 0] : Fin 2 → ℕ) = fun _ => 0 := by decide
theorem zero3 : (![0, 0, 0] : Fin 3 → ℕ) = fun _ => 0 := by decide

/-- Where plane `p`'s rectangle puts the index `(0, y, x)`. -/
theorem emb_plane (p : Fin 2) (y : Fin a) (x : Fin b)
    (inb : ∀ i, (![p.val, 0, 0] : Fin 3 → ℕ) i + (⟨3, ![1, a, b]⟩ : Shape).size i ≤ (⟨3, ![2, a, b]⟩ : Shape).size i) :
    (Rect.unit (s := (⟨3, ![2, a, b]⟩ : Shape)) ![p.val, 0, 0] (⟨3, ![1, a, b]⟩ : Shape).size inb).emb (ix3 (0 : Fin 1) y x) = ix3 p y x := by
  funext i; apply Fin.ext
  fin_cases i
  · show p.val + 1 * 0 = p.val; omega
  · show 0 + 1 * y.val = y.val; omega
  · show 0 + 1 * x.val = x.val; omega

/-- The newest store is plane `p`'s: at plane `p` the block holds it. -/
theorem canon_plane (p : Fin 2) (y : Fin a) (x : Fin b)
    (inb : ∀ i, (![p.val, 0, 0] : Fin 3 → ℕ) i + (⟨3, ![1, a, b]⟩ : Shape).size i ≤ (⟨3, ![2, a, b]⟩ : Shape).size i)
    (w : (⟨3, ![1, a, b]⟩ : Shape).Idx → Val e) (L : List (View.Piece Val (⟨3, ![2, a, b]⟩ : Shape) e)) :
    View.canon ((⟨Rect.unit (s := (⟨3, ![2, a, b]⟩ : Shape)) ![p.val, 0, 0] (⟨3, ![1, a, b]⟩ : Shape).size inb, w⟩ :
        View.Piece Val (⟨3, ![2, a, b]⟩ : Shape) e) :: L) (ix3 p y x) = w (ix3 (0 : Fin 1) y x) := by
  rw [← emb_plane p y x inb]
  exact View.canon_cons_emb (Rect.unit (s := (⟨3, ![2, a, b]⟩ : Shape)) ![p.val, 0, 0] (⟨3, ![1, a, b]⟩ : Shape).size inb) w L _

/-- The newest store is the other plane's: the block holds what the earlier stores left. -/
theorem canon_plane_ne (p q : Fin 2) (hne : q ≠ p) (y : Fin a) (x : Fin b)
    (inb : ∀ i, (![q.val, 0, 0] : Fin 3 → ℕ) i + (⟨3, ![1, a, b]⟩ : Shape).size i ≤ (⟨3, ![2, a, b]⟩ : Shape).size i)
    (w : (⟨3, ![1, a, b]⟩ : Shape).Idx → Val e) (L : List (View.Piece Val (⟨3, ![2, a, b]⟩ : Shape) e)) :
    View.canon ((⟨Rect.unit (s := (⟨3, ![2, a, b]⟩ : Shape)) ![q.val, 0, 0] (⟨3, ![1, a, b]⟩ : Shape).size inb, w⟩ :
        View.Piece Val (⟨3, ![2, a, b]⟩ : Shape) e) :: L) (ix3 p y x) = View.canon L (ix3 p y x) := by
  refine View.canon_cons_of_not_mem _ L ?_
  intro hm
  obtain ⟨i, hi, he⟩ := (LoadRect.mem_set _).mp hm (0 : Fin 3)
  have hi1 : i < 1 := hi
  have he' : p.val = q.val + 1 * i := he
  have : q.val ≠ p.val := fun h => hne (Fin.ext h)
  omega

/-- A load of plane `p`, of what a list of stores left. -/
theorem readCov_plane {sig : RefSig} {κ : Kind} {sp : Space} (v : View sig κ sp (⟨3, ![2, a, b]⟩ : Shape) e) (p : Fin 2) (y : Fin a) (x : Fin b)
    (inb : ∀ i, (![p.val, 0, 0] : Fin 3 → ℕ) i + (⟨3, ![1, a, b]⟩ : Shape).size i ≤ (⟨3, ![2, a, b]⟩ : Shape).size i)
    (L : List (View.Piece Val (⟨3, ![2, a, b]⟩ : Shape) e)) :
    v.readCov L (Rect.unit (s := (⟨3, ![2, a, b]⟩ : Shape)) ![p.val, 0, 0] (⟨3, ![1, a, b]⟩ : Shape).size inb).toLoadRect (ix3 (0 : Fin 1) y x)
      = View.canon L (ix3 p y x) := by
  rw [View.readCov_eq_canon']
  exact congrArg (View.canon L) (emb_plane p y x inb)

/-- A load of plane `p` of a block. -/
theorem ld_plane (X : (⟨3, ![2, a, b]⟩ : Shape).Idx → Val e) (p : Fin 2) (y : Fin a) (x : Fin b)
    (inb : ∀ i, (![p.val, 0, 0] : Fin 3 → ℕ) i + (⟨3, ![1, a, b]⟩ : Shape).size i ≤ (⟨3, ![2, a, b]⟩ : Shape).size i) :
    View.ld X (Rect.unit (s := (⟨3, ![2, a, b]⟩ : Shape)) ![p.val, 0, 0] (⟨3, ![1, a, b]⟩ : Shape).size inb) (ix3 (0 : Fin 1) y x) = X (ix3 p y x) :=
  congrArg X (emb_plane p y x inb)

end Cert.Planes

end
-- ==== Proof.ConvOpen.lean ====
/- What each grid point of the convolution's gradient kernel leaves in its three output blocks and in its two carried
   scratch rows, plane by plane: the kernel's own payloads, of the blocks read at that point and of what the point
   before left (zeros at the first point of a column block). -/
module

public import proofs.«01_k».proof.Proof.ConvFrame
public import proofs.«01_k».proof.Proof.Planes

@[expose] public section

set_option maxRecDepth 16384

noncomputable section

namespace Cert.ConvGrad

open Idealize.ShloMosaic Idealize.ShloMosaic.TcCoe Idealize.ShloMosaic.Tactic
open Cert.KernelIdeal Cert.KernelIdeal.Gen Cert.Planes

variable {F : FTy → Type} [FloatOps F]
variable (m : (ℓ : Loc nD τ sig) → Buf (Elt F) ℓ) (c : Dev nD)

/-- The gate's convolution on the tile of point `t`. -/
def gateAt (t : Fin cfg0.N) : FVec F S256x1408 .f32 :=
  k0_pay11 (grid0.coords t) (iblk m c 0 t) (iblk m c 5 t) (iblk m c 1 t) (iblk m c 7 t)

/-- The up half's rows before the tile, zeroed at the top of the array. -/
def upHalo (t : Fin cfg0.N) : FVec F S8x1408 .f32 := k0_pay12 (grid0.coords t) (iblk m c 3 t)

/-- The gradient at the gate's convolution. -/
def dGate (t : Fin cfg0.N) : FVec F S256x1408 .f32 :=
  k0_pay18 (iblk m c 2 t) (iblk m c 6 t) (gateAt m c t) (upHalo m c t) (iblk m c 8 t) (iblk m c 4 t)

/-- The gate times its sigmoid. -/
def siluAt (t : Fin cfg0.N) : FVec F S256x1408 .f32 := k0_pay17 (gateAt m c t)

/-- The input gradient's plane 0 over the rows `n` that follow the tile. -/
def next9_0 (t : Fin cfg0.N) (n : Vec F S8x1408 .f32) : FVec F S1x256x1408 .bf16 :=
  k0_pay23 (iblk m c 5 t)
    (k0_pay20 (iblk m c 2 t) (iblk m c 6 t) (gateAt m c t) (upHalo m c t) (iblk m c 8 t) (iblk m c 4 t) n)
    (k0_pay21 (iblk m c 2 t) (iblk m c 6 t) (gateAt m c t) (upHalo m c t) (iblk m c 8 t) (iblk m c 4 t) n)
    (k0_pay22 (iblk m c 2 t) (iblk m c 5 t) (iblk m c 6 t) (gateAt m c t) (upHalo m c t) (iblk m c 8 t) (iblk m c 4 t))

/-- The input gradient's plane 1. -/
def next9_1 (t : Fin cfg0.N) (n : Vec F S8x1408 .f32) : FVec F S1x256x1408 .bf16 :=
  k0_pay29 (iblk m c 6 t) (siluAt m c t) (iblk m c 4 t) n

/-- The taps' gradient, plane 0, over what was summed before. -/
def next10_0 (t : Fin cfg0.N) (acc : Vec F S1x3x1408 .f32) : FVec F S1x3x1408 .f32 :=
  k0_pay25 (iblk m c 0 t) (k0_pay9 (grid0.coords t) (iblk m c 0 t) (iblk m c 1 t))
    (k0_pay10 (grid0.coords t) (iblk m c 0 t) (iblk m c 1 t)) (dGate m c t) acc

/-- The taps' gradient, plane 1. -/
def next10_1 (t : Fin cfg0.N) (acc : Vec F S1x3x1408 .f32) : FVec F S1x3x1408 .f32 :=
  k0_pay1 (k0_pay31 acc)
    (k0_pay32 (iblk m c 2 t) (k0_pay14 (iblk m c 2 t) (upHalo m c t)) (k0_pay15 (iblk m c 2 t) (upHalo m c t))
      (siluAt m c t) (iblk m c 4 t))

/-- The bias's gradient, plane 0. -/
def next11_0 (t : Fin cfg0.N) (acc : Vec F S1x1x1408 .f32) : FVec F S1x1x1408 .f32 :=
  k0_pay27 (k0_pay26 (dGate m c t) acc)

/-- The bias's gradient, plane 1. -/
def next11_1 (t : Fin cfg0.N) (acc : Vec F S1x1x1408 .f32) : FVec F S1x1x1408 .f32 :=
  k0_pay2 (k0_pay28 (siluAt m c t) (iblk m c 4 t)) acc

/-- At the first point of a column block: the input gradient's plane 0. -/
theorem out9_A_0 (t : Fin cfg0.N) (h0 : t.val % 16 = 0) (y : Fin 256) (x : Fin 1408) :
    (outsAt0 m c t.val t.isLt).1 (ix3 (0 : Fin 2) y x) = next9_0 m c t k0_pay3 (ix3 (0 : Fin 1) y x) := by
  rw [outsAt0_A m c t h0]
  dsimp only
  unfold out0_A_9
  rw [View.read_writes_eq_canon _ _ _ (fun _ => cover0_A_9 c ..)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  refine (canon_plane_ne 0 1 (by decide) y x _ _ _).trans ?_
  exact canon_plane 0 y x _ _ _

/-- At the first point of a column block: the input gradient's plane 1. -/
theorem out9_A_1 (t : Fin cfg0.N) (h0 : t.val % 16 = 0) (y : Fin 256) (x : Fin 1408) :
    (outsAt0 m c t.val t.isLt).1 (ix3 (1 : Fin 2) y x) = next9_1 m c t k0_pay4 (ix3 (0 : Fin 1) y x) := by
  rw [outsAt0_A m c t h0]
  dsimp only
  unfold out0_A_9
  rw [View.read_writes_eq_canon _ _ _ (fun _ => cover0_A_9 c ..)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  exact canon_plane 1 y x _ _ _

/-- At the first point of a column block: the taps' gradient, plane 0, over the sum so far. -/
theorem out10_A_0 (t : Fin cfg0.N) (h0 : t.val % 16 = 0) (y : Fin 3) (x : Fin 1408) :
    ∃ acc : Vec F S1x3x1408 .f32, (∀ (y' : Fin 3) (x' : Fin 1408), acc (ix3 (0 : Fin 1) y' x') = k0_pay5 (ix3 (0 : Fin 2) y' x')) ∧
      (outsAt0 m c t.val t.isLt).2.1 (ix3 (0 : Fin 2) y x) = next10_0 m c t acc (ix3 (0 : Fin 1) y x) := by
  rw [outsAt0_A m c t h0]
  dsimp only
  unfold out0_A_10
  rw [View.read_writes_eq_canon _ _ _ (fun _ => cover0_A_10 c ..)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  refine ⟨_, ?_, (canon_plane_ne 0 1 (by decide) y x _ _ _).trans (canon_plane 0 y x _ _ _)⟩
  intro y' x'
  refine (readCov_plane _ 0 y' x' _ _).trans ?_
  rw [View.canon_cons_unit_zero (S := S2x3x1408) zero3]

/-- At the first point of a column block: the taps' gradient, plane 1, over the sum so far. -/
theorem out10_A_1 (t : Fin cfg0.N) (h0 : t.val % 16 = 0) (y : Fin 3) (x : Fin 1408) :
    ∃ acc : Vec F S1x3x1408 .f32, (∀ (y' : Fin 3) (x' : Fin 1408), acc (ix3 (0 : Fin 1) y' x') = k0_pay5 (ix3 (1 : Fin 2) y' x')) ∧
      (outsAt0 m c t.val t.isLt).2.1 (ix3 (1 : Fin 2) y x) = next10_1 m c t acc (ix3 (0 : Fin 1) y x) := by
  rw [outsAt0_A m c t h0]
  dsimp only
  unfold out0_A_10
  rw [View.read_writes_eq_canon _ _ _ (fun _ => cover0_A_10 c ..)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  refine ⟨_, ?_, canon_plane 1 y x _ _ _⟩
  intro y' x'
  refine (readCov_plane _ 1 y' x' _ _).trans ?_
  refine (canon_plane_ne 1 0 (by decide) y' x' _ _ _).trans ?_
  rw [View.canon_cons_unit_zero (S := S2x3x1408) zero3]

/-- At the first point of a column block: the bias's gradient, plane 0, over the sum so far. -/
theorem out11_A_0 (t : Fin cfg0.N) (h0 : t.val % 16 = 0) (y : Fin 1) (x : Fin 1408) :
    ∃ acc : Vec F S1x1x1408 .f32, (∀ (y' : Fin 1) (x' : Fin 1408), acc (ix3 (0 : Fin 1) y' x') = k0_pay6 (ix3 (0 : Fin 2) y' x')) ∧
      (outsAt0 m c t.val t.isLt).2.2.1 (ix3 (0 : Fin 2) y x) = next11_0 m c t acc (ix3 (0 : Fin 1) y x) := by
  rw [outsAt0_A m c t h0]
  dsimp only
  unfold out0_A_11
  rw [View.read_writes_eq_canon _ _ _ (fun _ => cover0_A_11 c ..)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  refine ⟨_, ?_, (canon_plane_ne 0 1 (by decide) y x _ _ _).trans (canon_plane 0 y x _ _ _)⟩
  intro y' x'
  refine (readCov_plane _ 0 y' x' _ _).trans ?_
  rw [View.canon_cons_unit_zero (S := S2x1x1408) zero3]

/-- At the first point of a column block: the bias's gradient, plane 1, over the sum so far. -/
theorem out11_A_1 (t : Fin cfg0.N) (h0 : t.val % 16 = 0) (y : Fin 1) (x : Fin 1408) :
    ∃ acc : Vec F S1x1x1408 .f32, (∀ (y' : Fin 1) (x' : Fin 1408), acc (ix3 (0 : Fin 1) y' x') = k0_pay6 (ix3 (1 : Fin 2) y' x')) ∧
      (outsAt0 m c t.val t.isLt).2.2.1 (ix3 (1 : Fin 2) y x) = next11_1 m c t acc (ix3 (0 : Fin 1) y x) := by
  rw [outsAt0_A m c t h0]
  dsimp only
  unfold out0_A_11
  rw [View.read_writes_eq_canon _ _ _ (fun _ => cover0_A_11 c ..)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  refine ⟨_, ?_, canon_plane 1 y x _ _ _⟩
  intro y' x'
  refine (readCov_plane _ 1 y' x' _ _).trans ?_
  refine (canon_plane_ne 1 0 (by decide) y' x' _ _ _).trans ?_
  rw [View.canon_cons_unit_zero (S := S2x1x1408) zero3]

/-- At the first point of a column block: the carried rows of half 0. -/
theorem s0_A (t : Fin cfg0.N) (h0 : t.val % 16 = 0) : (outsAt0 m c t.val t.isLt).2.2.2.1 = k0_pay24 (dGate m c t) := by
  rw [outsAt0_A m c t h0]
  dsimp only
  unfold sout0_A_0
  rw [View.read_writes_eq_canon _ _ _ (fun _ => scover0_A_0 c ..)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  first | done | rfl

/-- At the first point of a column block: the carried rows of half 1. -/
theorem s1_A (t : Fin cfg0.N) (h0 : t.val % 16 = 0) : (outsAt0 m c t.val t.isLt).2.2.2.2 = k0_pay30 (siluAt m c t) (iblk m c 4 t) := by
  rw [outsAt0_A m c t h0]
  dsimp only
  unfold sout0_A_1
  rw [View.read_writes_eq_canon _ _ _ (fun _ => scover0_A_1 c ..)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  first | done | rfl

/-- At a later point: the input gradient's plane 0. -/
theorem out9_B_0 (t : Fin cfg0.N) (h0 : ¬t.val % 16 = 0) (y : Fin 256) (x : Fin 1408) :
    (outsAt0 m c t.val t.isLt).1 (ix3 (0 : Fin 2) y x) = next9_0 m c t (outsAt0 m c (t.val - 1) (Nat.lt_of_le_of_lt (Nat.sub_le _ _) t.isLt)).2.2.2.1 (ix3 (0 : Fin 1) y x) := by
  rw [outsAt0_B m c t h0]
  dsimp only
  unfold out0_B_9
  rw [View.read_writes_eq_canon _ _ _ (fun _ => cover0_B_9 c ..)]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  refine (canon_plane_ne 0 1 (by decide) y x _ _ _).trans ?_
  exact canon_plane 0 y x _ _ _

/-- At a later point: the input gradient's plane 1. -/
theorem out9_B_1 (t : Fin cfg0.N) (h0 : ¬t.val % 16 = 0) (y : Fin 256) (x : Fin 1408) :
    (outsAt0 m c t.val t.isLt).1 (ix3 (1 : Fin 2) y x) = next9_1 m c t (outsAt0 m c (t.val - 1) (Nat.lt_of_le_of_lt (Nat.sub_le _ _) t.isLt)).2.2.2.2 (ix3 (0 : Fin 1) y x) := by
  rw [outsAt0_B m c t h0]
  dsimp only
  unfold out0_B_9
  rw [View.read_writes_eq_canon _ _ _ (fun _ => cover0_B_9 c ..)]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  exact canon_plane 1 y x _ _ _

/-- At a later point: the taps' gradient, plane 0, over the sum so far. -/
theorem out10_B_0 (t : Fin cfg0.N) (h0 : ¬t.val % 16 = 0) (y : Fin 3) (x : Fin 1408) :
    ∃ acc : Vec F S1x3x1408 .f32, (∀ (y' : Fin 3) (x' : Fin 1408), acc (ix3 (0 : Fin 1) y' x') = (outsAt0 m c (t.val - 1) (Nat.lt_of_le_of_lt (Nat.sub_le _ _) t.isLt)).2.1 (ix3 (0 : Fin 2) y' x')) ∧
      (outsAt0 m c t.val t.isLt).2.1 (ix3 (0 : Fin 2) y x) = next10_0 m c t acc (ix3 (0 : Fin 1) y x) := by
  rw [outsAt0_B m c t h0]
  dsimp only
  unfold out0_B_10
  rw [View.read_writes_eq_canon _ _ _ (fun _ => cover0_B_10 c ..)]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  exact ⟨_, fun y' x' => ld_plane _ 0 y' x' _, (canon_plane_ne 0 1 (by decide) y x _ _ _).trans (canon_plane 0 y x _ _ _)⟩

/-- At a later point: the taps' gradient, plane 1, over the sum so far. -/
theorem out10_B_1 (t : Fin cfg0.N) (h0 : ¬t.val % 16 = 0) (y : Fin 3) (x : Fin 1408) :
    ∃ acc : Vec F S1x3x1408 .f32, (∀ (y' : Fin 3) (x' : Fin 1408), acc (ix3 (0 : Fin 1) y' x') = (outsAt0 m c (t.val - 1) (Nat.lt_of_le_of_lt (Nat.sub_le _ _) t.isLt)).2.1 (ix3 (1 : Fin 2) y' x')) ∧
      (outsAt0 m c t.val t.isLt).2.1 (ix3 (1 : Fin 2) y x) = next10_1 m c t acc (ix3 (0 : Fin 1) y x) := by
  rw [outsAt0_B m c t h0]
  dsimp only
  unfold out0_B_10
  rw [View.read_writes_eq_canon _ _ _ (fun _ => cover0_B_10 c ..)]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  exact ⟨_, fun y' x' => ld_plane _ 1 y' x' _, canon_plane 1 y x _ _ _⟩

/-- At a later point: the bias's gradient, plane 0, over the sum so far. -/
theorem out11_B_0 (t : Fin cfg0.N) (h0 : ¬t.val % 16 = 0) (y : Fin 1) (x : Fin 1408) :
    ∃ acc : Vec F S1x1x1408 .f32, (∀ (y' : Fin 1) (x' : Fin 1408), acc (ix3 (0 : Fin 1) y' x') = (outsAt0 m c (t.val - 1) (Nat.lt_of_le_of_lt (Nat.sub_le _ _) t.isLt)).2.2.1 (ix3 (0 : Fin 2) y' x')) ∧
      (outsAt0 m c t.val t.isLt).2.2.1 (ix3 (0 : Fin 2) y x) = next11_0 m c t acc (ix3 (0 : Fin 1) y x) := by
  rw [outsAt0_B m c t h0]
  dsimp only
  unfold out0_B_11
  rw [View.read_writes_eq_canon _ _ _ (fun _ => cover0_B_11 c ..)]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  exact ⟨_, fun y' x' => ld_plane _ 0 y' x' _, (canon_plane_ne 0 1 (by decide) y x _ _ _).trans (canon_plane 0 y x _ _ _)⟩

/-- At a later point: the bias's gradient, plane 1, over the sum so far. -/
theorem out11_B_1 (t : Fin cfg0.N) (h0 : ¬t.val % 16 = 0) (y : Fin 1) (x : Fin 1408) :
    ∃ acc : Vec F S1x1x1408 .f32, (∀ (y' : Fin 1) (x' : Fin 1408), acc (ix3 (0 : Fin 1) y' x') = (outsAt0 m c (t.val - 1) (Nat.lt_of_le_of_lt (Nat.sub_le _ _) t.isLt)).2.2.1 (ix3 (1 : Fin 2) y' x')) ∧
      (outsAt0 m c t.val t.isLt).2.2.1 (ix3 (1 : Fin 2) y x) = next11_1 m c t acc (ix3 (0 : Fin 1) y x) := by
  rw [outsAt0_B m c t h0]
  dsimp only
  unfold out0_B_11
  rw [View.read_writes_eq_canon _ _ _ (fun _ => cover0_B_11 c ..)]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  exact ⟨_, fun y' x' => ld_plane _ 1 y' x' _, canon_plane 1 y x _ _ _⟩

/-- At a later point: the carried rows of half 0. -/
theorem s0_B (t : Fin cfg0.N) (h0 : ¬t.val % 16 = 0) : (outsAt0 m c t.val t.isLt).2.2.2.1 = k0_pay24 (dGate m c t) := by
  rw [outsAt0_B m c t h0]
  dsimp only
  unfold sout0_B_0
  rw [View.read_writes_eq_canon _ _ _ (fun _ => scover0_B_0 c ..)]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  first | done | rfl

/-- At a later point: the carried rows of half 1. -/
theorem s1_B (t : Fin cfg0.N) (h0 : ¬t.val % 16 = 0) : (outsAt0 m c t.val t.isLt).2.2.2.2 = k0_pay30 (siluAt m c t) (iblk m c 4 t) := by
  rw [outsAt0_B m c t h0]
  dsimp only
  unfold sout0_B_1
  rw [View.read_writes_eq_canon _ _ _ (fun _ => scover0_B_1 c ..)]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_10 t).read_unread, (hs0_11 t).read_unread,
    (Memref.isWhole_whole _).read_unread, View.ld_unit_zero (S := S256x1408) zero2, View.ld_unit_zero (S := S8x1408) zero2,
    View.ld_unit_zero (S := S3x1408) zero2, View.ld_unit_zero (S := S1x1408) zero2, View.canon_cons_unit_zero (S := S8x1408) zero2,
    View.readCov_unit_zero (S := S8x1408) _ zero2]
  first | done | rfl

end Cert.ConvGrad

end
-- ==== Proof.ConvSpec.lean ====
/- The gradient of the causal convolution and its gate, written on the arrays' entries: `U` the convolution's input, `D` the
   gradient that reaches its output, `W` the three taps, `B` the bias. Rows are natural numbers; `padRow` is the input with
   the two zero rows above it. -/
module

public import Idealize.ShloMosaic.Lib.Pointwise

@[expose] public section

set_option maxRecDepth 16384

noncomputable section

namespace Cert.ConvGrad

open Idealize.ShloMosaic

/-- Column `X` of half `p`, in an array of both halves. -/
def halfCol (p : Fin 2) (X : Fin 2816) : Fin 5632 := ⟨2816 * p.val + X.val, by omega⟩

variable (U : (⟨2, ![4096, 5632]⟩ : Shape).Idx → EReal) (D : (⟨2, ![4096, 2816]⟩ : Shape).Idx → EReal)
  (W : (⟨2, ![3, 5632]⟩ : Shape).Idx → EReal) (B : (⟨2, ![1, 5632]⟩ : Shape).Idx → EReal)

/-- Row `n` of the input under two zero rows (zero below the last row too). -/
def padRow (n : ℕ) (q : Fin 5632) : EReal := if h : 2 ≤ n ∧ n < 4098 then U (ix2 ⟨n - 2, by omega⟩ q) else 0

/-- The convolution at row `r`. -/
def conv (r : ℕ) (q : Fin 5632) : EReal :=
  B (ix2 (0 : Fin 1) q) + padRow U r q * W (ix2 (0 : Fin 3) q) + padRow U (r + 1) q * W (ix2 (1 : Fin 3) q)
    + padRow U (r + 2) q * W (ix2 (2 : Fin 3) q)

/-- The sigmoid. -/
def sigm (z : EReal) : EReal := Ideal.div 1 (1 + Ideal.exp (0 - z))

/-- The gradient at the convolution's result, half `p` (the gate's half is 0), zero below the last row. -/
def dconv (p : Fin 2) (r : ℕ) (X : Fin 2816) : EReal :=
  if h : r < 4096 then
    (if p = 0 then D (ix2 ⟨r, h⟩ X) * conv U W B r (halfCol 1 X)
        * (sigm (conv U W B r (halfCol 0 X)) * (1 + conv U W B r (halfCol 0 X) * (1 - sigm (conv U W B r (halfCol 0 X)))))
      else D (ix2 ⟨r, h⟩ X) * (conv U W B r (halfCol 0 X) * sigm (conv U W B r (halfCol 0 X))))
  else 0

/-- The input's gradient. -/
def dInput (p : Fin 2) (r : ℕ) (X : Fin 2816) : EReal :=
  W (ix2 (2 : Fin 3) (halfCol p X)) * dconv U D W B p r X + W (ix2 (1 : Fin 3) (halfCol p X)) * dconv U D W B p (r + 1) X
    + W (ix2 (0 : Fin 3) (halfCol p X)) * dconv U D W B p (r + 2) X

/-- The part of tap `k`'s gradient that the rows of `S` give. -/
def dTap (S : Finset ℕ) (p : Fin 2) (k : ℕ) (X : Fin 2816) : EReal :=
  ∑ r ∈ S, dconv U D W B p r X * padRow U (r + k) (halfCol p X)

/-- The part of the bias's gradient that the rows of `S` give. -/
def dBias (S : Finset ℕ) (p : Fin 2) (X : Fin 2816) : EReal := ∑ r ∈ S, dconv U D W B p r X

end Cert.ConvGrad

end
-- ==== Proof.ConvBlocks.lean ====
/- Which elements of the argument arrays each block read by the convolution's gradient kernel holds: point `t` works on
   the 256 rows from `rowBase t` and the 1408 columns from `1408 * (t / 16)` of each half. -/
module

public import proofs.«01_k».proof.Proof.ConvOpen
public import proofs.«01_k».proof.Proof.ConvSpec
public import Idealize.ShloMosaic.Lib.Pipeline.ValueKit

@[expose] public section

set_option maxRecDepth 16384

noncomputable section

namespace Cert.ConvGrad

open Idealize.ShloMosaic Idealize.ShloMosaic.TcCoe Idealize.ShloMosaic.Tactic
open Cert.KernelIdeal Cert.KernelIdeal.Gen Cert.Planes

variable {F : FTy → Type} [FloatOps F]
variable (m : (ℓ : Loc nD τ sig) → Buf (Elt F) ℓ) (c : Dev nD)

/-- The first row of the tile of point `t`: the tiles are taken from the bottom of the array to its top. -/
def rowBase (t : Fin cfg0.N) : ℕ := 256 * (15 - t.val % 16)

/-- The column of a half that lane `x` of point `t` works on. -/
def laneCol (t : Fin cfg0.N) (x : Fin 1408) : Fin 2816 :=
  ⟨1408 * (t.val / 16) + x.val, by have := (N_0 ▸ t.isLt : t.val < 32); omega⟩

theorem rowBase_add_lt (t : Fin cfg0.N) (y : Fin 256) : rowBase t + y.val < 4096 := by
  unfold rowBase; omega

theorem index_facts : ∀ t : Fin grid0.N,
    (cfg0.win 0).index t = ![15 - t.val % 16, t.val / 16] ∧
    (cfg0.win 1).index t = ![32 * (15 - t.val % 16) - 1, t.val / 16] ∧
    (cfg0.win 2).index t = ![15 - t.val % 16, t.val / 16 + 2] ∧
    (cfg0.win 3).index t = ![32 * (15 - t.val % 16) - 1, t.val / 16 + 2] ∧
    (cfg0.win 4).index t = ![15 - t.val % 16, t.val / 16] ∧
    (cfg0.win 5).index t = ![0, t.val / 16] ∧
    (cfg0.win 6).index t = ![0, t.val / 16 + 2] ∧
    (cfg0.win 7).index t = ![0, t.val / 16] ∧
    (cfg0.win 8).index t = ![0, t.val / 16 + 2] ∧
    (cfg0.win 9).index t = ![0, 15 - t.val % 16, t.val / 16] ∧
    (cfg0.win 10).index t = ![0, 0, t.val / 16] ∧
    (cfg0.win 11).index t = ![0, 0, t.val / 16] := by decide +kernel

/-- The grid's second coordinate, as the kernel reads it. -/
theorem coord1 : ∀ t : Fin grid0.N, (grid0.coords t 1).val = t.val % 16 := by decide +kernel

theorem halo_lt (t : Fin cfg0.N) (h : t.val % 16 ≠ 15) (y : Fin 8) : rowBase t + y.val - 8 < 4096 := by
  unfold rowBase; omega

theorem blk0 (t : Fin cfg0.N) (y : Fin 256) (x : Fin 1408) : iblk m c 0 t (ix2 y x)
    = (m ((c : Thread nD τ).loc main_arg0) : Vec F S4096x5632 .f32) (ix2 ⟨rowBase t + y.val, rowBase_add_lt t y⟩ (halfCol 0 (laneCol t x))) := by
  have e := (index_facts t).1
  blk_ext [iblk, V, e, rowBase, halfCol, laneCol]

theorem blk1 (t : Fin cfg0.N) (h : t.val % 16 ≠ 15) (y : Fin 8) (x : Fin 1408) : iblk m c 1 t (ix2 y x)
    = (m ((c : Thread nD τ).loc main_arg0) : Vec F S4096x5632 .f32) (ix2 ⟨rowBase t + y.val - 8, halo_lt t h y⟩ (halfCol 0 (laneCol t x))) := by
  have e := (index_facts t).2.1
  blk_ext [iblk, V, e, rowBase, halfCol, laneCol]

theorem blk2 (t : Fin cfg0.N) (y : Fin 256) (x : Fin 1408) : iblk m c 2 t (ix2 y x)
    = (m ((c : Thread nD τ).loc main_arg0) : Vec F S4096x5632 .f32) (ix2 ⟨rowBase t + y.val, rowBase_add_lt t y⟩ (halfCol 1 (laneCol t x))) := by
  have e := (index_facts t).2.2.1
  blk_ext [iblk, V, e, rowBase, halfCol, laneCol]

theorem blk3 (t : Fin cfg0.N) (h : t.val % 16 ≠ 15) (y : Fin 8) (x : Fin 1408) : iblk m c 3 t (ix2 y x)
    = (m ((c : Thread nD τ).loc main_arg0) : Vec F S4096x5632 .f32) (ix2 ⟨rowBase t + y.val - 8, halo_lt t h y⟩ (halfCol 1 (laneCol t x))) := by
  have e := (index_facts t).2.2.2.1
  blk_ext [iblk, V, e, rowBase, halfCol, laneCol]

theorem blk4 (t : Fin cfg0.N) (y : Fin 256) (x : Fin 1408) : iblk m c 4 t (ix2 y x)
    = (m ((c : Thread nD τ).loc main_arg1) : Vec F S4096x2816 .f32) (ix2 ⟨rowBase t + y.val, rowBase_add_lt t y⟩ (laneCol t x)) := by
  have e := (index_facts t).2.2.2.2.1
  blk_ext [iblk, V, e, rowBase, halfCol, laneCol]

theorem blk5 (t : Fin cfg0.N) (y : Fin 3) (x : Fin 1408) : iblk m c 5 t (ix2 y x)
    = (m ((c : Thread nD τ).loc main_arg2) : Vec F S3x5632 .f32) (ix2 y (halfCol 0 (laneCol t x))) := by
  have e := (index_facts t).2.2.2.2.2.1
  blk_ext [iblk, V, e, rowBase, halfCol, laneCol]

theorem blk6 (t : Fin cfg0.N) (y : Fin 3) (x : Fin 1408) : iblk m c 6 t (ix2 y x)
    = (m ((c : Thread nD τ).loc main_arg2) : Vec F S3x5632 .f32) (ix2 y (halfCol 1 (laneCol t x))) := by
  have e := (index_facts t).2.2.2.2.2.2.1
  blk_ext [iblk, V, e, rowBase, halfCol, laneCol]

theorem blk7 (t : Fin cfg0.N) (y : Fin 1) (x : Fin 1408) : iblk m c 7 t (ix2 y x)
    = (m ((c : Thread nD τ).loc main_arg3) : Vec F S1x5632 .f32) (ix2 y (halfCol 0 (laneCol t x))) := by
  have e := (index_facts t).2.2.2.2.2.2.2.1
  blk_ext [iblk, V, e, rowBase, halfCol, laneCol]

theorem blk8 (t : Fin cfg0.N) (y : Fin 1) (x : Fin 1408) : iblk m c 8 t (ix2 y x)
    = (m ((c : Thread nD τ).loc main_arg3) : Vec F S1x5632 .f32) (ix2 y (halfCol 1 (laneCol t x))) := by
  have e := (index_facts t).2.2.2.2.2.2.2.2.1
  blk_ext [iblk, V, e, rowBase, halfCol, laneCol]

end Cert.ConvGrad

end
-- ==== Proof.ConvBody.lean ====
/- The payloads of one grid point of the convolution's gradient kernel, at an index, are the entries of the written-out
   gradient (`ConvSpec`) at that point's rows and columns. -/
module

public import proofs.«01_k».proof.Proof.ConvBlocks

@[expose] public section

set_option maxRecDepth 16384

noncomputable section

namespace Cert.ConvGrad

open Idealize.ShloMosaic Idealize.ShloMosaic.TcCoe Idealize.ShloMosaic.Tactic
open Cert.KernelIdeal Cert.KernelIdeal.Gen Cert.Planes

variable (m : (ℓ : Loc nD τ sig) → Buf (Elt Ideal) ℓ) (c : Dev nD)

abbrev arrU : Vec Ideal S4096x5632 .f32 := m ((c : Thread nD τ).loc main_arg0)
abbrev arrD : Vec Ideal S4096x2816 .f32 := m ((c : Thread nD τ).loc main_arg1)
abbrev arrW : Vec Ideal S3x5632 .f32 := m ((c : Thread nD τ).loc main_arg2)
abbrev arrB : Vec Ideal S1x5632 .f32 := m ((c : Thread nD τ).loc main_arg3)

theorem first_tile_words : ∀ k : Fin 16,
    Scalar.cmpi .sgt (Scalar.subi 15#32 (BitVec.ofNat 32 k.val)) 0#32 = (if k.val = 15 then 0#1 else 1#1) := by decide

/-- The factor on the rows before the tile: zero at the array's top, one elsewhere. -/
theorem halo_factor (t : Fin cfg0.N) : (k0_pay7 (F := Ideal) (grid0.coords t) : EReal) = if t.val % 16 = 15 then 0 else 1 := by
  have hw := first_tile_words ⟨t.val % 16, Nat.mod_lt _ (by norm_num)⟩
  simp only at hw
  pointwise [k0_pay7]
  rw [coord1 t, hw]
  split <;> simp [Scalar.select]

theorem lt_N (t : Fin cfg0.N) : t.val < 32 := (N_0 ▸ t.isLt : t.val < 32)

/-- A row of the tile, read as a row of the padded input. -/
theorem pad_tile (t : Fin cfg0.N) (y : Fin 256) (q : Fin 5632) :
    padRow (arrU m c) (rowBase t + y.val + 2) q = arrU m c (ix2 ⟨rowBase t + y.val, rowBase_add_lt t y⟩ q) := by
  have := rowBase_add_lt t y
  unfold padRow
  rw [dif_pos ⟨by omega, by omega⟩]
  exact congrArg (fun k => arrU m c (ix2 k q)) (Fin.ext (by show rowBase t + y.val + 2 - 2 = rowBase t + y.val; omega))

/-- The last two rows before the tile, times the factor, read as rows of the padded input. -/
theorem pad_halo (t : Fin cfg0.N) (y : Fin 8) (hy : 6 ≤ y.val) (q : Fin 5632) (v : EReal)
    (hv : ∀ h : t.val % 16 ≠ 15, v = arrU m c (ix2 ⟨rowBase t + y.val - 8, halo_lt t h y⟩ q)) :
    v * (k0_pay7 (F := Ideal) (grid0.coords t) : EReal) = padRow (arrU m c) (rowBase t + y.val - 6) q := by
  rw [halo_factor]
  unfold padRow
  by_cases h : t.val % 16 = 15
  · rw [if_pos h, mul_zero, dif_neg]
    unfold rowBase; omega
  · have h1 : 256 ≤ rowBase t := by unfold rowBase; omega
    have h2 : rowBase t + 256 ≤ 4096 := by unfold rowBase; omega
    rw [if_neg h, mul_one, hv h, dif_pos ⟨by omega, by omega⟩]
    exact congrArg (fun k => arrU m c (ix2 k q)) (Fin.ext (by show rowBase t + y.val - 8 = rowBase t + y.val - 6 - 2; omega))

/-- The rows before the tile (times the factor) over the tile, moved down by `s`. -/
theorem pad_shift (s : ℕ) (hs : s = 1 ∨ s = 2) (t : Fin cfg0.N) (y : Fin 256) (q : Fin 5632) (H : Fin 8 → EReal) (X : Fin 256 → EReal)
    (hH : ∀ (h : t.val % 16 ≠ 15) (z : Fin 8), H z = arrU m c (ix2 ⟨rowBase t + z.val - 8, halo_lt t h z⟩ q))
    (hX : ∀ z : Fin 256, X z = arrU m c (ix2 ⟨rowBase t + z.val, rowBase_add_lt t z⟩ q))
    (hb : ¬(8 + y.val + 264 - s) % 264 < 8 → (8 + y.val + 264 - s) % 264 - 8 < 256) :
    (if h : (8 + y.val + 264 - s) % 264 < 8 then H ⟨(8 + y.val + 264 - s) % 264, h⟩ * (k0_pay7 (F := Ideal) (grid0.coords t) : EReal)
      else X ⟨(8 + y.val + 264 - s) % 264 - 8, hb h⟩) = padRow (arrU m c) (rowBase t + y.val + 2 - s) q := by
  split
  · next h =>
    rw [pad_halo m c t ⟨(8 + y.val + 264 - s) % 264, h⟩ (by show 6 ≤ (8 + y.val + 264 - s) % 264; omega) q _ (fun h' => hH h' _)]
    exact congrArg (fun k => padRow (arrU m c) k q) (by show rowBase t + (8 + y.val + 264 - s) % 264 - 6 = rowBase t + y.val + 2 - s; omega)
  · next h =>
    rw [hX, ← pad_tile]
    exact congrArg (fun k => padRow (arrU m c) k q) (by show rowBase t + ((8 + y.val + 264 - s) % 264 - 8) + 2 = rowBase t + y.val + 2 - s; omega)

theorem gate_shift1 (t : Fin cfg0.N) (y : Fin 256) (x : Fin 1408) :
    k0_pay9 (F := Ideal) (grid0.coords t) (iblk m c 0 t) (iblk m c 1 t) (ix2 y x)
      = padRow (arrU m c) (rowBase t + y.val + 1) (halfCol 0 (laneCol t x)) := by
  pointwise [k0_pay9, k0_pay8]
  exact pad_shift m c 1 (Or.inl rfl) t y (halfCol 0 (laneCol t x)) (fun z => iblk m c 1 t (ix2 z x)) (fun z => iblk m c 0 t (ix2 z x))
    (fun h z => blk1 m c t h z x) (fun z => blk0 m c t z x) (fun h => by omega)

theorem gate_shift2 (t : Fin cfg0.N) (y : Fin 256) (x : Fin 1408) :
    k0_pay10 (F := Ideal) (grid0.coords t) (iblk m c 0 t) (iblk m c 1 t) (ix2 y x)
      = padRow (arrU m c) (rowBase t + y.val) (halfCol 0 (laneCol t x)) := by
  pointwise [k0_pay10, k0_pay8]
  exact pad_shift m c 2 (Or.inr rfl) t y (halfCol 0 (laneCol t x)) (fun z => iblk m c 1 t (ix2 z x)) (fun z => iblk m c 0 t (ix2 z x))
    (fun h z => blk1 m c t h z x) (fun z => blk0 m c t z x) (fun h => by omega)

theorem up_shift1 (t : Fin cfg0.N) (y : Fin 256) (x : Fin 1408) :
    k0_pay14 (F := Ideal) (iblk m c 2 t) (upHalo m c t) (ix2 y x)
      = padRow (arrU m c) (rowBase t + y.val + 1) (halfCol 1 (laneCol t x)) := by
  pointwise [k0_pay14, k0_pay13, upHalo, k0_pay12]
  exact pad_shift m c 1 (Or.inl rfl) t y (halfCol 1 (laneCol t x)) (fun z => iblk m c 3 t (ix2 z x)) (fun z => iblk m c 2 t (ix2 z x))
    (fun h z => blk3 m c t h z x) (fun z => blk2 m c t z x) (fun h => by omega)

theorem up_shift2 (t : Fin cfg0.N) (y : Fin 256) (x : Fin 1408) :
    k0_pay15 (F := Ideal) (iblk m c 2 t) (upHalo m c t) (ix2 y x)
      = padRow (arrU m c) (rowBase t + y.val) (halfCol 1 (laneCol t x)) := by
  pointwise [k0_pay15, k0_pay13, upHalo, k0_pay12]
  exact pad_shift m c 2 (Or.inr rfl) t y (halfCol 1 (laneCol t x)) (fun z => iblk m c 3 t (ix2 z x)) (fun z => iblk m c 2 t (ix2 z x))
    (fun h z => blk3 m c t h z x) (fun z => blk2 m c t z x) (fun h => by omega)

/-- The gate's convolution on the tile. -/
theorem conv_gate (t : Fin cfg0.N) (y : Fin 256) (x : Fin 1408) :
    gateAt m c t (ix2 y x) = conv (arrU m c) (arrW m c) (arrB m c) (rowBase t + y.val) (halfCol 0 (laneCol t x)) := by
  unfold conv
  rw [← gate_shift1 m c t y x, ← gate_shift2 m c t y x, pad_tile]
  pointwise [gateAt, k0_pay11]
  simp only [blk0, blk5, blk7]

/-- The gradient at the gate's convolution, on the tile. -/
theorem dGate_at (t : Fin cfg0.N) (y : Fin 256) (x : Fin 1408) :
    dGate m c t (ix2 y x) = dconv (arrU m c) (arrD m c) (arrW m c) (arrB m c) 0 (rowBase t + y.val) (laneCol t x) := by
  unfold dconv
  rw [dif_pos (rowBase_add_lt t y), if_pos rfl, ← conv_gate m c t y x]
  unfold conv
  rw [← up_shift1 m c t y x, ← up_shift2 m c t y x, pad_tile]
  pointwise [dGate, k0_pay18, k0_pay16]
  simp only [blk2, blk4, blk6, blk8, sigm]

/-- The gradient at the up half's convolution, on the tile: the gate times its sigmoid, times the gradient that arrives. -/
theorem dUp_pay (t : Fin cfg0.N) (y : Fin 256) (x : Fin 1408) :
    k0_pay28 (F := Ideal) (siluAt m c t) (iblk m c 4 t) (ix2 y x)
      = dconv (arrU m c) (arrD m c) (arrW m c) (arrB m c) 1 (rowBase t + y.val) (laneCol t x) := by
  unfold dconv
  rw [dif_pos (rowBase_add_lt t y), if_neg (by decide), ← conv_gate m c t y x]
  pointwise [k0_pay28, siluAt, k0_pay17, k0_pay16]
  simp only [blk4, sigm]

/-- The first rows of the tile's gradient, carried to the next point. -/
theorem carry0_at (t : Fin cfg0.N) (y : Fin 8) (x : Fin 1408) : k0_pay24 (F := Ideal) (dGate m c t) (ix2 y x)
    = dconv (arrU m c) (arrD m c) (arrW m c) (arrB m c) 0 (rowBase t + y.val) (laneCol t x) := by
  rw [← dGate_at m c t ⟨y.val, by omega⟩ x]
  pointwise [k0_pay24]

theorem carry1_at (t : Fin cfg0.N) (y : Fin 8) (x : Fin 1408) : k0_pay30 (F := Ideal) (siluAt m c t) (iblk m c 4 t) (ix2 y x)
    = dconv (arrU m c) (arrD m c) (arrW m c) (arrB m c) 1 (rowBase t + y.val) (laneCol t x) := by
  rw [← dUp_pay m c t ⟨y.val, by omega⟩ x]
  pointwise [k0_pay30]

/-- The bias's gradient after the point: what was summed before, and the tile's rows. -/
theorem next11_0_at (t : Fin cfg0.N) (acc : Vec Ideal S1x1x1408 .f32) (x : Fin 1408) :
    next11_0 m c t acc (ix3 (0 : Fin 1) (0 : Fin 1) x) = acc (ix3 (0 : Fin 1) (0 : Fin 1) x)
      + ∑ z : Fin 256, dconv (arrU m c) (arrD m c) (arrW m c) (arrB m c) 0 (rowBase t + z.val) (laneCol t x) := by
  simp only [← dGate_at m c t]
  pointwise [next11_0, k0_pay27, k0_pay26]

theorem next11_1_at (t : Fin cfg0.N) (acc : Vec Ideal S1x1x1408 .f32) (x : Fin 1408) :
    next11_1 m c t acc (ix3 (0 : Fin 1) (0 : Fin 1) x) = acc (ix3 (0 : Fin 1) (0 : Fin 1) x)
      + ∑ z : Fin 256, dconv (arrU m c) (arrD m c) (arrW m c) (arrB m c) 1 (rowBase t + z.val) (laneCol t x) := by
  simp only [← dUp_pay m c t]
  pointwise [next11_1, k0_pay2]

theorem gate_tile (t : Fin cfg0.N) (y : Fin 256) (x : Fin 1408) :
    iblk m c 0 t (ix2 y x) = padRow (arrU m c) (rowBase t + y.val + 2) (halfCol 0 (laneCol t x)) := (blk0 m c t y x).trans (pad_tile m c t y _).symm

theorem up_tile (t : Fin cfg0.N) (y : Fin 256) (x : Fin 1408) :
    iblk m c 2 t (ix2 y x) = padRow (arrU m c) (rowBase t + y.val + 2) (halfCol 1 (laneCol t x)) := (blk2 m c t y x).trans (pad_tile m c t y _).symm

/-- The taps' gradient after the point: what was summed before, and the tile's rows, each times the row of the padded input
    that the tap reads. -/
theorem next10_0_at (t : Fin cfg0.N) (acc : Vec Ideal S1x3x1408 .f32) (k : Fin 3) (x : Fin 1408) :
    next10_0 m c t acc (ix3 (0 : Fin 1) k x) = acc (ix3 (0 : Fin 1) k x)
      + ∑ z : Fin 256, dconv (arrU m c) (arrD m c) (arrW m c) (arrB m c) 0 (rowBase t + z.val) (laneCol t x)
          * padRow (arrU m c) (rowBase t + z.val + k.val) (halfCol 0 (laneCol t x)) := by
  simp only [← dGate_at m c t]
  pointwise [next10_0, k0_pay25]
  simp only [gate_shift1, gate_shift2, gate_tile]
  fin_cases k <;> rfl

theorem next10_1_at (t : Fin cfg0.N) (acc : Vec Ideal S1x3x1408 .f32) (k : Fin 3) (x : Fin 1408) :
    next10_1 m c t acc (ix3 (0 : Fin 1) k x) = acc (ix3 (0 : Fin 1) k x)
      + ∑ z : Fin 256, dconv (arrU m c) (arrD m c) (arrW m c) (arrB m c) 1 (rowBase t + z.val) (laneCol t x)
          * padRow (arrU m c) (rowBase t + z.val + k.val) (halfCol 1 (laneCol t x)) := by
  simp only [← dUp_pay m c t]
  pointwise [next10_1, k0_pay1, k0_pay31, k0_pay32]
  simp only [up_shift1, up_shift2, up_tile]
  fin_cases k <;> rfl

/-- The tile's gradient over the rows that follow it, moved up by `s`. -/
theorem grad_shift (s : ℕ) (hs : s = 1 ∨ s = 2) (t : Fin cfg0.N) (y : Fin 256) (g : ℕ → EReal) (d : Fin 256 → EReal) (n : Fin 8 → EReal)
    (hd : ∀ z : Fin 256, d z = g (rowBase t + z.val)) (hn : ∀ z : Fin 8, n z = g (rowBase t + 256 + z.val)) (r : ℕ)
    (hr : r = (y.val + 264 - (264 - s)) % 264) (hb : ¬r < 256 → r - 256 < 8) :
    (if h : r < 256 then d ⟨r, h⟩ else n ⟨r - 256, hb h⟩) = g (rowBase t + y.val + s) := by
  split
  · rw [hd]; exact congrArg g (by show rowBase t + r = _; omega)
  · rw [hn]; exact congrArg g (by show rowBase t + 256 + (r - 256) = _; omega)

theorem next9_0_at (t : Fin cfg0.N) (n : Vec Ideal S8x1408 .f32) (y : Fin 256) (x : Fin 1408)
    (hn : ∀ z : Fin 8, n (ix2 z x) = dconv (arrU m c) (arrD m c) (arrW m c) (arrB m c) 0 (rowBase t + 256 + z.val) (laneCol t x)) :
    next9_0 m c t n (ix3 (0 : Fin 1) y x) = dInput (arrU m c) (arrD m c) (arrW m c) (arrB m c) 0 (rowBase t + y.val) (laneCol t x) := by
  unfold dInput
  have e1 := grad_shift 1 (Or.inl rfl) t y (fun r => dconv (arrU m c) (arrD m c) (arrW m c) (arrB m c) 0 r (laneCol t x))
    (fun z => dGate m c t (ix2 z x)) (fun z => n (ix2 z x)) (fun z => dGate_at m c t z x) hn _ rfl (fun h => by omega)
  have e2 := grad_shift 2 (Or.inr rfl) t y (fun r => dconv (arrU m c) (arrD m c) (arrW m c) (arrB m c) 0 r (laneCol t x))
    (fun z => dGate m c t (ix2 z x)) (fun z => n (ix2 z x)) (fun z => dGate_at m c t z x) hn _ rfl (fun h => by omega)
  rw [← e1, ← e2, ← dGate_at m c t y x]
  pointwise [next9_0, k0_pay23, k0_pay20, k0_pay21, k0_pay22, k0_pay19, dGate]
  simp only [blk5]

theorem next9_1_at (t : Fin cfg0.N) (n : Vec Ideal S8x1408 .f32) (y : Fin 256) (x : Fin 1408)
    (hn : ∀ z : Fin 8, n (ix2 z x) = dconv (arrU m c) (arrD m c) (arrW m c) (arrB m c) 1 (rowBase t + 256 + z.val) (laneCol t x)) :
    next9_1 m c t n (ix3 (0 : Fin 1) y x) = dInput (arrU m c) (arrD m c) (arrW m c) (arrB m c) 1 (rowBase t + y.val) (laneCol t x) := by
  unfold dInput
  have e1 := grad_shift 1 (Or.inl rfl) t y (fun r => dconv (arrU m c) (arrD m c) (arrW m c) (arrB m c) 1 r (laneCol t x))
    (fun z => k0_pay28 (F := Ideal) (siluAt m c t) (iblk m c 4 t) (ix2 z x)) (fun z => n (ix2 z x)) (fun z => dUp_pay m c t z x) hn _ rfl (fun h => by omega)
  have e2 := grad_shift 2 (Or.inr rfl) t y (fun r => dconv (arrU m c) (arrD m c) (arrW m c) (arrB m c) 1 r (laneCol t x))
    (fun z => k0_pay28 (F := Ideal) (siluAt m c t) (iblk m c 4 t) (ix2 z x)) (fun z => n (ix2 z x)) (fun z => dUp_pay m c t z x) hn _ rfl (fun h => by omega)
  rw [← e1, ← e2, ← dUp_pay m c t y x]
  pointwise [next9_1, k0_pay29]
  simp only [blk6]

end Cert.ConvGrad

end
-- ==== Proof.ConvInv.lean ====
/- What the convolution's gradient kernel holds after each grid point, in closed form: the input gradient's block is the
   written-out gradient at the point's rows, the carried rows are the first rows of the tile's gradient, and the two summed
   outputs are the sums over all rows from the tile's first to the array's last. -/
module

public import proofs.«01_k».proof.Proof.ConvBody

@[expose] public section

set_option maxRecDepth 16384

noncomputable section

namespace Cert.ConvGrad

open Idealize.ShloMosaic Idealize.ShloMosaic.TcCoe Idealize.ShloMosaic.Tactic
open Cert.KernelIdeal Cert.KernelIdeal.Gen Cert.Planes

variable (m : (ℓ : Loc nD τ sig) → Buf (Elt Ideal) ℓ) (c : Dev nD)

/-- The point before. -/
abbrev prev (t : Fin cfg0.N) : Fin cfg0.N := ⟨t.val - 1, Nat.lt_of_le_of_lt (Nat.sub_le _ _) t.isLt⟩

theorem rowBase_prev (t : Fin cfg0.N) (h0 : ¬t.val % 16 = 0) : rowBase (prev t) = rowBase t + 256 := by
  show 256 * (15 - (t.val - 1) % 16) = 256 * (15 - t.val % 16) + 256
  omega

theorem laneCol_prev (t : Fin cfg0.N) (h0 : ¬t.val % 16 = 0) (x : Fin 1408) : laneCol (prev t) x = laneCol t x :=
  Fin.ext (by show 1408 * ((t.val - 1) / 16) + x.val = 1408 * (t.val / 16) + x.val; omega)

theorem rowBase_first (t : Fin cfg0.N) (h0 : t.val % 16 = 0) : rowBase t + 256 = 4096 := by unfold rowBase; omega

theorem rowBase_le (t : Fin cfg0.N) : rowBase t + 256 ≤ 4096 := by unfold rowBase; omega

theorem dconv_end (U D W B) (p : Fin 2) (r : ℕ) (h : 4096 ≤ r) (X : Fin 2816) : dconv U D W B p r X = 0 := by
  unfold dconv; rw [dif_neg (by omega)]

/-- The rows from the tile's first: the tile's, and those below it. -/
theorem sum_from (t : Fin cfg0.N) (f : ℕ → EReal) :
    ∑ r ∈ Finset.Ico (rowBase t + 256) 4096, f r + ∑ z : Fin 256, f (rowBase t + z.val) = ∑ r ∈ Finset.Ico (rowBase t) 4096, f r := by
  rw [← Finset.sum_Ico_consecutive f (Nat.le_add_right (rowBase t) 256) (rowBase_le t), add_comm]
  congr 1
  rw [Finset.sum_Ico_eq_sum_range, Nat.add_sub_cancel_left, Finset.sum_range]

/-- The carried rows of half 0. -/
theorem carry0 (t : Fin cfg0.N) (z : Fin 8) (x : Fin 1408) : (outsAt0 m c t.val t.isLt).2.2.2.1 (ix2 z x)
    = dconv (arrU m c) (arrD m c) (arrW m c) (arrB m c) 0 (rowBase t + z.val) (laneCol t x) := by
  by_cases h0 : t.val % 16 = 0
  · rw [s0_A m c t h0]; exact carry0_at m c t z x
  · rw [s0_B m c t h0]; exact carry0_at m c t z x

/-- The input gradient's block, half 0. -/
theorem block9_0 (t : Fin cfg0.N) (y : Fin 256) (x : Fin 1408) : (outsAt0 m c t.val t.isLt).1 (ix3 (0 : Fin 2) y x)
    = dInput (arrU m c) (arrD m c) (arrW m c) (arrB m c) 0 (rowBase t + y.val) (laneCol t x) := by
  by_cases h0 : t.val % 16 = 0
  · rw [out9_A_0 m c t h0]
    refine next9_0_at m c t _ y x fun z => ?_
    rw [dconv_end _ _ _ _ _ _ (by have := rowBase_first t h0; omega)]
    pointwise [k0_pay3]
  · rw [out9_B_0 m c t h0]
    refine next9_0_at m c t _ y x fun z => ?_
    refine (carry0 m c (prev t) z x).trans ?_
    rw [rowBase_prev t h0, laneCol_prev t h0]

/-- The carried rows of half 1. -/
theorem carry1 (t : Fin cfg0.N) (z : Fin 8) (x : Fin 1408) : (outsAt0 m c t.val t.isLt).2.2.2.2 (ix2 z x)
    = dconv (arrU m c) (arrD m c) (arrW m c) (arrB m c) 1 (rowBase t + z.val) (laneCol t x) := by
  by_cases h0 : t.val % 16 = 0
  · rw [s1_A m c t h0]; exact carry1_at m c t z x
  · rw [s1_B m c t h0]; exact carry1_at m c t z x

/-- The input gradient's block, half 1. -/
theorem block9_1 (t : Fin cfg0.N) (y : Fin 256) (x : Fin 1408) : (outsAt0 m c t.val t.isLt).1 (ix3 (1 : Fin 2) y x)
    = dInput (arrU m c) (arrD m c) (arrW m c) (arrB m c) 1 (rowBase t + y.val) (laneCol t x) := by
  by_cases h0 : t.val % 16 = 0
  · rw [out9_A_1 m c t h0]
    refine next9_1_at m c t _ y x fun z => ?_
    rw [dconv_end _ _ _ _ _ _ (by have := rowBase_first t h0; omega)]
    pointwise [k0_pay4]
  · rw [out9_B_1 m c t h0]
    refine next9_1_at m c t _ y x fun z => ?_
    refine (carry1 m c (prev t) z x).trans ?_
    rw [rowBase_prev t h0, laneCol_prev t h0]

/-- The taps' gradient's block, half 0: the sum over the rows from the tile's first. -/
theorem block10_0 : ∀ (n : ℕ) (t : Fin cfg0.N), t.val % 16 = n → ∀ (k : Fin 3) (x : Fin 1408),
    (outsAt0 m c t.val t.isLt).2.1 (ix3 (0 : Fin 2) k x)
      = dTap (arrU m c) (arrD m c) (arrW m c) (arrB m c) (Finset.Ico (rowBase t) 4096) 0 k.val (laneCol t x) := by
  intro n
  induction n with
  | zero =>
    intro t h0 k x
    obtain ⟨acc, hacc, he⟩ := out10_A_0 m c t h0 k x
    rw [he, next10_0_at, hacc, dTap, ← sum_from, rowBase_first t h0, Finset.Ico_self, Finset.sum_empty]
    congr 1
    pointwise [k0_pay5]
  | succ n ih =>
    intro t hn k x
    have h0 : ¬t.val % 16 = 0 := by omega
    obtain ⟨acc, hacc, he⟩ := out10_B_0 m c t h0 k x
    have hp := ih (prev t) (by show (t.val - 1) % 16 = n; omega) k x
    rw [rowBase_prev t h0, laneCol_prev t h0] at hp
    rw [he, next10_0_at, hacc, dTap, ← sum_from]
    exact congrArg (· + _) hp

/-- The taps' gradient's block, half 1: the sum over the rows from the tile's first. -/
theorem block10_1 : ∀ (n : ℕ) (t : Fin cfg0.N), t.val % 16 = n → ∀ (k : Fin 3) (x : Fin 1408),
    (outsAt0 m c t.val t.isLt).2.1 (ix3 (1 : Fin 2) k x)
      = dTap (arrU m c) (arrD m c) (arrW m c) (arrB m c) (Finset.Ico (rowBase t) 4096) 1 k.val (laneCol t x) := by
  intro n
  induction n with
  | zero =>
    intro t h0 k x
    obtain ⟨acc, hacc, he⟩ := out10_A_1 m c t h0 k x
    rw [he, next10_1_at, hacc, dTap, ← sum_from, rowBase_first t h0, Finset.Ico_self, Finset.sum_empty]
    congr 1
    pointwise [k0_pay5]
  | succ n ih =>
    intro t hn k x
    have h0 : ¬t.val % 16 = 0 := by omega
    obtain ⟨acc, hacc, he⟩ := out10_B_1 m c t h0 k x
    have hp := ih (prev t) (by show (t.val - 1) % 16 = n; omega) k x
    rw [rowBase_prev t h0, laneCol_prev t h0] at hp
    rw [he, next10_1_at, hacc, dTap, ← sum_from]
    exact congrArg (· + _) hp

/-- The bias's gradient's block, half 0: the sum over the rows from the tile's first. -/
theorem block11_0 : ∀ (n : ℕ) (t : Fin cfg0.N), t.val % 16 = n → ∀ (x : Fin 1408),
    (outsAt0 m c t.val t.isLt).2.2.1 (ix3 (0 : Fin 2) (0 : Fin 1) x)
      = dBias (arrU m c) (arrD m c) (arrW m c) (arrB m c) (Finset.Ico (rowBase t) 4096) 0 (laneCol t x) := by
  intro n
  induction n with
  | zero =>
    intro t h0 x
    obtain ⟨acc, hacc, he⟩ := out11_A_0 m c t h0 0 x
    rw [he, next11_0_at, hacc, dBias, ← sum_from, rowBase_first t h0, Finset.Ico_self, Finset.sum_empty]
    congr 1
    pointwise [k0_pay6]
  | succ n ih =>
    intro t hn x
    have h0 : ¬t.val % 16 = 0 := by omega
    obtain ⟨acc, hacc, he⟩ := out11_B_0 m c t h0 0 x
    have hp := ih (prev t) (by show (t.val - 1) % 16 = n; omega) x
    rw [rowBase_prev t h0, laneCol_prev t h0] at hp
    rw [he, next11_0_at, hacc, dBias, ← sum_from]
    exact congrArg (· + _) hp

/-- The bias's gradient's block, half 1: the sum over the rows from the tile's first. -/
theorem block11_1 : ∀ (n : ℕ) (t : Fin cfg0.N), t.val % 16 = n → ∀ (x : Fin 1408),
    (outsAt0 m c t.val t.isLt).2.2.1 (ix3 (1 : Fin 2) (0 : Fin 1) x)
      = dBias (arrU m c) (arrD m c) (arrW m c) (arrB m c) (Finset.Ico (rowBase t) 4096) 1 (laneCol t x) := by
  intro n
  induction n with
  | zero =>
    intro t h0 x
    obtain ⟨acc, hacc, he⟩ := out11_A_1 m c t h0 0 x
    rw [he, next11_1_at, hacc, dBias, ← sum_from, rowBase_first t h0, Finset.Ico_self, Finset.sum_empty]
    congr 1
    pointwise [k0_pay6]
  | succ n ih =>
    intro t hn x
    have h0 : ¬t.val % 16 = 0 := by omega
    obtain ⟨acc, hacc, he⟩ := out11_B_1 m c t h0 0 x
    have hp := ih (prev t) (by show (t.val - 1) % 16 = n; omega) x
    rw [rowBase_prev t h0, laneCol_prev t h0] at hp
    rw [he, next11_1_at, hacc, dBias, ← sum_from]
    exact congrArg (· + _) hp

end Cert.ConvGrad

end
-- ==== Proof.ConvValue.lean ====
/- The three result arrays of the convolution's gradient kernel after its run: the written-out gradient at every index. -/
module

public import proofs.«01_k».proof.Proof.ConvInv

@[expose] public section

set_option maxRecDepth 16384

noncomputable section

namespace Cert.ConvGrad

open Idealize.ShloMosaic Idealize.ShloMosaic.TcCoe Idealize.ShloMosaic.Tactic Idealize.SL.Sem
open Cert.KernelIdeal Cert.KernelIdeal.Gen Cert.Planes

variable (m : (ℓ : Loc nD τ sig) → Buf (Elt Ideal) ℓ) (ρ : Dev nD → PrngReg) (c : Dev nD)

/-- The input's gradient, as an array. -/
def gradInput : Vec Ideal S2x4096x2816 .bf16 := fun i => dInput (arrU m c) (arrD m c) (arrW m c) (arrB m c) (i 0) (i 1).val (i 2)

/-- The taps' gradient, as an array. -/
def gradTap : Vec Ideal S2x3x2816 .f32 :=
  fun i => dTap (arrU m c) (arrD m c) (arrW m c) (arrB m c) (Finset.range 4096) (i 0) (i 1).val (i 2)

/-- The bias's gradient, as an array. -/
def gradBias : Vec Ideal S2x1x2816 .f32 := fun i => dBias (arrU m c) (arrD m c) (arrW m c) (arrB m c) (Finset.range 4096) (i 0) (i 2)

theorem block9 (t : Fin cfg0.N) (i : S2x256x1408.Idx) : (outsAt0 m c t.val t.isLt).1 i
    = dInput (arrU m c) (arrD m c) (arrW m c) (arrB m c) (i 0) (rowBase t + (i 1).val) (laneCol t (i 2)) := by
  obtain ⟨p, y, x, rfl⟩ : ∃ p y x, i = ix3 p y x := ⟨i 0, i 1, i 2, eq_ix3 i⟩
  match p with
  | 0 => exact block9_0 m c t y x
  | 1 => exact block9_1 m c t y x

theorem rowBase_last (t : Fin cfg0.N) (h : t.val % 16 = 15) : Finset.Ico (rowBase t) 4096 = Finset.range 4096 := by
  have : rowBase t = 0 := by unfold rowBase; omega
  rw [this, Finset.range_eq_Ico]

theorem block10 (t : Fin cfg0.N) (h : t.val % 16 = 15) (i : S2x3x1408.Idx) : (outsAt0 m c t.val t.isLt).2.1 i
    = dTap (arrU m c) (arrD m c) (arrW m c) (arrB m c) (Finset.range 4096) (i 0) (i 1).val (laneCol t (i 2)) := by
  obtain ⟨p, y, x, rfl⟩ : ∃ p y x, i = ix3 p y x := ⟨i 0, i 1, i 2, eq_ix3 i⟩
  rw [← rowBase_last t h]
  match p with
  | 0 => exact block10_0 m c _ t rfl y x
  | 1 => exact block10_1 m c _ t rfl y x

theorem block11 (t : Fin cfg0.N) (h : t.val % 16 = 15) (i : S2x1x1408.Idx) : (outsAt0 m c t.val t.isLt).2.2.1 i
    = dBias (arrU m c) (arrD m c) (arrW m c) (arrB m c) (Finset.range 4096) (i 0) (laneCol t (i 2)) := by
  obtain ⟨p, y, x, rfl⟩ : ∃ p y x, i = ix3 p y x := ⟨i 0, i 1, i 2, eq_ix3 i⟩
  obtain rfl : y = 0 := Subsingleton.elim _ _
  rw [← rowBase_last t h]
  match p with
  | 0 => exact block11_0 m c _ t rfl x
  | 1 => exact block11_1 m c _ t rfl x

theorem array9 : (dats m 0 c).arrAt 9 cfg0.N = gradInput m c := by
  refine (dats m 0 c).arrAt_eq_of_covers 9 _ (by decide +kernel) fun t hf y => ?_
  have e := (index_facts t).2.2.2.2.2.2.2.2.2.1
  blk_simp
  rw [after0_9]
  refine (block9 m c t y).trans ?_
  unfold gradInput
  have e0 : (((win0_9.blk t).view.emb y) 0 : Fin 2) = y 0 := Fin.ext (by blk_simp [e])
  have e1 : (((win0_9.blk t).view.emb y) 1).val = rowBase t + (y 1).val := by blk_simp [e]; show (15 - t.val % 16) * 256 + _ = 256 * (15 - t.val % 16) + _; omega
  have e2 : (((win0_9.blk t).view.emb y) 2 : Fin 2816) = laneCol t (y 2) := Fin.ext (by blk_simp [e]; show t.val / 16 * 1408 + _ = 1408 * (t.val / 16) + _; omega)
  rw [e0, e1, e2]

theorem array10 : (dats m 0 c).arrAt 10 cfg0.N = gradTap m c := by
  refine (dats m 0 c).arrAt_eq_of_covers 10 _ (by decide +kernel) fun t hf y => ?_
  have e := (index_facts t).2.2.2.2.2.2.2.2.2.2.1
  blk_simp
  rw [after0_10]
  refine (block10 m c t ((flush0_10 t).mp hf) y).trans ?_
  unfold gradTap
  have e0 : (((win0_10.blk t).view.emb y) 0 : Fin 2) = y 0 := Fin.ext (by blk_simp [e])
  have e1 : (((win0_10.blk t).view.emb y) 1).val = (y 1).val := by blk_simp [e]
  have e2 : (((win0_10.blk t).view.emb y) 2 : Fin 2816) = laneCol t (y 2) := Fin.ext (by blk_simp [e]; show t.val / 16 * 1408 + _ = 1408 * (t.val / 16) + _; omega)
  rw [e0, e1, e2]

theorem array11 : (dats m 0 c).arrAt 11 cfg0.N = gradBias m c := by
  refine (dats m 0 c).arrAt_eq_of_covers 11 _ (by decide +kernel) fun t hf y => ?_
  have e := (index_facts t).2.2.2.2.2.2.2.2.2.2.2
  blk_simp
  rw [after0_11]
  refine (block11 m c t ((flush0_11 t).mp hf) y).trans ?_
  unfold gradBias
  have e0 : (((win0_11.blk t).view.emb y) 0 : Fin 2) = y 0 := Fin.ext (by blk_simp [e])
  have e2 : (((win0_11.blk t).view.emb y) 2 : Fin 2816) = laneCol t (y 2) := Fin.ext (by blk_simp [e]; show t.val / 16 * 1408 + _ = 1408 * (t.val / 16) + _; omega)
  rw [e0, e2]

/-- After the run the three results hold the gradients, and the arguments what they held. -/
theorem kernel_run : θ_run defs (onTc (τ := τ) (main (F := Ideal))) ⟨m, fun _ => 0, ρ⟩ (fun r => ∀ c : Dev nD,
      r.2.mem ((c : Thread nD τ).loc main_v0_0) = gradInput m c
      ∧ r.2.mem ((c : Thread nD τ).loc main_v0_1) = gradTap m c
      ∧ r.2.mem ((c : Thread nD τ).loc main_v0_2) = gradBias m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨((h.1 c).1 9).trans (array9 m c), ((h.1 c).1 10).trans (array10 m c), ((h.1 c).1 11).trans (array11 m c),
    h.2 c⟩) (θ_run_and (run_main m ρ) (unchanged m ρ))

end Cert.ConvGrad

end
-- ==== Proof.ConvRef.lean ====
/- What the reference computes of the convolution's gradient, at an index: the written-out gradient, for finite inputs. -/
module

public import proofs.«01_k».proof.Proof.ConvSpec
public import proofs.«01_k».proof.Proof.Gen.ReferenceIdeal.Run
public import Idealize.ShloMosaic.Lib.Tactic.CleanTypes

@[expose] public section

set_option maxRecDepth 16384

noncomputable section

namespace Cert.ConvGrad.Ref

open Idealize.ShloMosaic Idealize.ShloMosaic.TcCoe Idealize.ShloMosaic.Tactic Idealize.SL.Sem
open Cert.ReferenceIdeal Cert.ReferenceIdeal.Gen Cert.ReferenceIdeal.Value

variable (V0 : Valuation τ sig (Elt Ideal))

abbrev argU : (⟨2, ![4096, 5632]⟩ : Shape).Idx → EReal := V0 (Proc.devRef .tc main_arg0)
abbrev argD : (⟨2, ![4096, 2816]⟩ : Shape).Idx → EReal := V0 (Proc.devRef .tc main_arg1)
abbrev argW : (⟨2, ![3, 5632]⟩ : Shape).Idx → EReal := V0 (Proc.devRef .tc main_arg2)
abbrev argB : (⟨2, ![1, 5632]⟩ : Shape).Idx → EReal := V0 (Proc.devRef .tc main_arg3)

/-- The input under its two zero rows. -/
theorem padded (n : Fin 4098) (q : Fin 5632) : res_main_v2 V0 (ix2 n q) = padRow (argU V0) n.val q := by
  unfold res_main_v2 padRow argU
  clean_types
  pointwise
  by_cases h : n.val < 2
  · rw [dif_pos h, dif_neg (by omega)]
  · rw [dif_neg h, dif_pos (by omega)]

theorem shifted0 (r : Fin 4096) (q : Fin 5632) : res_main_v4 V0 (ix2 r q) = padRow (argU V0) r.val q := by
  unfold res_main_v4
  clean_types
  pointwise
  exact padded V0 _ q

theorem shifted1 (r : Fin 4096) (q : Fin 5632) : res_main_v13 V0 (ix2 r q) = padRow (argU V0) (r.val + 1) q := by
  unfold res_main_v13
  clean_types
  pointwise
  refine (padded V0 _ q).trans ?_
  congr 1; show 1 + r.val = _; omega

theorem shifted2 (r : Fin 4096) (q : Fin 5632) : res_main_v20 V0 (ix2 r q) = padRow (argU V0) (r.val + 2) q := by
  unfold res_main_v20
  clean_types
  pointwise
  refine (padded V0 _ q).trans ?_
  congr 1; show 2 + r.val = _; omega

theorem weight0 (y : Fin 1) (q : Fin 5632) : res_main_v7 V0 (ix2 y q) = argW V0 (ix2 (0 : Fin 3) q) := by
  unfold res_main_v7 argW
  clean_types
  pointwise

theorem weight1 (y : Fin 1) (q : Fin 5632) : res_main_v16 V0 (ix2 y q) = argW V0 (ix2 (1 : Fin 3) q) := by
  unfold res_main_v16 argW
  clean_types
  pointwise

theorem weight2 (y : Fin 1) (q : Fin 5632) : res_main_v23 V0 (ix2 y q) = argW V0 (ix2 (2 : Fin 3) q) := by
  unfold res_main_v23 argW
  clean_types
  pointwise

/-- The convolution. -/
theorem convolved (r : Fin 4096) (q : Fin 5632) :
    res_main_v26 V0 (ix2 r q) = conv (argU V0) (argW V0) (argB V0) r.val q := by
  unfold res_main_v26
  clean_types
  pointwise [shifted0, shifted1, shifted2, weight0, weight1, weight2]
  rfl

theorem gate (r : Fin 4096) (X : Fin 2816) :
    res_main_v27 V0 (ix2 r X) = conv (argU V0) (argW V0) (argB V0) r.val (halfCol 0 X) := by
  unfold res_main_v27
  clean_types
  pointwise
  refine (convolved V0 r _).trans (congrArg _ (Fin.ext ?_))
  show _ = 2816 * 0 + X.val
  simp

theorem up (r : Fin 4096) (X : Fin 2816) :
    res_main_v28 V0 (ix2 r X) = conv (argU V0) (argW V0) (argB V0) r.val (halfCol 1 X) := by
  unfold res_main_v28
  clean_types
  pointwise
  refine (convolved V0 r _).trans (congrArg _ (Fin.ext ?_))
  show _ = 2816 * 1 + X.val
  simp

theorem sigmoid (r : Fin 4096) (X : Fin 2816) :
    res_main_v29_2 V0 (ix2 r X) = sigm (conv (argU V0) (argW V0) (argB V0) r.val (halfCol 0 X)) := by
  unfold res_main_v29_2 sigm
  clean_types
  pointwise [gate]
  simp

/-- For finite `g`, `d`, `s`: the two ways to write the gated product's gradient. -/
theorem silu_eq (d g u s : ℝ) : ((d : EReal) * u) * s + (g * ((d : EReal) * u)) * (s * (1 - s)) = d * u * (s * (1 + g * (1 - s))) := by
  norm_cast
  congr 1
  ring

/-- The sigmoid of a finite number is finite. -/
theorem sigm_real (g : ℝ) : ∃ s : ℝ, sigm g = s := by
  refine ⟨1 * (1 / (1 + Real.exp (0 - g))), ?_⟩
  have h : (0 : EReal) - (g : EReal) = ((0 - g : ℝ) : EReal) := by norm_cast
  have h1 : (1 : EReal) + ((Real.exp (0 - g) : ℝ) : EReal) = ((1 + Real.exp (0 - g) : ℝ) : EReal) := by norm_cast
  unfold sigm
  rw [h, Ideal.exp_coe, h1, Ideal.div_coe (by positivity)]
  norm_cast

/-- The inputs are finite. -/
structure Finite : Prop where
  u : ∀ i, ∃ x : ℝ, argU V0 i = x
  d : ∀ i, ∃ x : ℝ, argD V0 i = x
  w : ∀ i, ∃ x : ℝ, argW V0 i = x
  b : ∀ i, ∃ x : ℝ, argB V0 i = x

variable {V0}

theorem Finite.padRow (h : Finite V0) (n : ℕ) (q : Fin 5632) : ∃ x : ℝ, padRow (argU V0) n q = x := by
  unfold ConvGrad.padRow
  split
  · exact h.u _
  · exact ⟨0, rfl⟩

theorem Finite.conv (h : Finite V0) (n : ℕ) (q : Fin 5632) : ∃ x : ℝ, conv (argU V0) (argW V0) (argB V0) n q = x := by
  unfold ConvGrad.conv
  obtain ⟨b, hb⟩ := h.b (ix2 (0 : Fin 1) q)
  obtain ⟨w0, h0⟩ := h.w (ix2 (0 : Fin 3) q)
  obtain ⟨w1, h1⟩ := h.w (ix2 (1 : Fin 3) q)
  obtain ⟨w2, h2⟩ := h.w (ix2 (2 : Fin 3) q)
  obtain ⟨p0, g0⟩ := h.padRow n q
  obtain ⟨p1, g1⟩ := h.padRow (n + 1) q
  obtain ⟨p2, g2⟩ := h.padRow (n + 2) q
  rw [hb, h0, h1, h2, g0, g1, g2]
  exact ⟨b + p0 * w0 + p1 * w1 + p2 * w2, by norm_cast⟩

/-- The gradient that reaches the convolution's result. -/
theorem atConv (h : Finite V0) (r : Fin 4096) (p : Fin 2) (X : Fin 2816) : res_main_v34 V0 (ix2 r (halfCol p X))
    = dconv (argU V0) (argD V0) (argW V0) (argB V0) p r.val X := by
  obtain ⟨g, hg⟩ := h.conv r.val (halfCol 0 X)
  obtain ⟨u, hu⟩ := h.conv r.val (halfCol 1 X)
  obtain ⟨d, hd⟩ := h.d (ix2 r X)
  obtain ⟨s, hs⟩ := sigm_real g
  unfold res_main_v34 res_main_v32 res_main_v29_0 dconv
  rw [dif_pos r.isLt]
  clean_types
  match p with
  | 0 =>
    conv_lhs => rw [show halfCol 0 X = ⟨X.val, by omega⟩ from Fin.ext (by show 2816 * 0 + X.val = _; simp)]
    pointwise [gate, up, sigmoid]
    rw [← show argD V0 (ix2 r X) = V0 (Proc.devRef .tc main_arg1) (ix2 r X) from rfl, hd, hg, hu, hs]
    exact silu_eq d g u s
  | 1 =>
    conv_lhs => rw [show halfCol 1 X = ⟨2816 + X.val, by omega⟩ from rfl]
    pointwise [gate, up, sigmoid]
    exact mul_comm _ _

/-- A row sum of `padRow` times the gradient, as the reference reduces it. -/
theorem tapSum (h : Finite V0) (k : ℕ) (p : Fin 2) (X : Fin 2816) (f : Fin 4096 → EReal)
    (hf : ∀ r, f r = padRow (argU V0) (r.val + k) (halfCol p X)) :
    ∑ r : Fin 4096, f r * res_main_v34 V0 (ix2 r (halfCol p X))
      = dTap (argU V0) (argD V0) (argW V0) (argB V0) (Finset.range 4096) p k X := by
  unfold dTap
  rw [Finset.sum_range]
  exact Finset.sum_congr rfl fun r _ => by rw [hf, atConv h, mul_comm]

theorem taps (h : Finite V0) (k : Fin 3) (p : Fin 2) (X : Fin 2816) : res_main_v66 V0 (ix2 k (halfCol p X))
    = dTap (argU V0) (argD V0) (argW V0) (argB V0) (Finset.range 4096) p k.val X := by
  have h0 := tapSum h 0 p X _ fun r => shifted0 V0 r (halfCol p X)
  have h1 := tapSum h 1 p X _ fun r => shifted1 V0 r (halfCol p X)
  have h2 := tapSum h 2 p X _ fun r => shifted2 V0 r (halfCol p X)
  unfold res_main_v66
  clean_types
  match k with
  | 0 => pointwise; exact (Fin.sum_univ_one _).trans h0
  | 1 => pointwise; exact (Fin.sum_univ_one _).trans h1
  | 2 => pointwise; exact (Fin.sum_univ_one _).trans h2

theorem bias (h : Finite V0) (y : Fin 1) (p : Fin 2) (X : Fin 2816) : res_main_v82 V0 (ix2 y (halfCol p X))
    = dBias (argU V0) (argD V0) (argW V0) (argB V0) (Finset.range 4096) p X := by
  unfold res_main_v82 dBias
  rw [Finset.sum_range]
  clean_types
  pointwise [atConv h]
  exact Fin.sum_univ_one _

/-- The input's gradient. -/
theorem input (h : Finite V0) (r : Fin 4096) (p : Fin 2) (X : Fin 2816) : res_main_v71 V0 (ix2 r (halfCol p X))
    = dInput (argU V0) (argD V0) (argW V0) (argB V0) p r.val X := by
  unfold res_main_v71 res_main_v68 dInput
  clean_types
  pointwise [atConv h, weight0, weight1, weight2]
  have zero : ∀ n, ¬ n < 4096 → dconv (argU V0) (argD V0) (argW V0) (argB V0) p n X = 0 := fun n hn => dif_neg hn
  have e1 : 2 + r.val - 1 = r.val + 1 := by omega
  have e2 : 2 + r.val = r.val + 2 := by omega
  congr 1
  · congr 1
    · exact mul_comm _ _
    · split
      · rw [e1]; exact mul_comm _ _
      · rw [zero _ (by omega), mul_zero]
  · split
    · rw [e2]; exact mul_comm _ _
    · rw [zero _ (by omega), mul_zero]

/-- The three results of the reference. -/
theorem results (h : Finite V0) :
    ((concatenate S2x4096x2816 0 [⟨S1x4096x2816, (broadcastInDim S1x4096x2816 ![1, 2] bcast_S4096x2816_S1x4096x2816_1_2 (extractStridedSlice S4096x2816 ![0, 0] (res_main_v71 V0) slices_S4096x5632_S4096x2816_0_0))⟩, ⟨S1x4096x2816, (broadcastInDim S1x4096x2816 ![1, 2] bcast_S4096x2816_S1x4096x2816_1_2 (extractStridedSlice S4096x2816 ![0, 2816] (res_main_v71 V0) slices_S4096x5632_S4096x2816_0_2816))⟩] concatenates_S1x4096x2816_S1x4096x2816_S2x4096x2816_d0
        : S2x4096x2816.Idx → EReal) = fun i => dInput (argU V0) (argD V0) (argW V0) (argB V0) (i 0) (i 1).val (i 2))
      ∧ ((concatenate S2x3x2816 0 [⟨S1x3x2816, (broadcastInDim S1x3x2816 ![1, 2] bcast_S3x2816_S1x3x2816_1_2 (extractStridedSlice S3x2816 ![0, 0] (res_main_v66 V0) slices_S3x5632_S3x2816_0_0))⟩, ⟨S1x3x2816, (broadcastInDim S1x3x2816 ![1, 2] bcast_S3x2816_S1x3x2816_1_2 (extractStridedSlice S3x2816 ![0, 2816] (res_main_v66 V0) slices_S3x5632_S3x2816_0_2816))⟩] concatenates_S1x3x2816_S1x3x2816_S2x3x2816_d0
        : S2x3x2816.Idx → EReal) = fun i => dTap (argU V0) (argD V0) (argW V0) (argB V0) (Finset.range 4096) (i 0) (i 1).val (i 2))
      ∧ ((concatenate S2x1x2816 0 [⟨S1x1x2816, (broadcastInDim S1x1x2816 ![1, 2] bcast_S1x2816_S1x1x2816_1_2 (extractStridedSlice S1x2816 ![0, 0] (res_main_v82 V0) slices_S1x5632_S1x2816_0_0))⟩, ⟨S1x1x2816, (broadcastInDim S1x1x2816 ![1, 2] bcast_S1x2816_S1x1x2816_1_2 (extractStridedSlice S1x2816 ![0, 2816] (res_main_v82 V0) slices_S1x5632_S1x2816_0_2816))⟩] concatenates_S1x1x2816_S1x1x2816_S2x1x2816_d0
        : S2x1x2816.Idx → EReal) = fun i => dBias (argU V0) (argD V0) (argW V0) (argB V0) (Finset.range 4096) (i 0) (i 2)) := by
  have c0 : ∀ (X : Fin 2816) (b : X.val < 5632), (⟨X.val, b⟩ : Fin 5632) = halfCol 0 X := fun X b => Fin.ext (by show X.val = 2816 * 0 + _; simp)
  have c1 : ∀ (X : Fin 2816) (b : 2816 + X.val < 5632), (⟨2816 + X.val, b⟩ : Fin 5632) = halfCol 1 X := fun X b => rfl
  refine ⟨funext fun i => ?_, funext fun i => ?_, funext fun i => ?_⟩ <;>
  · obtain ⟨p, y, x, rfl⟩ : ∃ p y x, i = ix3 p y x := ⟨i 0, i 1, i 2, eq_ix3 i⟩
    clean_types
    match p with
    | 0 =>
      pointwise
      simp only [c0]
      first | exact input h y 0 x | exact taps h y 0 x | exact bias h 0 0 x
    | 1 =>
      pointwise
      simp only [c1]
      first | exact input h y 1 x | exact taps h y 1 x | exact bias h 0 1 x

end Cert.ConvGrad.Ref

end
-- ==== Proof.FiniteInputs.lean ====
/- The precondition read back: where it holds, every entry of an argument is a real number. -/
module

public import proofs.«01_k».proof.Pre_finite
public import Idealize.ShloMosaic.Lib.ReduceAll
public import Idealize.ShloMosaic.Lib.Pointwise

@[expose] public section

set_option maxRecDepth 16384

noncomputable section

namespace Cert.FiniteInputs

open Idealize.ShloMosaic

/-- One entry: a value whose magnitude is below +∞ is a real number. -/
theorem real_of_lt (x : EReal) (h : Ideal.cmp .olt (max x (-x)) (Ideal.ofBits .f32 0x7F800000#32) = 1#1) : ∃ y : ℝ, x = y := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe y => exact ⟨y, rfl⟩

/-- A whole array: `all(|x| < +∞)`. -/
theorem real_of_all {s u : Shape} (z : (⟨0, ![]⟩ : Shape).BroadcastsInDim s (![] : Fin 0 → Fin s.rank)) {axes : List (Fin s.rank)}
    (x : FVec Ideal s .f32) (init : u.Idx → BitVec 1) (h : s.ReducesTo axes ⟨0, ![]⟩) (hu : 0 < u.numel)
    (e : Host.reduce IntOp.andi (cmpf .olt (Host.absf x) (broadcastInDim s ![] z (constant ⟨0, ![]⟩ .f32 0x7F800000#32))) init h hu
      (ix0 : (⟨0, ![]⟩ : Shape).Idx) = 1#1) (i : s.Idx) : ∃ y : ℝ, (x i : EReal) = y :=
  haveI : Subsingleton (⟨0, ![]⟩ : Shape).Idx := ⟨fun a b => funext fun k => k.elim0⟩
  real_of_lt _ (Host.reduce_andi_all _ init h hu ix0 e i)

/-- The facts that the precondition's program states. -/
theorem facts : Cert.Pre_finite.Facts where
  bcast_S_S4096x5632 := by decide
  reducesTo_S4096x5632_S_d0_1 := by decide
  h_S_ := by decide
  bcast_S_S4096x2816 := by decide
  reducesTo_S4096x2816_S_d0_1 := by decide
  bcast_S_S3x5632 := by decide
  reducesTo_S3x5632_S_d0_1 := by decide
  bcast_S_S1x5632 := by decide
  reducesTo_S1x5632_S_d0_1 := by decide

/-- Both halves of a conjunction of bits. -/
theorem both {a b : BitVec 1} (h : IntOp.andi a b = 1#1) : a = 1#1 ∧ b = 1#1 := by
  revert a b; decide

/-- Where the precondition holds of four arrays, all their entries are real numbers. -/
theorem real (hf : Cert.Pre_finite.Facts) (u : FVec Ideal ⟨2, ![4096, 5632]⟩ .f32) (d : FVec Ideal ⟨2, ![4096, 2816]⟩ .f32)
    (w : FVec Ideal ⟨2, ![3, 5632]⟩ .f32) (b : FVec Ideal ⟨2, ![1, 5632]⟩ .f32)
    (h : Cert.Pre_finite.fn (F := Ideal) u d w b = fun _ => 1#1) :
    (∀ i, ∃ y : ℝ, (u i : EReal) = y) ∧ (∀ i, ∃ y : ℝ, (d i : EReal) = y) ∧ (∀ i, ∃ y : ℝ, (w i : EReal) = y)
      ∧ (∀ i, ∃ y : ℝ, (b i : EReal) = y) := by
  have e := congrFun h ix0
  unfold Cert.Pre_finite.fn Cert.Pre_finite.fn_part1 at e
  obtain ⟨e, eb⟩ := both e
  obtain ⟨e, ew⟩ := both e
  obtain ⟨eu, ed⟩ := both e
  exact ⟨real_of_all hf.bcast_S_S4096x5632 u (constantI _ 1 1#1) hf.reducesTo_S4096x5632_S_d0_1 hf.h_S_ eu,
    real_of_all hf.bcast_S_S4096x2816 d (constantI _ 1 1#1) hf.reducesTo_S4096x2816_S_d0_1 hf.h_S_ ed,
    real_of_all hf.bcast_S_S3x5632 w (constantI _ 1 1#1) hf.reducesTo_S3x5632_S_d0_1 hf.h_S_ ew,
    real_of_all hf.bcast_S_S1x5632 b (constantI _ 1 1#1) hf.reducesTo_S1x5632_S_d0_1 hf.h_S_ eb⟩

end Cert.FiniteInputs

end
-- ==== Proof.KernelFrame.lean ====
/- The frame of the kernel as printed, from the frame proved of its idealization: no operation was rewritten, so the two
   programs are the same text, and the frame of the second was proved at any floats. -/
module

public import proofs.«01_k».proof.Defs
public import proofs.«01_k».proof.Proof.ConvFrame
public import proofs.«01_k».proof.Proof.Gen.Kernel

@[expose] public section

set_option maxRecDepth 16384

noncomputable section

namespace Cert.ConvGrad

open Idealize.ShloMosaic Idealize.SL.Sem

local instance : Cert.Kernel.Facts := Cert.Kernel.Gen.facts
local instance : Cert.KernelIdeal.Facts := Cert.KernelIdeal.Gen.facts

/-- The two body tables are the same. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_eq : Cert.Kernel.defs (F := Bits) = Cert.KernelIdeal.defs (F := Bits) :=
  congrArg (Pipeline.defs (Cert.KernelIdeal.pcfgs (F := Bits))) bodies_eq

theorem main_eq : Cert.Kernel.main (F := Bits) = Cert.KernelIdeal.main (F := Bits) := rfl

theorem kernel_frame : Cert.quiescent_Kernel := by
  intro m ρ _
  have h : ∀ (D) (M), D = Cert.KernelIdeal.defs (F := Bits) → M = Cert.KernelIdeal.main (F := Bits) →
      θ_run D (onTc (τ := Cert.KernelIdeal.τ) M) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) := by
    rintro _ _ rfl rfl
    exact Cert.KernelIdeal.Gen.frame (F := Bits) m ρ
  exact h _ _ defs_eq main_eq

end Cert.ConvGrad

end
-- ==== Proof.ConvClaim.lean ====
/- The claims about the convolution's gradient: frames, and the equation between kernel and reference. -/
module

public import proofs.«01_k».proof.Defs
public import proofs.«01_k».proof.Proof.ConvValue
public import proofs.«01_k».proof.Proof.ConvRef
public import proofs.«01_k».proof.Proof.FiniteInputs
public import proofs.«01_k».proof.Proof.KernelFrame
public import Idealize.ShloMosaic.Lib.Quiescent

@[expose] public section

set_option maxRecDepth 16384

noncomputable section

namespace Cert.ConvGrad

open Idealize.ShloMosaic Idealize.SL.Sem

/-- The reference's frame. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2.2, sem_eq_zero_of_no_sems (by decide) r.2⟩) (Cert.ReferenceIdeal.Value.run (F := Ideal) m ρ)

/-- Over the extended reals, on finite inputs, kernel and reference have the same results. -/
theorem algebraic : Cert.algebraic_KernelIdeal_ReferenceIdeal_pre_finite (hKernelIdeal := Cert.KernelIdeal.Gen.facts)
    (hReferenceIdeal := Cert.ReferenceIdeal.Gen.facts) (hPre_finite := Cert.FiniteInputs.facts) := by
  intro m ρ m' ρ' hpre hm
  refine ⟨fun c => gradInput m c, fun c => gradTap m c, fun c => gradBias m c, kernel_run m ρ, ?_⟩
  refine (θ_run Cert.ReferenceIdeal.defs _ _).mono (fun r h c => ?_) (Cert.ReferenceIdeal.Value.run (F := Ideal) m' ρ')
  obtain ⟨a0, a1, a2, a3⟩ := hm c
  obtain ⟨hu, hd, hw, hb⟩ := Cert.FiniteInputs.real _ _ _ _ _ (hpre c)
  have eu : Ref.argU (StableHlo.launchContents m' c) = arrU m c := a0
  have ed : Ref.argD (StableHlo.launchContents m' c) = arrD m c := a1
  have ew : Ref.argW (StableHlo.launchContents m' c) = arrW m c := a2
  have eb : Ref.argB (StableHlo.launchContents m' c) = arrB m c := a3
  have fin : Ref.Finite (StableHlo.launchContents m' c) :=
    ⟨fun i => by rw [eu]; exact hu i, fun i => by rw [ed]; exact hd i, fun i => by rw [ew]; exact hw i, fun i => by rw [eb]; exact hb i⟩
  obtain ⟨r0, r1, r2⟩ := Ref.results fin
  rw [eu, ed, ew, eb] at r0 r1 r2
  obtain ⟨h0, h1, h2, h3⟩ := h c
  exact ⟨h0.trans r0, h1.trans r1, h2.trans r2, h3⟩

end Cert.ConvGrad

end
-- ==== Proof.OutDx.lean ====
/- The gradient of the output product of the feed-forward layer at its activation:
   `dact[r, k] = Σ_d dcur[r, d] · w_out[k, d]`, kernel and reference. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.OutDx

open Idealize.ShloMosaic Idealize.ShloMosaic.TcCoe Idealize.SL.Sem
open Cert.Kernel2Ideal Cert.Kernel2Ideal.Gen

variable (m : (ℓ : Loc nD τ sig) → Buf (Elt Ideal) ℓ) (ρ : Dev nD → PrngReg) (c : Dev nD)

/-- The incoming gradient and the weight, as launched. -/
def dcur : FVec Ideal S4096x1024 .bf16 := m ((c : Thread nD τ).loc main_arg0)
def weight : FVec Ideal S1x1x2816x1024 .bf16 := m ((c : Thread nD τ).loc main_arg1)

/-- The activation's gradient. -/
def grad : FVec Ideal S4096x2816 .f32 := fun i =>
  ∑ d : Fin 1024, dcur m c (ix2 (i 0) d) * weight m c (ix4 0 0 (i 1) d)

/-- Where the blocks lie. -/
theorem index_facts : ∀ t : Fin grid0.N, win0_0.index t = ![t.val, 0] ∧ win0_1.index t = ![0, 0, 0, 0] ∧ win0_2.index t = ![t.val, 0] := by
  decide +kernel

/-- After the run the result array is the gradient. -/
theorem array2 : (dats m 0 c).arrAt 2 cfg0.N = grad m c := by
  refine (dats m 0 c).arrAt_eq_of_covers 2 _ (by decide +kernel) fun t hf y => ?_
  blk_simp
  rw [after0_2]
  frame_out
  unfold grad dcur weight
  obtain ⟨e0, e1, e2⟩ := index_facts t
  pointwise [k0_pay1]
  refine Fin.sum_fin_congr fun d => ?_
  congr 1
  · blk_ext [iblk, V, e0, e2]
  · blk_ext [iblk, V, e1, e2]

/-- The reference's frame. -/
theorem reference_frame : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run (F := Ideal) m ρ)

/-- After the kernel's run the result is the gradient, and the arguments what they were. -/
theorem kernel_run : θ_run defs (onTc (τ := τ) (main (F := Ideal))) ⟨m, fun _ => 0, ρ⟩ (fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2⟩) (Value.run_blocks m ρ)

/-- The reference's product, of the same arrays, is the gradient. -/
theorem reference_value : Host.dotGeneral Cert.Reference2Ideal.dot_S4096x1024_S2816x1024_S4096x2816_1_1_0_0_n_n none
      (extf .f32 (dcur m c) Cert.Reference2Ideal.Facts₀.bitsLt_bf16_f32)
      (extf .f32 (shapeCast _ (weight m c) Cert.Reference2Ideal.Facts₀.shapeCasts_S1x1x2816x1024_S2816x1024) Cert.Reference2Ideal.Facts₀.bitsLt_bf16_f32)
    = grad m c := by
  funext i
  unfold grad
  obtain ⟨r, k, rfl⟩ : ∃ r k, i = ix2 r k := ⟨i 0, i 1, eq_ix2 i⟩
  pointwise

/-- Over the extended reals kernel and reference have the same result. -/
theorem algebraic : Cert.algebraic_Kernel2Ideal_Reference2Ideal (hKernel2Ideal := Cert.Kernel2Ideal.Gen.facts)
    (hReference2Ideal := Cert.Reference2Ideal.Gen.facts) := by
  intro m ρ m' ρ' _ hm
  refine ⟨fun c => grad m c, kernel_run m ρ, ?_⟩
  refine (θ_run Cert.Reference2Ideal.defs _ _).mono (fun r h c => ?_) (Cert.Reference2Ideal.Value.run (F := Ideal) m' ρ')
  obtain ⟨a0, a1⟩ := hm c
  obtain ⟨h0, h1⟩ := h c
  rw [a0, a1] at h0
  exact ⟨h0.trans (reference_value m c), h1⟩

end Cert.OutDx

end
-- ==== Proof.OutDw.lean ====
/- The gradient of the output product of the feed-forward layer at its weight:
   `dw[k, d] = Σ_r act[r, k] · dcur[r, d]`, in f32 and rounded, kernel and reference. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.OutDw

open Idealize.ShloMosaic Idealize.ShloMosaic.TcCoe Idealize.SL.Sem
open Cert.Kernel3Ideal Cert.Kernel3Ideal.Gen

variable (m : (ℓ : Loc nD τ sig) → Buf (Elt Ideal) ℓ) (ρ : Dev nD → PrngReg) (c : Dev nD)

/-- The activation and the incoming gradient, as launched. -/
def act : FVec Ideal S4096x2816 .bf16 := m ((c : Thread nD τ).loc main_arg0)
def dcur : FVec Ideal S4096x1024 .bf16 := m ((c : Thread nD τ).loc main_arg1)

/-- The weight's gradient at row `k` and column `d`. -/
def entry (k : Fin 2816) (d : Fin 1024) : EReal := ∑ r : Fin 4096, act m c (ix2 r k) * dcur m c (ix2 r d)

/-- The weight's gradient as an array, and the same rounded: over the extended reals a rounding changes nothing. -/
def grad : FVec Ideal S1x2816x1024 .f32 := fun i => entry m c (i 1) (i 2)
def gradNarrow : FVec Ideal S1x2816x1024 .bf16 := fun i => entry m c (i 1) (i 2)

/-- Where the blocks lie. -/
theorem index_facts : ∀ t : Fin grid0.N, win0_0.index t = ![0, t.val] ∧ win0_1.index t = ![0, 0, 0] ∧ win0_2.index t = ![0, t.val, 0]
    ∧ win0_3.index t = ![0, t.val, 0] := by
  decide +kernel

/-- The blocks of the activation and of the incoming gradient at a grid point. -/
abbrev blockAct (t : Fin cfg0.N) : FVec Ideal S4096x256 .bf16 := iblk m c 0 t
abbrev blockDcur (t : Fin cfg0.N) : FVec Ideal S1x4096x1024 .bf16 := iblk m c 1 t

/-- What a grid point leaves in the f32 block. -/
theorem block2 (t : Fin cfg0.N) (k : Fin 256) (d : Fin 1024) : (outsAt0 m c t).1 (ix3 0 k d)
    = ∑ r : Fin 4096, blockAct m c t (ix2 r k) * blockDcur m c t (ix3 0 r d) := by
  unfold outsAt0
  dsimp only
  frame_out
  pointwise [k0_pay2, k0_pay1]

/-- The rounded block is the f32 block. -/
theorem block3 (t : Fin cfg0.N) (k : Fin 256) (d : Fin 1024) : (outsAt0 m c t).2 (ix3 0 k d)
    = ∑ r : Fin 4096, blockAct m c t (ix2 r k) * blockDcur m c t (ix3 0 r d) := by
  unfold outsAt0
  dsimp only
  frame_out
  pointwise [k0_pay3, k0_pay2, k0_pay1]

/-- A block's sum is the whole arrays' sum, at the block's place. -/
theorem place (t : Fin cfg0.N) (k : Fin 256) (d : Fin 1024) (K : Fin 2816) (D : Fin 1024) (hK : K.val = t.val * 256 + k.val) (hD : D.val = d.val) :
    ∑ r : Fin 4096, blockAct m c t (ix2 r k) * blockDcur m c t (ix3 0 r d) = entry m c K D := by
  unfold entry act dcur
  obtain ⟨e0, e1, -, -⟩ := index_facts t
  refine Finset.sum_congr rfl fun r _ => ?_
  congr 1
  · blk_ext [iblk, V, e0]
  · blk_simp [iblk]
    entry_read
    pointwise
    blk_ext [e1]

theorem array2 : (dats m 0 c).arrAt 2 cfg0.N = grad m c := by
  refine (dats m 0 c).arrAt_eq_of_covers 2 _ (by decide +kernel) fun t hf y => ?_
  obtain ⟨-, -, e2, -⟩ := index_facts t
  blk_simp
  rw [after0_2]
  obtain ⟨z, k, d, rfl⟩ : ∃ z k d, y = ix3 z k d := ⟨y 0, y 1, y 2, eq_ix3 y⟩
  obtain rfl : z = 0 := Subsingleton.elim _ _
  exact (block2 m c t k d).trans (place m c t k d _ _ (by blk_simp [e2]) (by blk_simp [e2]))

theorem array3 : (dats m 0 c).arrAt 3 cfg0.N = gradNarrow m c := by
  refine (dats m 0 c).arrAt_eq_of_covers 3 _ (by decide +kernel) fun t hf y => ?_
  obtain ⟨-, -, -, e3⟩ := index_facts t
  blk_simp
  rw [after0_3]
  obtain ⟨z, k, d, rfl⟩ : ∃ z k d, y = ix3 z k d := ⟨y 0, y 1, y 2, eq_ix3 y⟩
  obtain rfl : z = 0 := Subsingleton.elim _ _
  exact (block3 m c t k d).trans (place m c t k d _ _ (by blk_simp [e3]) (by blk_simp [e3]))

/-- After the kernel's run the results hold the gradient, and the arguments what they held. -/
theorem kernel_run : θ_run defs (onTc (τ := τ) (main (F := Ideal))) ⟨m, fun _ => 0, ρ⟩ (fun r => ∀ c : Dev nD,
      r.2.mem ((c : Thread nD τ).loc main_v1_0) = grad m c
      ∧ r.2.mem ((c : Thread nD τ).loc main_v1_1) = gradNarrow m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2.1.trans (array3 m c), (h c).2.2⟩) (Value.run_blocks m ρ)

/-- The reference's product, before the leading unit axis is put on. -/
abbrev product : FVec Ideal Cert.Reference3Ideal.S1x2816x1024 .f32 :=
  broadcastInDim Cert.Reference3Ideal.S1x2816x1024 ![1, 2] Cert.Reference3Ideal.Facts₀.bcast_S2816x1024_S1x2816x1024_1_2
    (transpose Cert.Reference3Ideal.S2816x1024 [1, 0]
      (Host.dotGeneral Cert.Reference3Ideal.dot_S4096x1024_S4096x2816_S1024x2816_0_0_1_1_n_n none
        (extf .f32 (dcur m c) Cert.Reference3Ideal.Facts₀.bitsLt_bf16_f32) (extf .f32 (act m c) Cert.Reference3Ideal.Facts₀.bitsLt_bf16_f32))
      Cert.Reference3Ideal.Facts₀.transposes_S1024x2816_S2816x1024_1_0)

theorem product_apply (i : Cert.Reference3Ideal.S1x2816x1024.Idx) : product m c i = entry m c (i 1) (i 2) := by
  unfold entry
  obtain ⟨z, k, d, rfl⟩ : ∃ z k d, i = ix3 z k d := ⟨i 0, i 1, i 2, eq_ix3 i⟩
  pointwise [product]
  exact Finset.sum_congr rfl fun r _ => mul_comm _ _

/-- The reference's frame. -/
theorem reference_frame : Cert.quiescent_Reference3Ideal (hReference3Ideal := Cert.Reference3Ideal.Gen.facts) := fun m ρ _ =>
  (θ_run Cert.Reference3Ideal.defs _ _).mono
    (fun r h => ⟨fun c => (h c).2.2, sem_eq_zero_of_no_sems (by decide) r.2⟩) (Cert.Reference3Ideal.Value.run (F := Ideal) m ρ)

/-- Over the extended reals kernel and reference have the same results. -/
theorem algebraic : Cert.algebraic_Kernel3Ideal_Reference3Ideal (hKernel3Ideal := Cert.Kernel3Ideal.Gen.facts)
    (hReference3Ideal := Cert.Reference3Ideal.Gen.facts) := by
  intro m ρ m' ρ' _ hm
  refine ⟨fun c => grad m c, fun c => gradNarrow m c, kernel_run m ρ, ?_⟩
  refine (θ_run Cert.Reference3Ideal.defs _ _).mono (fun r h c => ?_) (Cert.Reference3Ideal.Value.run (F := Ideal) m' ρ')
  obtain ⟨a0, a1⟩ := hm c
  obtain ⟨h0, h1, h2⟩ := h c
  rw [a0, a1] at h0 h1
  exact ⟨h0.trans (funext fun i => product_apply m c i), h1.trans (funext fun i => product_apply m c i), h2⟩

end Cert.OutDw

end
-- ==== Proof.InDxSpec.lean ====
/- The gradient of the input product of the feed-forward layer at the hidden row before its normalisation, written out. -/
module

public import Idealize.ShloMosaic.Lib.Pipeline.ValueKit
public import Idealize.ShloMosaic.Lib.Pointwise

@[expose] public section

set_option maxRecDepth 16384

noncomputable section

namespace Cert.InDx

open Idealize.ShloMosaic

/-! ## The gradient of one row's normalisation `y = h · rsqrt(mean(h²) + ε) · g` -/

/-- The constants as they are written: the row's width, `ε`, and one half, negated. -/
abbrev width : EReal := Ideal.ofBits .f32 0x44800000#32
abbrev eps : EReal := Ideal.ofBits .f32 0x358637BD#32
abbrev minusHalf : EReal := Ideal.ofBits .f32 0xBF000000#32

/-- The mean square of a row, plus `ε`. -/
def meanSquare (h : Fin 1024 → EReal) : EReal := Ideal.div (∑ x, h x * h x) width + eps

/-- The factor a row is scaled by. -/
def scale (h : Fin 1024 → EReal) : EReal := Ideal.rsqrt (meanSquare h)

/-- What the scale's dependence on the row contributes, before the row's own entry is multiplied in. -/
def shift (p h g : Fin 1024 → EReal) : EReal :=
  ∑ _x : Fin 1, Ideal.div ((∑ x, h x * (p x * g x)) * (minusHalf * Ideal.div (scale h) (meanSquare h))) width

/-- The gradient at the row: `d` passes through, `p` comes back through the normalisation. -/
def rowGrad (d : EReal) (p h g : Fin 1024 → EReal) (k : Fin 1024) : EReal :=
  d + (p k * g k * scale h + h k * shift p h g + shift p h g * h k)

/-! ## The product that comes back -/

variable (duu : FVec Ideal ⟨3, ![2, 4096, 2816]⟩ .bf16) (w : FVec Ideal ⟨4, ![4, 1, 1024, 1408]⟩ .bf16)

/-- Column block `s` of the product: half `s % 2` of plane `s / 2`, against block `s` of the weight. -/
def partProduct (r : Fin 4096) (k : Fin 1024) (s : Fin 4) : EReal :=
  ∑ x : Fin 1408, duu (ix3 ⟨s.val / 2, by omega⟩ r ⟨s.val % 2 * 1408 + x.val, by omega⟩) * w (ix4 s 0 k x)

/-- The gradient at the normalised row. -/
def product (r : Fin 4096) (k : Fin 1024) : EReal := ∑ s : Fin 4, partProduct duu w r k s

/-- The same product with each plane's columns in one sum. -/
theorem product_planes (r : Fin 4096) (k : Fin 1024) :
    (∑ x : Fin 2816, duu (ix3 0 r x) * w (ix4 ⟨x.val / 1408, by omega⟩ 0 k ⟨x.val % 1408, by omega⟩))
      + ∑ x : Fin 2816, duu (ix3 1 r x) * w (ix4 ⟨(2816 + x.val) / 1408, by omega⟩ 0 k ⟨(2816 + x.val) % 1408, by omega⟩)
    = product duu w r k := by
  unfold product
  rw [Fin.sum_univ_add (a := 2) (b := 2)]
  congr 1
  · refine (Fin.sum_mul_add_congr (S := 2) (n := 1408) fun s x hl => ?_).symm
    have e : (Fin.castAdd 2 s).val = s.val := rfl
    congr 1 <;> (congr 1; blk_ext; all_goals omega)
  · refine (Fin.sum_mul_add_congr (S := 2) (n := 1408) fun s x hl => ?_).symm
    have e : (Fin.natAdd 2 s).val = 2 + s.val := rfl
    congr 1 <;> (congr 1; blk_ext; all_goals omega)

/-! ## The results -/

variable (dcur h : FVec Ideal ⟨2, ![4096, 1024]⟩ .f32) (g : FVec Ideal ⟨2, ![1, 1024]⟩ .f32)

/-- The gradient at the hidden rows. -/
def hidden (r : Fin 4096) (k : Fin 1024) : EReal :=
  rowGrad (dcur (ix2 r k)) (product duu w r) (fun x => h (ix2 r x)) (fun x => g (ix2 0 x)) k

/-- The gradient at the normalisation's gain. -/
def gain (k : Fin 1024) : EReal :=
  ∑ r : Fin 4096, h (ix2 r k) * scale (fun x => h (ix2 r x)) * product duu w r k

end Cert.InDx

end
-- ==== Proof.InDxRef.lean ====
/- The reference's results for the input product's gradient are the written-out ones. -/
module

public import proofs.«01_k».proof.Proof.InDxSpec
public import proofs.«01_k».proof.Proof.Gen.Reference4Ideal.Run
public import Idealize.ShloMosaic.Lib.Tactic.CleanTypes

@[expose] public section

set_option maxRecDepth 16384

noncomputable section

namespace Cert.InDx.Ref

open Idealize.ShloMosaic Idealize.ShloMosaic.TcCoe Idealize.ShloMosaic.Tactic Idealize.SL.Sem
open Cert.Reference4Ideal

variable (m : (ℓ : Loc nD τ sig) → Buf (Elt Ideal) ℓ) (c : Dev nD)

/-- The arguments. -/
abbrev duu : FVec Ideal S2x4096x2816 .bf16 := m ((c.tc : Thread nD τ).loc main_arg0)
abbrev w : FVec Ideal S4x1x1024x1408 .bf16 := m ((c.tc : Thread nD τ).loc main_arg1)
abbrev dcur : FVec Ideal S4096x1024 .f32 := m ((c.tc : Thread nD τ).loc main_arg2)
abbrev h : FVec Ideal S4096x1024 .f32 := m ((c.tc : Thread nD τ).loc main_arg3)
abbrev g : FVec Ideal S1x1024 .f32 := m ((c.tc : Thread nD τ).loc main_arg4)

theorem hidden_eq (r : Fin 4096) (k : Fin 1024) :
    (show FVec Ideal S4096x1024 .f32 from Cert.Reference4Ideal.Value.res_main_v46 (F := Ideal) m c) (ix2 r k)
      = hidden (duu m c) (w m c) (dcur m c) (h m c) (g m c) r k := by
  unfold Cert.Reference4Ideal.Value.res_main_v46
  clean_types
  pointwise
  have e := fun x => product_planes (duu m c) (w m c) r x
  simp only [e]
  unfold hidden rowGrad shift scale meanSquare
  rw [add_assoc, add_assoc, add_assoc]

theorem hiddenNarrow_eq (r : Fin 4096) (k : Fin 1024) :
    (show FVec Ideal S4096x1024 .bf16 from Cert.Reference4Ideal.Value.res_main_v47 (F := Ideal) m c) (ix2 r k)
      = hidden (duu m c) (w m c) (dcur m c) (h m c) (g m c) r k := by
  unfold Cert.Reference4Ideal.Value.res_main_v47
  clean_types
  pointwise
  have e := fun x => product_planes (duu m c) (w m c) r x
  simp only [e]
  unfold hidden rowGrad shift scale meanSquare
  rw [add_assoc, add_assoc, add_assoc]

/-- After the reference's run its results are the written-out ones, and the arguments what they were. -/
theorem run (ρ : Dev nD → PrngReg) : θ_run defs (onTc (τ := τ) (main (F := Ideal))) ⟨m, fun _ => 0, ρ⟩ fun r => ∀ c : Dev nD,
      r.2.mem ((c.tc : Thread nD τ).loc main_v46) = (fun i => hidden (duu m c) (w m c) (dcur m c) (h m c) (g m c) (i 0) (i 1) : FVec Ideal S4096x1024 .f32)
      ∧ r.2.mem ((c.tc : Thread nD τ).loc main_v47) = (fun i => hidden (duu m c) (w m c) (dcur m c) (h m c) (g m c) (i 0) (i 1) : FVec Ideal S4096x1024 .bf16)
      ∧ r.2.mem ((c.tc : Thread nD τ).loc main_v29) = (fun i => gain (duu m c) (w m c) (h m c) (i 1) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (Cert.Reference4Ideal.Value.run (F := Ideal) m ρ)
  obtain ⟨h0, h1, h2, h3⟩ := hr c
  refine ⟨h0.trans ?_, h1.trans ?_, h2.trans ?_, h3⟩
  · funext i
    obtain ⟨r, k, rfl⟩ : ∃ r k, i = ix2 r k := ⟨i 0, i 1, eq_ix2 i⟩
    exact hidden_eq m c r k
  · funext i
    obtain ⟨r, k, rfl⟩ : ∃ r k, i = ix2 r k := ⟨i 0, i 1, eq_ix2 i⟩
    exact hiddenNarrow_eq m c r k
  · funext i
    obtain ⟨z, k, rfl⟩ : ∃ z k, i = ix2 z k := ⟨i 0, i 1, eq_ix2 i⟩
    clean_types
    pointwise
    have e := fun r x => product_planes (duu m c) (w m c) r x
    simp only [e]
    unfold gain scale meanSquare
    rfl

end Cert.InDx.Ref

end
-- ==== Proof.InDx.lean ====
/- The gradient of the input product of the feed-forward layer at its input, with the gradient of the
   normalisation before it: the kernel's results are the written-out ones, and so the reference's. -/
module

public import proofs.«01_k».proof.Defs
public import proofs.«01_k».proof.Proof.Gen.Kernel4Ideal.Value
public import proofs.«01_k».proof.Proof.InDxRef
public import Idealize.ShloMosaic.Lib.Pipeline.ReadBack
public import Idealize.ShloMosaic.Lib.Quiescent

@[expose] public section

set_option maxRecDepth 16384

noncomputable section

namespace Cert.InDx

open Idealize.ShloMosaic Idealize.ShloMosaic.TcCoe Idealize.SL.Sem
open Cert.Kernel4Ideal Cert.Kernel4Ideal.Gen

variable (m : (ℓ : Loc nD τ sig) → Buf (Elt Ideal) ℓ) (ρ : Dev nD → PrngReg) (c : Dev nD)

/-- The arguments, as launched. -/
abbrev duu : FVec Ideal S2x4096x2816 .bf16 := m ((c : Thread nD τ).loc main_arg0)
abbrev w : FVec Ideal S4x1x1024x1408 .bf16 := m ((c : Thread nD τ).loc main_arg1)
abbrev dcur : FVec Ideal S4096x1024 .f32 := m ((c : Thread nD τ).loc main_arg2)
abbrev h : FVec Ideal S4096x1024 .f32 := m ((c : Thread nD τ).loc main_arg3)
abbrev g : FVec Ideal S1x1024 .f32 := m ((c : Thread nD τ).loc main_arg4)

/-- Where the blocks lie. -/
theorem index_facts : ∀ t : Fin grid0.N, win0_0.index t = ![t.val % 4 / 2, t.val / 4, t.val % 2] ∧ win0_1.index t = ![t.val % 4, 0, 0, 0]
    ∧ win0_2.index t = ![t.val / 4, 0] ∧ win0_3.index t = ![t.val / 4, 0] ∧ win0_4.index t = ![0, 0]
    ∧ win0_5.index t = ![t.val / 4, 0] ∧ win0_6.index t = ![t.val / 4, 0] ∧ win0_7.index t = ![0, 0] := by
  decide +kernel

/-- The blocks at a grid point. -/
abbrev blockDuu (t : Fin cfg0.N) : FVec Ideal S1x512x1408 .bf16 := iblk m c 0 t
abbrev blockW (t : Fin cfg0.N) : FVec Ideal S1x1x1024x1408 .bf16 := iblk m c 1 t
abbrev blockH (t : Fin cfg0.N) : FVec Ideal S512x1024 .f32 := iblk m c 3 t

/-- The row of the arrays that row `y` of point `t`'s blocks is. -/
def row (t : Fin cfg0.N) (y : Fin 512) : Fin 4096 := ⟨t.val / 4 * 512 + y.val, by have : t.val < 32 := t.isLt; omega⟩

/-- The product of a grid point's blocks. -/
def term (t : Fin cfg0.N) (i : S512x1024.Idx) : EReal :=
  ∑ x : Fin 1408, blockDuu m c t (ix3 0 (i 0) x) * blockW m c t (ix4 0 0 (i 1) x)

/-- One accumulation step adds the product of the point's blocks. -/
theorem pay2_apply (t : Fin cfg0.N) (v : Vec Ideal S512x1024 .f32) (i : S512x1024.Idx) :
    k0_pay2 v (iblk m c 0 t) (iblk m c 1 t) i = (v i : EReal) + term m c t i := by
  unfold term
  obtain ⟨r, k, rfl⟩ : ∃ r k, i = ix2 r k := ⟨i 0, i 1, eq_ix2 i⟩
  pointwise [k0_pay2]

/-- The accumulator after the last of a row block's four points. -/
theorem acc_sum (t : Fin cfg0.N) (ht : t.val % 4 = 3) (i : S512x1024.Idx) : (outsAt0 m c t.val t.isLt).2.2.2 i
    = 0 + ∑ s : Fin 4, term m c ⟨4 * (t.val / 4) + s.val, by have : t.val < 32 := t.isLt; exact (show _ < 32 by omega)⟩ i :=
  Pipeline.eq_sum_fin_of_reset_step_apply_of_flush (M := EReal) (fun n h => (outsAt0 m c n h).2.2.2) 4 (fun _ => 0) (term m c)
    (fun t h j => by
      rw [outsAt0_A m c t h (by omega)]
      frame_out
      rw [pay2_apply]
      pointwise [k0_pay1])
    (fun t h j => by
      by_cases h1 : t.val % 4 = 3
      · by_cases h2 : t.val < 4
        · rw [outsAt0_C m c t h h1 h2]
          frame_out
          simp only [read_unread_whole]
          rw [pay2_apply]
        · rw [outsAt0_D m c t h h1 h2]
          frame_out
          simp only [read_unread_whole]
          rw [pay2_apply]
      · rw [outsAt0_B m c t h h1]
        frame_out
        simp only [read_unread_whole]
        rw [pay2_apply])
    t ht i

/-- That is the product, at the block's rows. -/
theorem acc_eq (t : Fin cfg0.N) (ht : t.val % 4 = 3) (y : Fin 512) (k : Fin 1024) :
    (outsAt0 m c t.val t.isLt).2.2.2 (ix2 y k) = product (duu m c) (w m c) (row t y) k := by
  have h32 : t.val < 32 := t.isLt
  refine (acc_sum m c t ht _).trans ?_
  rw [zero_add]
  unfold product partProduct term
  refine Finset.sum_congr rfl fun s _ => Finset.sum_congr rfl fun x _ => ?_
  obtain ⟨e0, e1, -⟩ := index_facts ⟨4 * (t.val / 4) + s.val, show _ < 32 by omega⟩
  unfold row
  congr 1
  · blk_ext [iblk, V, e0]
  · blk_ext [iblk, V, e1]

theorem blockH_eq (t : Fin cfg0.N) (y : Fin 512) (k : Fin 1024) : iblk m c 3 t (ix2 y k) = h m c (ix2 (row t y) k) := by
  obtain ⟨-, -, -, e, -⟩ := index_facts t
  unfold row
  blk_ext [iblk, V, e]

theorem blockDcur_eq (t : Fin cfg0.N) (y : Fin 512) (k : Fin 1024) : iblk m c 2 t (ix2 y k) = dcur m c (ix2 (row t y) k) := by
  obtain ⟨-, -, e, -⟩ := index_facts t
  unfold row
  blk_ext [iblk, V, e]

theorem blockG_eq (t : Fin cfg0.N) (k : Fin 1024) : iblk m c 4 t (ix2 0 k) = g m c (ix2 0 k) := by
  obtain ⟨-, -, -, -, e, -⟩ := index_facts t
  blk_ext [iblk, V, e]

/-- What the last point of a row block writes: the gradient at the rows, in terms of the accumulator it has just completed. -/
theorem pay9_apply (p d x : Vec Ideal S512x1024 .f32) (q : Vec Ideal S1x1024 .f32) (y : Fin 512) (k : Fin 1024) :
    k0_pay9 (F := Ideal) p d x q (ix2 y k) = rowGrad (d (ix2 y k)) (fun j => p (ix2 y j)) (fun j => x (ix2 y j)) (fun j => q (ix2 0 j)) k := by
  unfold rowGrad shift scale meanSquare
  pointwise [k0_pay9, k0_pay7, k0_pay6]

theorem pay8_apply (p x : Vec Ideal S512x1024 .f32) (k : Fin 1024) :
    k0_pay8 (F := Ideal) p x (ix2 0 k) = ∑ y : Fin 512, (x (ix2 y k) : EReal) * scale (fun j => x (ix2 y j)) * p (ix2 y k) := by
  unfold scale meanSquare
  pointwise [k0_pay8, k0_pay7, k0_pay6]

theorem block5 (t : Fin cfg0.N) (ht : t.val % 4 = 3) :
    (outsAt0 m c t.val t.isLt).1 = k0_pay9 (outsAt0 m c t.val t.isLt).2.2.2 (iblk m c 2 t) (iblk m c 3 t) (iblk m c 4 t) := by
  by_cases h2 : t.val < 4
  · rw [outsAt0_C m c t (by omega) ht h2]
    frame_out
  · rw [outsAt0_D m c t (by omega) ht h2]
    frame_out

theorem block6 (t : Fin cfg0.N) (ht : t.val % 4 = 3) :
    (outsAt0 m c t.val t.isLt).2.1 = k0_pay3 (k0_pay9 (outsAt0 m c t.val t.isLt).2.2.2 (iblk m c 2 t) (iblk m c 3 t) (iblk m c 4 t)) := by
  by_cases h2 : t.val < 4
  · rw [outsAt0_C m c t (by omega) ht h2]
    frame_out
  · rw [outsAt0_D m c t (by omega) ht h2]
    frame_out

/-- The rows' gradient, block by block. -/
theorem block5_eq (t : Fin cfg0.N) (ht : t.val % 4 = 3) (y : Fin 512) (k : Fin 1024) :
    (outsAt0 m c t.val t.isLt).1 (ix2 y k) = hidden (duu m c) (w m c) (dcur m c) (h m c) (g m c) (row t y) k := by
  rw [block5 m c t ht]
  refine (pay9_apply _ _ _ _ y k).trans ?_
  unfold hidden
  rw [blockDcur_eq, show (fun j => iblk m c 3 t (ix2 y j)) = fun j => h m c (ix2 (row t y) j) from funext fun j => blockH_eq m c t y j,
    show (fun j => iblk m c 4 t (ix2 0 j)) = fun j => g m c (ix2 0 j) from funext fun j => blockG_eq m c t j,
    show (fun j => (outsAt0 m c t.val t.isLt).2.2.2 (ix2 y j)) = product (duu m c) (w m c) (row t y) from funext fun j => acc_eq m c t ht y j]

theorem block6_eq (t : Fin cfg0.N) (ht : t.val % 4 = 3) (y : Fin 512) (k : Fin 1024) :
    (outsAt0 m c t.val t.isLt).2.1 (ix2 y k) = hidden (duu m c) (w m c) (dcur m c) (h m c) (g m c) (row t y) k := by
  rw [block6 m c t ht, ← block5_eq m c t ht, block5 m c t ht]
  pointwise [k0_pay3]

/-- What the rows of row block `b` add to the gain's gradient. -/
def part (b : ℕ) (k : Fin 1024) : EReal := if hb : b < 8 then
    ∑ y : Fin 512, h m c (ix2 ⟨b * 512 + y.val, by omega⟩ k) * scale (fun j => h m c (ix2 ⟨b * 512 + y.val, by omega⟩ j))
      * product (duu m c) (w m c) ⟨b * 512 + y.val, by omega⟩ k
  else 0

theorem pay8_eq (t : Fin cfg0.N) (ht : t.val % 4 = 3) (k : Fin 1024) :
    k0_pay8 (F := Ideal) (outsAt0 m c t.val t.isLt).2.2.2 (iblk m c 3 t) (ix2 0 k) = part m c (t.val / 4) k := by
  have h32 : t.val < 32 := t.isLt
  refine (pay8_apply _ _ k).trans ?_
  unfold part
  rw [dif_pos (show t.val / 4 < 8 by omega)]
  refine Finset.sum_congr rfl fun y _ => ?_
  rw [acc_eq m c t ht, blockH_eq m c t y k, show (fun j => iblk m c 3 t (ix2 y j)) = fun j => h m c (ix2 (row t y) j) from funext fun j => blockH_eq m c t y j]
  rfl

theorem pay5_apply (a b : Vec Ideal S1x1024 .f32) (k : Fin 1024) : k0_pay5 (F := Ideal) a b (ix2 0 k) = (b (ix2 0 k) : EReal) + a (ix2 0 k) := by
  pointwise [k0_pay5]

/-- The gain's gradient after the first row block. -/
theorem gain_first (t : Fin cfg0.N) (ht : t.val % 4 = 3) (h2 : t.val < 4) (k : Fin 1024) :
    (outsAt0 m c t.val t.isLt).2.2.1 (ix2 0 k) = part m c 0 k := by
  have e : (outsAt0 m c t.val t.isLt).2.2.1 = k0_pay5 (k0_pay8 (outsAt0 m c t.val t.isLt).2.2.2 (iblk m c 3 t)) (k0_pay4 (F := Ideal)) := by
    rw [outsAt0_C m c t (by omega) ht h2]
    frame_out
  rw [e]
  refine (pay5_apply _ _ k).trans ?_
  rw [pay8_eq m c t ht, show t.val / 4 = 0 by omega]
  pointwise [k0_pay4]

/-- Each later row block adds its part. -/
theorem gain_last (t : Fin cfg0.N) (ht : t.val % 4 = 3) (h2 : ¬ t.val < 4) (k : Fin 1024) :
    (outsAt0 m c t.val t.isLt).2.2.1 (ix2 0 k) = ((outsAt0 m c (t.val - 1) (by have := t.isLt; omega)).2.2.1 (ix2 0 k) : EReal) + part m c (t.val / 4) k := by
  have e : (outsAt0 m c t.val t.isLt).2.2.1 = k0_pay5 (k0_pay8 (outsAt0 m c t.val t.isLt).2.2.2 (iblk m c 3 t))
      (outsAt0 m c (t.val - 1) (by have := t.isLt; omega)).2.2.1 := by
    rw [outsAt0_D m c t (by omega) ht h2]
    frame_out
  rw [e]
  refine (pay5_apply _ _ k).trans ?_
  rw [pay8_eq m c t ht]

/-- The other points leave it. -/
theorem gain_keep (t : Fin cfg0.N) (ht : t.val % 4 ≠ 3) (h2 : 4 ≤ t.val) :
    (outsAt0 m c t.val t.isLt).2.2.1 = (outsAt0 m c (t.val - 1) (by have := t.isLt; omega)).2.2.1 := by
  by_cases h0 : t.val % 4 = 0
  · rw [outsAt0_A m c t h0 ht]
    frame_out
    unfold out0_A_7
    rfl
  · rw [outsAt0_B m c t h0 ht]
    frame_out
    unfold out0_B_7
    rfl

theorem gain_sum (k : Fin 1024) : ∀ n (hn : n < cfg0.N), 3 ≤ n →
    (outsAt0 m c n hn).2.2.1 (ix2 0 k) = ∑ b ∈ Finset.range ((n + 1) / 4), part m c b k := by
  intro n
  induction n with
  | zero => intro _ h; omega
  | succ n ih =>
    intro hn h3
    by_cases ht : (n + 1) % 4 = 3
    · by_cases h2 : n + 1 < 4
      · rw [gain_first m c ⟨n + 1, hn⟩ ht h2, show (n + 1 + 1) / 4 = 1 by omega, Finset.sum_range_one]
      · refine (gain_last m c ⟨n + 1, hn⟩ ht h2 k).trans ?_
        have e := ih (by omega) (by omega)
        rw [show (n + 1 + 1) / 4 = (n + 1) / 4 + 1 by omega, Finset.sum_range_succ, ← e]
        rfl
    · have e := ih (by omega) (by omega)
      rw [show (n + 1 + 1) / 4 = (n + 1) / 4 by omega, ← e]
      exact congrFun (gain_keep m c ⟨n + 1, hn⟩ ht (by show 4 ≤ n + 1; omega)) _

/-- In the end it is the whole sum. -/
theorem gain_eq (t : Fin cfg0.N) (ht : t.val % 32 = 31) (k : Fin 1024) :
    (outsAt0 m c t.val t.isLt).2.2.1 (ix2 0 k) = gain (duu m c) (w m c) (h m c) k := by
  have h32 : t.val < 32 := t.isLt
  rw [gain_sum m c k t.val t.isLt (by omega), show (t.val + 1) / 4 = 8 by omega, Finset.sum_range]
  unfold gain
  refine Eq.trans (Finset.sum_congr rfl fun b _ => ?_) (Fin.sum_mul_add_fin 8 512
    (fun r : Fin 4096 => h m c (ix2 r k) * scale (fun x => h m c (ix2 r x)) * product (duu m c) (w m c) r k) rfl)
  unfold part
  rw [dif_pos b.isLt]

/-- The three results. -/
abbrev grad : FVec Ideal S4096x1024 .f32 := fun i => hidden (duu m c) (w m c) (dcur m c) (h m c) (g m c) (i 0) (i 1)
abbrev gradNarrow : FVec Ideal S4096x1024 .bf16 := fun i => hidden (duu m c) (w m c) (dcur m c) (h m c) (g m c) (i 0) (i 1)
abbrev gainGrad : FVec Ideal S1x1024 .f32 := fun i => gain (duu m c) (w m c) (h m c) (i 1)

theorem place (t : Fin cfg0.N) (y : Fin 512) (k : Fin 1024) (R : Fin 4096) (K : Fin 1024) (hR : R.val = t.val / 4 * 512 + y.val) (hK : K.val = k.val) :
    hidden (duu m c) (w m c) (dcur m c) (h m c) (g m c) (row t y) k = hidden (duu m c) (w m c) (dcur m c) (h m c) (g m c) R K := by
  rw [show R = row t y from Fin.ext hR, show K = k from Fin.ext hK]

theorem place_gain (k K : Fin 1024) (hK : K.val = k.val) :
    gain (duu m c) (w m c) (h m c) k = gain (duu m c) (w m c) (h m c) K := by
  rw [show K = k from Fin.ext hK]

theorem array5 : (dats m 0 c).arrAt 5 cfg0.N = grad m c := by
  refine (dats m 0 c).arrAt_eq_of_covers 5 _ (by decide +kernel) fun t hf y => ?_
  obtain ⟨-, -, -, -, -, e, -⟩ := index_facts t
  have ht := (flush0_5 t).mp hf
  blk_simp
  rw [after0_5]
  obtain ⟨y0, y1, rfl⟩ : ∃ a b, y = ix2 a b := ⟨y 0, y 1, eq_ix2 y⟩
  exact (block5_eq m c t ht y0 y1).trans (place m c t y0 y1 _ _ (by blk_simp [e]) (by blk_simp [e]))

theorem array6 : (dats m 0 c).arrAt 6 cfg0.N = gradNarrow m c := by
  refine (dats m 0 c).arrAt_eq_of_covers 6 _ (by decide +kernel) fun t hf y => ?_
  obtain ⟨-, -, -, -, -, -, e, -⟩ := index_facts t
  have ht := (flush0_6 t).mp hf
  blk_simp
  rw [after0_6]
  obtain ⟨y0, y1, rfl⟩ : ∃ a b, y = ix2 a b := ⟨y 0, y 1, eq_ix2 y⟩
  exact (block6_eq m c t ht y0 y1).trans (place m c t y0 y1 _ _ (by blk_simp [e]) (by blk_simp [e]))

theorem array7 : (dats m 0 c).arrAt 7 cfg0.N = gainGrad m c := by
  refine (dats m 0 c).arrAt_eq_of_covers 7 _ (by decide +kernel) fun t hf y => ?_
  obtain ⟨-, -, -, -, -, -, -, e⟩ := index_facts t
  have ht := (flush0_7 t).mp hf
  blk_simp
  rw [after0_7]
  obtain ⟨z, y1, rfl⟩ : ∃ z b, y = ix2 z b := ⟨y 0, y 1, eq_ix2 y⟩
  obtain rfl : z = 0 := Fin.fin_one_eq_zero z
  exact (gain_eq m c t ht y1).trans (place_gain m c y1 _ (by blk_simp [e]))

/-- After the kernel's run the results hold the gradients, and the arguments what they held. -/
theorem kernel_run : θ_run defs (onTc (τ := τ) (main (F := Ideal))) ⟨m, fun _ => 0, ρ⟩ (fun r => ∀ c : Dev nD,
      r.2.mem ((c : Thread nD τ).loc main_v0_0) = grad m c
      ∧ r.2.mem ((c : Thread nD τ).loc main_v0_1) = gradNarrow m c
      ∧ r.2.mem ((c : Thread nD τ).loc main_v0_2) = gainGrad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c).1.trans (array5 m c), (h c).2.1.trans (array6 m c), (h c).2.2.1.trans (array7 m c), (h c).2.2.2⟩)
    (Value.run_blocks m ρ)

/-- The reference's frame. -/
theorem reference_frame : Cert.quiescent_Reference4Ideal (hReference4Ideal := Cert.Reference4Ideal.Gen.facts) := fun m ρ _ =>
  (θ_run Cert.Reference4Ideal.defs _ _).mono
    (fun r h => ⟨fun c => (h c).2.2.2, sem_eq_zero_of_no_sems (by decide) r.2⟩) (Ref.run m ρ)

/-- Over the extended reals kernel and reference have the same results. -/
theorem algebraic : Cert.algebraic_Kernel4Ideal_Reference4Ideal (hKernel4Ideal := Cert.Kernel4Ideal.Gen.facts)
    (hReference4Ideal := Cert.Reference4Ideal.Gen.facts) := by
  intro m ρ m' ρ' _ hm
  refine ⟨_, _, _, kernel_run m ρ, ?_⟩
  refine (θ_run Cert.Reference4Ideal.defs _ _).mono (fun r h c => ?_) (Ref.run m' ρ')
  obtain ⟨a0, a1, a2, a3, a4⟩ := hm c
  obtain ⟨h0, h1, h2, h3⟩ := h c
  unfold Ref.duu Ref.w Ref.dcur Ref.h Ref.g at h0 h1
  unfold Ref.duu Ref.w Ref.h at h2
  rw [a0, a1, a2, a3, a4] at h0 h1
  rw [a0, a1, a3] at h2
  exact ⟨h0, h1, h2, h3⟩

end Cert.InDx

end
-- ==== Proof.InDw.lean ====
/- The gradient of the output product of the feed-forward layer at its weight:
   `dw[k, d] = Σ_r act[r, k] · dcur[r, d]`, in f32 and rounded, kernel and reference. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.InDw

open Idealize.ShloMosaic Idealize.ShloMosaic.TcCoe Idealize.SL.Sem
open Cert.Kernel5Ideal Cert.Kernel5Ideal.Gen

variable (m : (ℓ : Loc nD τ sig) → Buf (Elt Ideal) ℓ) (ρ : Dev nD → PrngReg) (c : Dev nD)

/-- The normalised activation and the two planes of the incoming gradient, as launched. -/
def hn : FVec Ideal S4096x1024 .bf16 := m ((c : Thread nD τ).loc main_arg0)
def duu : FVec Ideal S2x4096x2816 .bf16 := m ((c : Thread nD τ).loc main_arg1)

/-- The weight's gradient in column block `q`, row `k` and column `x` of the block: block `q` is half `q % 2` of plane `q / 2`. -/
def entry (q : Fin 4) (k : Fin 1024) (x : Fin 1408) : EReal :=
  ∑ r : Fin 4096, hn m c (ix2 r k) * duu m c (ix3 ⟨q.val / 2, by omega⟩ r ⟨q.val % 2 * 1408 + x.val, by omega⟩)

/-- The weight's gradient as an array, and the same rounded: over the extended reals a rounding changes nothing. -/
def grad : FVec Ideal S4x1024x1408 .f32 := fun i => entry m c (i 0) (i 1) (i 2)
def gradNarrow : FVec Ideal S4x1024x1408 .bf16 := fun i => entry m c (i 0) (i 1) (i 2)

/-- Where the blocks lie. -/
theorem index_facts : ∀ t : Fin grid0.N, win0_0.index t = ![t.val % 2, t.val / 2 % 2] ∧ win0_1.index t = ![t.val / 8, t.val % 2, t.val / 4 % 2]
    ∧ win0_2.index t = ![t.val / 4, t.val / 2 % 2, 0] ∧ win0_3.index t = ![t.val / 4, t.val / 2 % 2, 0] := by
  decide +kernel

/-- The blocks of the activation and of the incoming gradient at a grid point. -/
abbrev blockHn (t : Fin cfg0.N) : FVec Ideal S2048x512 .bf16 := iblk m c 0 t
abbrev blockDuu (t : Fin cfg0.N) : FVec Ideal S1x2048x1408 .bf16 := iblk m c 1 t

/-- The product of a grid point's blocks. -/
def term (t : Fin cfg0.N) (i : S1x512x1408.Idx) : EReal :=
  ∑ r : Fin 2048, blockHn m c t (ix2 r (i 1)) * blockDuu m c t (ix3 0 r (i 2))

/-- One accumulation step adds the product of the point's blocks. -/
theorem pay2_apply (t : Fin cfg0.N) (v : Vec Ideal S1x512x1408 .f32) (i : S1x512x1408.Idx) :
    k0_pay2 v (iblk m c 0 t) (iblk m c 1 t) i = (v i : EReal) + term m c t i := by
  unfold term
  obtain ⟨z, k, x, rfl⟩ : ∃ z k x, i = ix3 z k x := ⟨i 0, i 1, i 2, eq_ix3 i⟩
  obtain rfl : z = 0 := Subsingleton.elim _ _
  pointwise [k0_pay2]

/-- What a run of two points leaves in the f32 block: the sum of both products. -/
theorem block2 (t : Fin cfg0.N) (ht : t.val % 2 = 1) (i : S1x512x1408.Idx) : (outsAt0 m c t.val t.isLt).1 i
    = 0 + ∑ s : Fin 2, term m c ⟨2 * (t.val / 2) + s.val, by have := t.isLt; omega⟩ i :=
  Pipeline.eq_sum_fin_of_reset_step_apply_of_flush (M := EReal) (fun n h => (outsAt0 m c n h).1) 2 (fun _ => 0) (term m c)
    (fun t h j => by
      rw [outsAt0_A m c t h (by omega)]
      frame_out
      rw [pay2_apply]
      pointwise [k0_pay1])
    (fun t h j => by
      rw [outsAt0_B m c t h (by omega)]
      frame_out
      rw [pay2_apply])
    t ht i

/-- The rounded block is the f32 block. -/
theorem block3 (t : Fin cfg0.N) (ht : t.val % 2 = 1) (i : S1x512x1408.Idx) :
    ((outsAt0 m c t.val t.isLt).2 i : EReal) = (outsAt0 m c t.val t.isLt).1 i := by
  obtain ⟨z, k, x, rfl⟩ : ∃ z k x, i = ix3 z k x := ⟨i 0, i 1, i 2, eq_ix3 i⟩
  rw [outsAt0_B m c t (by omega) ht]
  frame_out
  pointwise [k0_pay3]

/-- The two products are the sum over all rows, at the block's place. -/
theorem place (t : Fin cfg0.N) (ht : t.val % 2 = 1) (z : Fin 1) (k : Fin 512) (x : Fin 1408) (Q : Fin 4) (K : Fin 1024) (X : Fin 1408)
    (hQ : Q.val = t.val / 4) (hK : K.val = t.val / 2 % 2 * 512 + k.val) (hX : X.val = x.val) :
    0 + ∑ s : Fin 2, term m c ⟨2 * (t.val / 2) + s.val, by have := t.isLt; omega⟩ (ix3 z k x) = entry m c Q K X := by
  rw [zero_add]
  unfold entry term hn duu
  refine Fin.sum_mul_add_congr (S := 2) (n := 2048) fun s r h => ?_
  have h16 : t.val < 16 := t.isLt
  obtain ⟨e0, e1, -, -⟩ := index_facts ⟨2 * (t.val / 2) + s.val, show _ < 16 by omega⟩
  congr 1
  · blk_ext [iblk, V, e0]
  · blk_ext [iblk, V, e1]

theorem array2 : (dats m 0 c).arrAt 2 cfg0.N = grad m c := by
  refine (dats m 0 c).arrAt_eq_of_covers 2 _ (by decide +kernel) fun t hf y => ?_
  obtain ⟨-, -, e2, -⟩ := index_facts t
  have ht := (flush0_2 t).mp hf
  blk_simp
  rw [after0_2]
  obtain ⟨z, k, x, rfl⟩ : ∃ z k x, y = ix3 z k x := ⟨y 0, y 1, y 2, eq_ix3 y⟩
  exact (block2 m c t ht _).trans (place m c t ht z k x _ _ _ (by blk_simp [e2]) (by blk_simp [e2]) (by blk_simp [e2]))

theorem array3 : (dats m 0 c).arrAt 3 cfg0.N = gradNarrow m c := by
  refine (dats m 0 c).arrAt_eq_of_covers 3 _ (by decide +kernel) fun t hf y => ?_
  obtain ⟨-, -, -, e3⟩ := index_facts t
  have ht := (flush0_3 t).mp hf
  blk_simp
  rw [after0_3]
  obtain ⟨z, k, x, rfl⟩ : ∃ z k x, y = ix3 z k x := ⟨y 0, y 1, y 2, eq_ix3 y⟩
  exact (block3 m c t ht _).trans ((block2 m c t ht _).trans
    (place m c t ht z k x _ _ _ (by blk_simp [e3]) (by blk_simp [e3]) (by blk_simp [e3])))

/-- After the kernel's run the results hold the gradient, and the arguments what they held. -/
theorem kernel_run : θ_run defs (onTc (τ := τ) (main (F := Ideal))) ⟨m, fun _ => 0, ρ⟩ (fun r => ∀ c : Dev nD,
      r.2.mem ((c : Thread nD τ).loc main_v0_0) = grad m c
      ∧ r.2.mem ((c : Thread nD τ).loc main_v0_1) = gradNarrow m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2.1.trans (array3 m c), (h c).2.2⟩) (Value.run_blocks m ρ)

open Cert.Reference5Ideal.Facts₀ in
/-- The two planes side by side. -/
abbrev beside : FVec Ideal Cert.Reference5Ideal.S4096x5632 .bf16 :=
  concatenate Cert.Reference5Ideal.S4096x5632 1
    [⟨Cert.Reference5Ideal.S4096x2816, shapeCast _ (extractStridedSlice Cert.Reference5Ideal.S1x4096x2816 ![0, 0, 0] (duu m c)
        slices_S2x4096x2816_S1x4096x2816_0_0_0) shapeCasts_S1x4096x2816_S4096x2816⟩,
      ⟨Cert.Reference5Ideal.S4096x2816, shapeCast _ (extractStridedSlice Cert.Reference5Ideal.S1x4096x2816 ![1, 0, 0] (duu m c)
        slices_S2x4096x2816_S1x4096x2816_1_0_0) shapeCasts_S1x4096x2816_S4096x2816⟩]
    concatenates_S4096x2816_S4096x2816_S4096x5632_d1

theorem beside_apply (r : Fin 4096) (q : Fin 4) (x : Fin 1408) (X : Fin 5632) (hX : X.val = q.val * 1408 + x.val) :
    beside m c (ix2 r X) = duu m c (ix3 ⟨q.val / 2, by omega⟩ r ⟨q.val % 2 * 1408 + x.val, by omega⟩) := by
  pointwise [beside]
  split_ifs with h
  all_goals first | (congr 1; blk_ext; done) | omega

open Cert.Reference5Ideal.Facts₀ in
/-- The reference's product, cut into the four column blocks. -/
abbrev product : FVec Ideal Cert.Reference5Ideal.S4x1024x1408 .f32 :=
  transpose Cert.Reference5Ideal.S4x1024x1408 [1, 0, 2]
    (shapeCast Cert.Reference5Ideal.S1024x4x1408
      (transpose Cert.Reference5Ideal.S1024x5632 [1, 0]
        (Host.dotGeneral Cert.Reference5Ideal.dot_S4096x5632_S4096x1024_S5632x1024_0_0_1_1_n_n none (extf .f32 (beside m c) Cert.Reference5Ideal.Facts₀.bitsLt_bf16_f32)
          (extf .f32 (hn m c) Cert.Reference5Ideal.Facts₀.bitsLt_bf16_f32))
        transposes_S5632x1024_S1024x5632_1_0) shapeCasts_S1024x5632_S1024x4x1408) transposes_S1024x4x1408_S4x1024x1408_1_0_2

theorem product_apply (i : Cert.Reference5Ideal.S4x1024x1408.Idx) : product m c i = entry m c (i 0) (i 1) (i 2) := by
  unfold entry
  obtain ⟨q, k, x, rfl⟩ : ∃ q k x, i = ix3 q k x := ⟨i 0, i 1, i 2, eq_ix3 i⟩
  unfold product
  generalize hb : beside m c = b
  pointwise
  refine Finset.sum_congr rfl fun r _ => ?_
  rw [mul_comm]
  congr 1
  rw [← hb]
  exact beside_apply m c r q x _ (by simp)

/-- The reference's frame. -/
theorem reference_frame : Cert.quiescent_Reference5Ideal (hReference5Ideal := Cert.Reference5Ideal.Gen.facts) := fun m ρ _ =>
  (θ_run Cert.Reference5Ideal.defs _ _).mono
    (fun r h => ⟨fun c => (h c).2.2, sem_eq_zero_of_no_sems (by decide) r.2⟩) (Cert.Reference5Ideal.Value.run (F := Ideal) m ρ)

/-- Over the extended reals kernel and reference have the same results. -/
theorem algebraic : Cert.algebraic_Kernel5Ideal_Reference5Ideal (hKernel5Ideal := Cert.Kernel5Ideal.Gen.facts)
    (hReference5Ideal := Cert.Reference5Ideal.Gen.facts) := by
  intro m ρ m' ρ' _ hm
  refine ⟨fun c => grad m c, fun c => gradNarrow m c, kernel_run m ρ, ?_⟩
  refine (θ_run Cert.Reference5Ideal.defs _ _).mono (fun r h c => ?_) (Cert.Reference5Ideal.Value.run (F := Ideal) m' ρ')
  obtain ⟨a0, a1⟩ := hm c
  obtain ⟨h0, h1, h2⟩ := h c
  rw [a0, a1] at h0 h1
  exact ⟨h0.trans (funext fun i => product_apply m c i), h1.trans (funext fun i => product_apply m c i), h2⟩

end Cert.InDw

end
-- ==== Proof.GluDx.lean ====
/- The gradient of the gated linear unit's product at its input, and through the activation before it:
   `dy = gelu'(y) · Σ dzz · w_glu`, kernel and reference. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Tactic.CleanTypes

@[expose] public section

set_option maxRecDepth 16384

noncomputable section

namespace Cert.GluDx

open Idealize.ShloMosaic Idealize.ShloMosaic.TcCoe Idealize.SL.Sem
open Idealize.ShloMosaic.Tactic
open Cert.Kernel6Ideal Cert.Kernel6Ideal.Gen

variable (m : (ℓ : Loc nD τ sig) → Buf (Elt Ideal) ℓ) (ρ : Dev nD → PrngReg) (c : Dev nD)

/-- The arguments, as launched: the incoming gradient, the weight's four column blocks, and the activation's argument. -/
abbrev dzz : FVec Ideal S4096x2048 .bf16 := m ((c : Thread nD τ).loc main_arg0)
abbrev weight : FVec Ideal S4x1x1024x512 .bf16 := m ((c : Thread nD τ).loc main_arg1)
abbrev before : FVec Ideal S4096x1024 .f32 := m ((c : Thread nD τ).loc main_arg2)

/-- The product that comes back, column block by column block. -/
def product (r : Fin 4096) (k : Fin 1024) : EReal :=
  ∑ s : Fin 4, ∑ x : Fin 512, dzz m c (ix2 r ⟨s.val * 512 + x.val, by omega⟩) * weight m c (ix4 s 0 k x)

/-- The same product in one sum. -/
theorem product_eq (r : Fin 4096) (k : Fin 1024) :
    (∑ x : Fin 2048, dzz m c (ix2 r x) * weight m c (ix4 ⟨x.val / 512, by omega⟩ 0 k ⟨x.val % 512, by omega⟩)) = product m c r k := by
  unfold product
  refine (Fin.sum_mul_add_congr (S := 4) (n := 512) fun s x hl => ?_).symm
  congr 1
  congr 1
  blk_ext
  all_goals omega

/-- The activation's constants as they are written. -/
abbrev root : EReal := Ideal.ofBits .f32 0x3F4C422A#32
abbrev cubic : EReal := Ideal.ofBits .f32 0x3D372713#32
abbrev half : EReal := Ideal.ofBits .f32 0x3F000000#32
abbrev three : EReal := Ideal.ofBits .f32 0x40400000#32

/-- The hyperbolic tangent in the activation. -/
def bend (y : EReal) : EReal := Ideal.tanh (root * (y + cubic * (y * y * y)))

/-- What comes back through the bend, for an incoming `p`. -/
def inner (p y : EReal) : EReal := root * (half * (y * p) * ((1 + bend y) * (1 - bend y)))

/-- The gradient through the activation. -/
def geluGrad (p y : EReal) : EReal := p * (half * (1 + bend y)) + inner p y + cubic * inner p y * (three * (y * y))

/-- The result. -/
def entry (r : Fin 4096) (k : Fin 1024) : EReal := geluGrad (product m c r k) (before m c (ix2 r k))
def grad : FVec Ideal S4096x1024 .f32 := fun i => entry m c (i 0) (i 1)

/-- Where the blocks lie. -/
theorem index_facts : ∀ t : Fin grid0.N, win0_0.index t = ![0, t.val / 4, t.val % 4] ∧ win0_1.index t = ![t.val % 4, 0, 0, 0]
    ∧ win0_2.index t = ![t.val / 4, 0] ∧ win0_3.index t = ![t.val / 4, 0] := by
  decide +kernel

/-- The blocks at a grid point. -/
abbrev blockDzz (t : Fin cfg0.N) : FVec Ideal S1x1024x512 .bf16 := iblk m c 0 t
abbrev blockW (t : Fin cfg0.N) : FVec Ideal S1x1x1024x512 .bf16 := iblk m c 1 t

/-- The row of the arrays that row `y` of point `t`'s blocks is. -/
def row (t : Fin cfg0.N) (y : Fin 1024) : Fin 4096 := ⟨t.val / 4 * 1024 + y.val, by have : t.val < 16 := t.isLt; omega⟩

/-- The product of a grid point's blocks. -/
def term (t : Fin cfg0.N) (i : S1024x1024.Idx) : EReal :=
  ∑ x : Fin 512, blockDzz m c t (ix3 0 (i 0) x) * blockW m c t (ix4 0 0 (i 1) x)

/-- One accumulation step adds the product of the point's blocks. -/
theorem pay2_apply (t : Fin cfg0.N) (v : Vec Ideal S1024x1024 .f32) (i : S1024x1024.Idx) :
    k0_pay2 v (iblk m c 0 t) (iblk m c 1 t) i = (v i : EReal) + term m c t i := by
  unfold term
  obtain ⟨r, k, rfl⟩ : ∃ r k, i = ix2 r k := ⟨i 0, i 1, eq_ix2 i⟩
  pointwise [k0_pay2]

/-- The accumulator after the last of a row block's four points. -/
theorem acc_sum (t : Fin cfg0.N) (ht : t.val % 4 = 3) (i : S1024x1024.Idx) : (outsAt0 m c t.val t.isLt).2 i
    = 0 + ∑ s : Fin 4, term m c ⟨4 * (t.val / 4) + s.val, by have : t.val < 16 := t.isLt; exact (show _ < 16 by omega)⟩ i :=
  Pipeline.eq_sum_fin_of_reset_step_apply_of_flush (M := EReal) (fun n h => (outsAt0 m c n h).2) 4 (fun _ => 0) (term m c)
    (fun t h j => by
      rw [outsAt0_A m c t h (by omega)]
      frame_out
      rw [pay2_apply]
      pointwise [k0_pay1])
    (fun t h j => by
      by_cases h1 : t.val % 4 = 3
      · rw [outsAt0_C m c t h h1]
        frame_out
        simp only [read_unread_whole]
        rw [pay2_apply]
      · rw [outsAt0_B m c t h h1]
        frame_out
        simp only [read_unread_whole]
        rw [pay2_apply])
    t ht i

/-- That is the product, at the block's rows. -/
theorem acc_eq (t : Fin cfg0.N) (ht : t.val % 4 = 3) (y k : Fin 1024) :
    (outsAt0 m c t.val t.isLt).2 (ix2 y k) = product m c (row t y) k := by
  have h16 : t.val < 16 := t.isLt
  refine (acc_sum m c t ht _).trans ?_
  rw [zero_add]
  unfold product term
  refine Finset.sum_congr rfl fun s _ => Finset.sum_congr rfl fun x _ => ?_
  obtain ⟨e0, e1, -⟩ := index_facts ⟨4 * (t.val / 4) + s.val, show _ < 16 by omega⟩
  unfold row
  congr 1
  · blk_simp [iblk]
    entry_read
    pointwise
    blk_ext [e0]
  · blk_ext [iblk, V, e1]

/-- What the last point of a row block makes of the product. -/
theorem pay3_apply (p y : Vec Ideal S1024x1024 .f32) (i : S1024x1024.Idx) : k0_pay3 (F := Ideal) p y i = geluGrad (p i) (y i) := by
  unfold geluGrad inner bend
  simp only [fun a : EReal => mul_assoc a a a]
  pointwise [k0_pay3]

theorem block3 (t : Fin cfg0.N) (ht : t.val % 4 = 3) :
    (outsAt0 m c t.val t.isLt).1 = k0_pay3 (outsAt0 m c t.val t.isLt).2 (iblk m c 2 t) := by
  rw [outsAt0_C m c t (by omega) ht]
  frame_out

theorem block3_eq (t : Fin cfg0.N) (ht : t.val % 4 = 3) (y k : Fin 1024) : (outsAt0 m c t.val t.isLt).1 (ix2 y k) = entry m c (row t y) k := by
  rw [block3 m c t ht]
  refine (pay3_apply _ _ _).trans ?_
  unfold entry
  refine congrArg₂ geluGrad (acc_eq m c t ht y k) ?_
  obtain ⟨-, -, e, -⟩ := index_facts t
  unfold row
  blk_ext [iblk, V, e]

theorem place (t : Fin cfg0.N) (y k : Fin 1024) (R : Fin 4096) (K : Fin 1024) (hR : R.val = t.val / 4 * 1024 + y.val) (hK : K.val = k.val) :
    entry m c (row t y) k = entry m c R K := by
  rw [show R = row t y from Fin.ext hR, show K = k from Fin.ext hK]

/-- After the run the result array is the gradient. -/
theorem array3 : (dats m 0 c).arrAt 3 cfg0.N = grad m c := by
  refine (dats m 0 c).arrAt_eq_of_covers 3 _ (by decide +kernel) fun t hf y => ?_
  obtain ⟨-, -, -, e⟩ := index_facts t
  have ht := (flush0_3 t).mp hf
  blk_simp
  rw [after0_3]
  obtain ⟨y0, y1, rfl⟩ : ∃ a b, y = ix2 a b := ⟨y 0, y 1, eq_ix2 y⟩
  exact (block3_eq m c t ht y0 y1).trans (place m c t y0 y1 _ _ (by blk_simp [e]) (by blk_simp [e]))

/-- After the kernel's run the result is the gradient, and the arguments what they were. -/
theorem kernel_run : θ_run defs (onTc (τ := τ) (main (F := Ideal))) ⟨m, fun _ => 0, ρ⟩ (fun r => ∀ c : Dev nD,
      r.2.mem ((c : Thread nD τ).loc main_v1) = grad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c).1.trans (array3 m c), (h c).2⟩) (Value.run_blocks m ρ)

/-- The reference's frame. -/
theorem reference_frame : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩) (Cert.Reference6Ideal.Value.run (F := Ideal) m ρ)

/-- Over the extended reals kernel and reference have the same result. -/
theorem algebraic : Cert.algebraic_Kernel6Ideal_Reference6Ideal (hKernel6Ideal := Cert.Kernel6Ideal.Gen.facts)
    (hReference6Ideal := Cert.Reference6Ideal.Gen.facts) := by
  intro m ρ m' ρ' _ hm
  refine ⟨fun c => grad m c, kernel_run m ρ, ?_⟩
  refine (θ_run Cert.Reference6Ideal.defs _ _).mono (fun r h c => ?_) (Cert.Reference6Ideal.Value.run (F := Ideal) m' ρ')
  obtain ⟨a0, a1, a2⟩ := hm c
  obtain ⟨h0, h1⟩ := h c
  unfold Cert.Reference6Ideal.Value.res_main_v39 at h0
  rw [a0, a1, a2] at h0
  refine ⟨h0.trans (funext fun i => ?_), h1⟩
  obtain ⟨r, k, rfl⟩ : ∃ r k, i = ix2 r k := ⟨i 0, i 1, eq_ix2 i⟩
  refine Eq.trans ?_ (show entry m c r k = _ from rfl)
  unfold entry
  rw [← product_eq]
  unfold geluGrad inner bend
  clean_types
  pointwise

end Cert.GluDx

end
-- ==== Proof.GluDw.lean ====
/- The gradient of the gate's product at its weight:
   `dw[q, k, x] = Σ_r z[r, k] · dzz[r, q · 512 + x]`, in f32 and rounded, kernel and reference. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.GluDw

open Idealize.ShloMosaic Idealize.ShloMosaic.TcCoe Idealize.SL.Sem
open Cert.Kernel7Ideal Cert.Kernel7Ideal.Gen

variable (m : (ℓ : Loc nD τ sig) → Buf (Elt Ideal) ℓ) (ρ : Dev nD → PrngReg) (c : Dev nD)

/-- The activation and the incoming gradient, as launched. -/
def z : FVec Ideal S4096x1024 .bf16 := m ((c : Thread nD τ).loc main_arg0)
def dzz : FVec Ideal S4096x2048 .bf16 := m ((c : Thread nD τ).loc main_arg1)

/-- The weight's gradient in column block `q`, row `k` and column `x` of the block. -/
def entry (q : Fin 4) (k : Fin 1024) (x : Fin 512) : EReal := ∑ r : Fin 4096, z m c (ix2 r k) * dzz m c (ix2 r ⟨q.val * 512 + x.val, by omega⟩)

/-- The weight's gradient as an array, and the same rounded: over the extended reals a rounding changes nothing. -/
def grad : FVec Ideal S4x1024x512 .f32 := fun i => entry m c (i 0) (i 1) (i 2)
def gradNarrow : FVec Ideal S4x1024x512 .bf16 := fun i => entry m c (i 0) (i 1) (i 2)

/-- Where the blocks lie. -/
theorem index_facts : ∀ t : Fin grid0.N, win0_0.index t = ![0, t.val % 2] ∧ win0_1.index t = ![0, 0, t.val / 2]
    ∧ win0_2.index t = ![t.val / 2, t.val % 2, 0] ∧ win0_3.index t = ![t.val / 2, t.val % 2, 0] := by
  decide +kernel

/-- The blocks of the activation and of the incoming gradient at a grid point. -/
abbrev blockZ (t : Fin cfg0.N) : FVec Ideal S4096x512 .bf16 := iblk m c 0 t
abbrev blockDzz (t : Fin cfg0.N) : FVec Ideal S1x4096x512 .bf16 := iblk m c 1 t

/-- What a grid point leaves in the f32 block. -/
theorem block2 (t : Fin cfg0.N) (k x : Fin 512) : (outsAt0 m c t).1 (ix3 0 k x)
    = ∑ r : Fin 4096, blockZ m c t (ix2 r k) * blockDzz m c t (ix3 0 r x) := by
  unfold outsAt0
  dsimp only
  frame_out
  pointwise [k0_pay2, k0_pay1]

/-- The rounded block is the f32 block. -/
theorem block3 (t : Fin cfg0.N) (k x : Fin 512) : (outsAt0 m c t).2 (ix3 0 k x)
    = ∑ r : Fin 4096, blockZ m c t (ix2 r k) * blockDzz m c t (ix3 0 r x) := by
  unfold outsAt0
  dsimp only
  frame_out
  pointwise [k0_pay3, k0_pay2, k0_pay1]

/-- A block's sum is the whole arrays' sum, at the block's place. -/
theorem place (t : Fin cfg0.N) (k x : Fin 512) (Q : Fin 4) (K : Fin 1024) (X : Fin 512) (hQ : Q.val = t.val / 2)
    (hK : K.val = t.val % 2 * 512 + k.val) (hX : X.val = x.val) :
    ∑ r : Fin 4096, blockZ m c t (ix2 r k) * blockDzz m c t (ix3 0 r x) = entry m c Q K X := by
  unfold entry z dzz
  obtain ⟨e0, e1, -, -⟩ := index_facts t
  refine Finset.sum_congr rfl fun r _ => ?_
  congr 1
  · blk_ext [iblk, V, e0]
  · blk_simp [iblk]
    entry_read
    pointwise
    blk_ext [e1]

theorem array2 : (dats m 0 c).arrAt 2 cfg0.N = grad m c := by
  refine (dats m 0 c).arrAt_eq_of_covers 2 _ (by decide +kernel) fun t hf y => ?_
  obtain ⟨-, -, e2, -⟩ := index_facts t
  blk_simp
  rw [after0_2]
  obtain ⟨o, k, x, rfl⟩ : ∃ o k x, y = ix3 o k x := ⟨y 0, y 1, y 2, eq_ix3 y⟩
  obtain rfl : o = 0 := Subsingleton.elim _ _
  exact (block2 m c t k x).trans (place m c t k x _ _ _ (by blk_simp [e2]; rfl) (by blk_simp [e2]) (by blk_simp [e2]))

theorem array3 : (dats m 0 c).arrAt 3 cfg0.N = gradNarrow m c := by
  refine (dats m 0 c).arrAt_eq_of_covers 3 _ (by decide +kernel) fun t hf y => ?_
  obtain ⟨-, -, -, e3⟩ := index_facts t
  blk_simp
  rw [after0_3]
  obtain ⟨o, k, x, rfl⟩ : ∃ o k x, y = ix3 o k x := ⟨y 0, y 1, y 2, eq_ix3 y⟩
  obtain rfl : o = 0 := Subsingleton.elim _ _
  exact (block3 m c t k x).trans (place m c t k x _ _ _ (by blk_simp [e3]; rfl) (by blk_simp [e3]) (by blk_simp [e3]))

/-- After the kernel's run the results hold the gradient, and the arguments what they held. -/
theorem kernel_run : θ_run defs (onTc (τ := τ) (main (F := Ideal))) ⟨m, fun _ => 0, ρ⟩ (fun r => ∀ c : Dev nD,
      r.2.mem ((c : Thread nD τ).loc main_v1_0) = grad m c
      ∧ r.2.mem ((c : Thread nD τ).loc main_v1_1) = gradNarrow m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2.1.trans (array3 m c), (h c).2.2⟩) (Value.run_blocks m ρ)

open Cert.Reference7Ideal.Facts₀ in
/-- The reference's product, cut into the four column blocks. -/
abbrev product : FVec Ideal Cert.Reference7Ideal.S4x1024x512 .f32 :=
  transpose Cert.Reference7Ideal.S4x1024x512 [1, 0, 2]
    (shapeCast Cert.Reference7Ideal.S1024x4x512
      (transpose Cert.Reference7Ideal.S1024x2048 [1, 0]
        (Host.dotGeneral Cert.Reference7Ideal.dot_S4096x2048_S4096x1024_S2048x1024_0_0_1_1_n_n none (extf .f32 (dzz m c) Cert.Reference7Ideal.Facts₀.bitsLt_bf16_f32)
          (extf .f32 (z m c) Cert.Reference7Ideal.Facts₀.bitsLt_bf16_f32))
        transposes_S2048x1024_S1024x2048_1_0) shapeCasts_S1024x2048_S1024x4x512) transposes_S1024x4x512_S4x1024x512_1_0_2

theorem product_apply (i : Cert.Reference7Ideal.S4x1024x512.Idx) : product m c i = entry m c (i 0) (i 1) (i 2) := by
  unfold entry
  obtain ⟨q, k, x, rfl⟩ : ∃ q k x, i = ix3 q k x := ⟨i 0, i 1, i 2, eq_ix3 i⟩
  pointwise [product]
  exact Finset.sum_congr rfl fun r _ => mul_comm _ _

/-- The reference's frame. -/
theorem reference_frame : Cert.quiescent_Reference7Ideal (hReference7Ideal := Cert.Reference7Ideal.Gen.facts) := fun m ρ _ =>
  (θ_run Cert.Reference7Ideal.defs _ _).mono
    (fun r h => ⟨fun c => (h c).2.2, sem_eq_zero_of_no_sems (by decide) r.2⟩) (Cert.Reference7Ideal.Value.run (F := Ideal) m ρ)

/-- Over the extended reals kernel and reference have the same results. -/
theorem algebraic : Cert.algebraic_Kernel7Ideal_Reference7Ideal (hKernel7Ideal := Cert.Kernel7Ideal.Gen.facts)
    (hReference7Ideal := Cert.Reference7Ideal.Gen.facts) := by
  intro m ρ m' ρ' _ hm
  refine ⟨fun c => grad m c, fun c => gradNarrow m c, kernel_run m ρ, ?_⟩
  refine (θ_run Cert.Reference7Ideal.defs _ _).mono (fun r h c => ?_) (Cert.Reference7Ideal.Value.run (F := Ideal) m' ρ')
  obtain ⟨a0, a1⟩ := hm c
  obtain ⟨h0, h1, h2⟩ := h c
  rw [a0, a1] at h0 h1
  exact ⟨h0.trans (funext fun i => product_apply m c i), h1.trans (funext fun i => product_apply m c i), h2⟩

end Cert.GluDw

end
-- ==== Proof.Scale.lean ====
/- A factor that is a positive real number goes in and out of a sum of extended reals. -/
module

public import Idealize.ShloMosaic.Lib.Pointwise
public import Mathlib.Data.EReal.Operations

@[expose] public section

noncomputable section

namespace Cert.Scale

open Idealize.ShloMosaic

/-- The head's scale: the number whose bits stand in the programs. -/
abbrev factor : EReal := Ideal.ofBits .f32 0x3E000000#32

theorem factor_eq : factor = ((1 / 8 : ℝ) : EReal) := by
  simp [factor, Ideal.ofBits, Ideal.ieee, -EReal.coe_mul]
  norm_num

theorem factor_nonneg : 0 ≤ factor := by
  rw [factor_eq]
  exact EReal.coe_nonneg.2 (by norm_num)

theorem factor_ne_top : factor ≠ ⊤ := by
  rw [factor_eq]
  exact EReal.coe_ne_top _

/-- A sum times a number that is neither negative nor infinite is the sum of the terms times that number. -/
theorem sum_mul {a : EReal} (h : 0 ≤ a) (h' : a ≠ ⊤) {n : ℕ} (f : Fin n → EReal) : (∑ i, f i) * a = ∑ i, f i * a := by
  induction n with
  | zero => simp
  | succ n ih => rw [Fin.sum_univ_succ, Fin.sum_univ_succ, EReal.right_distrib_of_nonneg_of_ne_top h h', ih]

/-- A sum times the scale is the sum of the scaled terms. -/
theorem sum_mul_factor {n : ℕ} (f : Fin n → EReal) : (∑ i, f i) * factor = ∑ i, f i * factor :=
  sum_mul factor_nonneg factor_ne_top f

/-- So a product of two arrays may take the scale at one of them, or at the end. -/
theorem sum_mul_scaled {n : ℕ} (f g : Fin n → EReal) : ∑ i, f i * factor * g i = (∑ i, f i * g i) * factor := by
  rw [sum_mul_factor]
  exact Finset.sum_congr rfl fun i _ => by rw [mul_right_comm]

end Cert.Scale

end
-- ==== Proof.QDx.lean ====
/- The gradient of the product of queries at its input, through the normalisation before it and joined to the gradient that
   passes by; and the gradient at the normalisation's gain. Kernel and reference. -/
module

public import proofs.«01_k».proof.Defs
public import proofs.«01_k».proof.Proof.Gen.Kernel8Ideal.Value
public import proofs.«01_k».proof.Proof.Gen.Reference8Ideal.Run
public import proofs.«01_k».proof.Proof.InDxSpec
public import proofs.«01_k».proof.Proof.Scale
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.QDx

open Idealize.ShloMosaic Idealize.ShloMosaic.TcCoe Idealize.SL.Sem
open Idealize.ShloMosaic.Tactic
open Cert.InDx (rowGrad shift scale meanSquare)
open Cert.Kernel8Ideal Cert.Kernel8Ideal.Gen

variable (m : (ℓ : Loc nD τ sig) → Buf (Elt Ideal) ℓ) (ρ : Dev nD → PrngReg) (c : Dev nD)

/-- The arguments, as launched: the queries' gradient, the weight, the gradient that passes by, the hidden rows, and the gain. -/
abbrev dq : FVec Ideal S4096x1024 .f32 := m ((c : Thread nD τ).loc main_arg0)
abbrev weight : FVec Ideal S1x1x1024x1024 .bf16 := m ((c : Thread nD τ).loc main_arg1)
abbrev past : FVec Ideal S4096x1024 .f32 := m ((c : Thread nD τ).loc main_arg2)
abbrev rows : FVec Ideal S4096x1024 .f32 := m ((c : Thread nD τ).loc main_arg3)
abbrev gain : FVec Ideal S1x1024 .f32 := m ((c : Thread nD τ).loc main_arg4)

/-- The scaled product that comes back. -/
def product (r : Fin 4096) (k : Fin 1024) : EReal := (∑ d : Fin 1024, dq m c (ix2 r d) * weight m c (ix4 0 0 k d)) * Scale.factor

/-- The gradient at the hidden rows. -/
def hidden (r : Fin 4096) (k : Fin 1024) : EReal :=
  rowGrad (past m c (ix2 r k)) (product m c r) (fun x => rows m c (ix2 r x)) (fun x => gain m c (ix2 0 x)) k

/-- What a row adds to the gradient at the gain. -/
def share (r : Fin 4096) (k : Fin 1024) : EReal := rows m c (ix2 r k) * scale (fun x => rows m c (ix2 r x)) * product m c r k

/-- The three results. -/
def grad : FVec Ideal S4096x1024 .f32 := fun i => hidden m c (i 0) (i 1)
def gradNarrow : FVec Ideal S4096x1024 .bf16 := fun i => hidden m c (i 0) (i 1)
def gainGrad : FVec Ideal S1x1024 .f32 := fun i => ((∑ r : Fin 4096, share m c r (i 1) : EReal))

/-- Where the blocks lie. -/
theorem index_facts : ∀ t : Fin grid0.N, win0_0.index t = ![t.val, 0] ∧ win0_1.index t = ![0, 0, 0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] := by
  decide +kernel

/-- The row of the arrays that row `y` of point `t`'s blocks is. -/
def row (t : Fin cfg0.N) (y : Fin 512) : Fin 4096 := ⟨t.val * 512 + y.val, by have : t.val < 8 := t.isLt; omega⟩

theorem rows_eq (t : Fin cfg0.N) (y : Fin 512) (k : Fin 1024) : iblk m c 3 t (ix2 y k) = rows m c (ix2 (row t y) k) := by
  obtain ⟨-, -, -, e, -⟩ := index_facts t
  unfold row
  blk_ext [iblk, V, e]

theorem past_eq (t : Fin cfg0.N) (y : Fin 512) (k : Fin 1024) : iblk m c 2 t (ix2 y k) = past m c (ix2 (row t y) k) := by
  obtain ⟨-, -, e, -⟩ := index_facts t
  unfold row
  blk_ext [iblk, V, e]

theorem gain_eq (t : Fin cfg0.N) (k : Fin 1024) : iblk m c 4 t (ix2 0 k) = gain m c (ix2 0 k) := by
  obtain ⟨-, -, -, -, e, -⟩ := index_facts t
  blk_ext [iblk, V, e]

/-- A grid point's block of the product. -/
theorem product_eq (t : Fin cfg0.N) (y : Fin 512) (k : Fin 1024) :
    k0_pay5 (F := Ideal) (iblk m c 0 t) (iblk m c 1 t) (ix2 y k) = product m c (row t y) k := by
  obtain ⟨e0, e1, -⟩ := index_facts t
  unfold product row
  pointwise [k0_pay5]
  congr 1
  refine Fin.sum_fin_congr fun d => congrArg₂ (· * ·) ?_ ?_
  · blk_ext [iblk, V, e0]
  · blk_ext [iblk, V, e1]

/-- The gradient at a block's rows. -/
abbrev blockGrad (t : Fin cfg0.N) : FVec Ideal S512x1024 .f32 :=
  k0_pay1 (F := Ideal) (iblk m c 2 t) (iblk m c 3 t) (k0_pay10 (iblk m c 0 t) (iblk m c 1 t) (iblk m c 3 t) (iblk m c 4 t))
    (k0_pay11 (iblk m c 0 t) (iblk m c 1 t) (iblk m c 3 t) (iblk m c 4 t)) (k0_pay12 (F := Ideal))

theorem blockGrad_eq (t : Fin cfg0.N) (y : Fin 512) (k : Fin 1024) : blockGrad m c t (ix2 y k) = hidden m c (row t y) k := by
  unfold blockGrad k0_pay10 k0_pay11 k0_pay9
  have e := product_eq m c t
  generalize k0_pay5 (F := Ideal) (iblk m c 0 t) (iblk m c 1 t) = p at e
  have er := rows_eq m c t
  have eg := gain_eq m c t
  have ep := past_eq m c t
  generalize iblk m c 3 t = x at er
  generalize iblk m c 4 t = g at eg
  generalize iblk m c 2 t = d at ep
  unfold hidden rowGrad shift scale meanSquare
  simp only [← e, ← er, ← eg, ← ep]
  pointwise [k0_pay1, k0_pay7, k0_pay6, k0_pay12]

/-- What a block's rows add to the gradient at the gain. -/
theorem share_eq (t : Fin cfg0.N) (k : Fin 1024) :
    k0_pay8 (F := Ideal) (iblk m c 0 t) (iblk m c 1 t) (iblk m c 3 t) (ix2 0 k) = ∑ y : Fin 512, share m c (row t y) k := by
  unfold k0_pay8
  have e := product_eq m c t
  generalize k0_pay5 (F := Ideal) (iblk m c 0 t) (iblk m c 1 t) = p at e
  have er := rows_eq m c t
  generalize iblk m c 3 t = x at er
  unfold share scale meanSquare
  simp only [← e, ← er]
  pointwise [k0_pay7, k0_pay6]

theorem pay4_apply (a b : Vec Ideal S1x1024 .f32) (k : Fin 1024) : k0_pay4 (F := Ideal) a b (ix2 0 k) = (b (ix2 0 k) : EReal) + a (ix2 0 k) := by
  pointwise [k0_pay4]

theorem block5 (t : Fin cfg0.N) : (outsAt0 m c t.val t.isLt).1 = blockGrad m c t := by
  by_cases h : t.val % 8 = 0
  · rw [outsAt0_A m c t h]
    frame_out
  · rw [outsAt0_B m c t h]
    frame_out

theorem block6 (t : Fin cfg0.N) (y : Fin 512) (k : Fin 1024) : (outsAt0 m c t.val t.isLt).2.1 (ix2 y k) = blockGrad m c t (ix2 y k) := by
  by_cases h : t.val % 8 = 0
  · rw [outsAt0_A m c t h]
    frame_out
    pointwise [k0_pay2]
  · rw [outsAt0_B m c t h]
    frame_out
    pointwise [k0_pay2]

/-- The gradient at the gain, after the last point: the sum of all points' shares. -/
theorem block7 (t : Fin cfg0.N) (ht : t.val % 8 = 7) (k : Fin 1024) : (outsAt0 m c t.val t.isLt).2.2 (ix2 0 k)
    = 0 + ∑ s : Fin 8, ∑ y : Fin 512, share m c (row ⟨8 * (t.val / 8) + s.val, by have : t.val < 8 := t.isLt; exact (show _ < 8 by omega)⟩ y) k :=
  Pipeline.eq_sum_fin_of_reset_step_apply_of_flush (M := EReal) (fun n h => fun k : Fin 1024 => (outsAt0 m c n h).2.2 (ix2 0 k)) 8 (fun _ => 0)
    (fun t k => ∑ y : Fin 512, share m c (row t y) k)
    (fun t h j => by
      rw [outsAt0_A m c t h]
      frame_out
      rw [pay4_apply, share_eq]
      pointwise [k0_pay3])
    (fun t h j => by
      rw [outsAt0_B m c t h]
      frame_out
      rw [pay4_apply, share_eq])
    t ht k

/-- That is the sum over all rows. -/
theorem block7_eq (t : Fin cfg0.N) (ht : t.val % 8 = 7) (k : Fin 1024) :
    (outsAt0 m c t.val t.isLt).2.2 (ix2 0 k) = ∑ r : Fin 4096, share m c r k := by
  refine (block7 m c t ht k).trans ?_
  rw [zero_add]
  have h8 : t.val < 8 := t.isLt
  refine Fin.sum_mul_add_congr (S := 8) (n := 512) fun s y h => congrArg (fun r => share m c r k) (Fin.ext ?_)
  show (8 * (t.val / 8) + s.val) * 512 + y.val = _
  simp
  omega

theorem place (t : Fin cfg0.N) (y : Fin 512) (k : Fin 1024) (R : Fin 4096) (K : Fin 1024) (hR : R.val = t.val * 512 + y.val) (hK : K.val = k.val) :
    hidden m c (row t y) k = hidden m c R K := by
  rw [show R = row t y from Fin.ext hR, show K = k from Fin.ext hK]

theorem place_gain (k K : Fin 1024) (hK : K.val = k.val) : (∑ r : Fin 4096, share m c r k) = ∑ r : Fin 4096, share m c r K := by
  rw [show K = k from Fin.ext hK]

theorem array5 : (dats m 0 c).arrAt 5 cfg0.N = grad m c := by
  refine (dats m 0 c).arrAt_eq_of_covers 5 _ (by decide +kernel) fun t hf y => ?_
  obtain ⟨-, -, -, -, -, e, -⟩ := index_facts t
  blk_simp
  rw [after0_5, block5]
  obtain ⟨y0, y1, rfl⟩ : ∃ a b, y = ix2 a b := ⟨y 0, y 1, eq_ix2 y⟩
  exact (blockGrad_eq m c t y0 y1).trans (place m c t y0 y1 _ _ (by blk_simp [e]) (by blk_simp [e]))

theorem array6 : (dats m 0 c).arrAt 6 cfg0.N = gradNarrow m c := by
  refine (dats m 0 c).arrAt_eq_of_covers 6 _ (by decide +kernel) fun t hf y => ?_
  obtain ⟨-, -, -, -, -, -, e, -⟩ := index_facts t
  blk_simp
  rw [after0_6]
  obtain ⟨y0, y1, rfl⟩ : ∃ a b, y = ix2 a b := ⟨y 0, y 1, eq_ix2 y⟩
  exact (block6 m c t y0 y1).trans ((blockGrad_eq m c t y0 y1).trans (place m c t y0 y1 _ _ (by blk_simp [e]) (by blk_simp [e])))

theorem array7 : (dats m 0 c).arrAt 7 cfg0.N = gainGrad m c := by
  refine (dats m 0 c).arrAt_eq_of_covers 7 _ (by decide +kernel) fun t hf y => ?_
  obtain ⟨-, -, -, -, -, -, -, e⟩ := index_facts t
  have ht := (flush0_7 t).mp hf
  blk_simp
  rw [after0_7]
  obtain ⟨z, y1, rfl⟩ : ∃ z b, y = ix2 z b := ⟨y 0, y 1, eq_ix2 y⟩
  obtain rfl : z = 0 := Fin.fin_one_eq_zero z
  exact (block7_eq m c t ht y1).trans (place_gain m c y1 _ (by blk_simp [e]))

/-- After the kernel's run the results hold the gradients, and the arguments what they held. -/
theorem kernel_run : θ_run defs (onTc (τ := τ) (main (F := Ideal))) ⟨m, fun _ => 0, ρ⟩ (fun r => ∀ c : Dev nD,
      r.2.mem ((c : Thread nD τ).loc main_v0_0) = grad m c
      ∧ r.2.mem ((c : Thread nD τ).loc main_v0_1) = gradNarrow m c
      ∧ r.2.mem ((c : Thread nD τ).loc main_v0_2) = gainGrad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c).1.trans (array5 m c), (h c).2.1.trans (array6 m c), (h c).2.2.1.trans (array7 m c), (h c).2.2.2⟩)
    (Value.run_blocks m ρ)

/-- Scaling the incoming gradient first scales the product. -/
theorem product_scaled (a : FVec Ideal S4096x1024 .f32) (w : FVec Ideal S1x1x1024x1024 .bf16) (r : Fin 4096) (k : Fin 1024) :
    (∑ d : Fin 1024, a (ix2 r d) * Ideal.ofBits .f32 0x3E000000#32 * w (ix4 0 0 k d)) = (∑ d : Fin 1024, a (ix2 r d) * w (ix4 0 0 k d)) * Scale.factor :=
  Scale.sum_mul_scaled (fun d => a (ix2 r d)) (fun d => w (ix4 0 0 k d))

/-- The reference's frame. -/
theorem reference_frame : Cert.quiescent_Reference8Ideal (hReference8Ideal := Cert.Reference8Ideal.Gen.facts) := fun m ρ _ =>
  (θ_run Cert.Reference8Ideal.defs _ _).mono
    (fun r h => ⟨fun c => (h c).2.2.2, sem_eq_zero_of_no_sems (by decide) r.2⟩) (Cert.Reference8Ideal.Value.run (F := Ideal) m ρ)

/-- Over the extended reals kernel and reference have the same results. -/
theorem algebraic : Cert.algebraic_Kernel8Ideal_Reference8Ideal (hKernel8Ideal := Cert.Kernel8Ideal.Gen.facts)
    (hReference8Ideal := Cert.Reference8Ideal.Gen.facts) := by
  intro m ρ m' ρ' _ hm
  refine ⟨fun c => grad m c, fun c => gradNarrow m c, fun c => gainGrad m c, kernel_run m ρ, ?_⟩
  refine (θ_run Cert.Reference8Ideal.defs _ _).mono (fun r h c => ?_) (Cert.Reference8Ideal.Value.run (F := Ideal) m' ρ')
  obtain ⟨a0, a1, a2, a3, a4⟩ := hm c
  obtain ⟨h0, h1, h2, h3⟩ := h c
  unfold Cert.Reference8Ideal.Value.res_main_v42 at h0
  unfold Cert.Reference8Ideal.Value.res_main_v43 at h1
  rw [a0, a1, a2, a3, a4] at h0 h1
  rw [a0, a1, a3] at h2
  have e := fun r k => product_scaled (dq m c) (weight m c) r k
  refine ⟨h0.trans (funext fun i => ?_), h1.trans (funext fun i => ?_), h2.trans (funext fun i => ?_), h3⟩
  · obtain ⟨r, k, rfl⟩ : ∃ r k, i = ix2 r k := ⟨i 0, i 1, eq_ix2 i⟩
    unfold grad hidden
    clean_types
    pointwise
    simp only [e]
    unfold product rowGrad shift scale meanSquare
    rw [add_assoc, add_assoc, add_assoc]
  · obtain ⟨r, k, rfl⟩ : ∃ r k, i = ix2 r k := ⟨i 0, i 1, eq_ix2 i⟩
    unfold gradNarrow hidden
    clean_types
    pointwise
    simp only [e]
    unfold product rowGrad shift scale meanSquare
    rw [add_assoc, add_assoc, add_assoc]
  · obtain ⟨z, k, rfl⟩ : ∃ z k, i = ix2 z k := ⟨i 0, i 1, eq_ix2 i⟩
    unfold gainGrad share
    clean_types
    pointwise
    simp only [e]
    unfold product scale meanSquare
    rfl

end Cert.QDx

end
-- ==== Proof.QDw.lean ====
/- The gradient of the product of queries at its weight: `dw[k, d] = Σ_r h[r, k] · dq[r, d] · scale`, in f32 and rounded,
   kernel and reference. The kernel scales the sum, the reference its terms. -/
module

public import proofs.«01_k».proof.Defs
public import proofs.«01_k».proof.Proof.Gen.Kernel9Ideal.Value
public import proofs.«01_k».proof.Proof.Gen.Reference9Ideal.Run
public import proofs.«01_k».proof.Proof.Scale
public import Idealize.ShloMosaic.Lib.Pipeline.ValueKit
public import Idealize.ShloMosaic.Lib.Pointwise
public import Idealize.ShloMosaic.Lib.Quiescent

@[expose] public section

set_option maxRecDepth 16384

noncomputable section

namespace Cert.QDw

open Idealize.ShloMosaic Idealize.ShloMosaic.TcCoe Idealize.SL.Sem
open Cert.Kernel9Ideal Cert.Kernel9Ideal.Gen

variable (m : (ℓ : Loc nD τ sig) → Buf (Elt Ideal) ℓ) (ρ : Dev nD → PrngReg) (c : Dev nD)

/-- The activation and the incoming gradient, as launched. -/
def hn : FVec Ideal S4096x1024 .bf16 := m ((c : Thread nD τ).loc main_arg0)
def dq : FVec Ideal S4096x1024 .f32 := m ((c : Thread nD τ).loc main_arg1)

/-- The weight's gradient at row `k` and column `d`. -/
def entry (k : Fin 1024) (d : Fin 1024) : EReal := ∑ r : Fin 4096, hn m c (ix2 r k) * (dq m c (ix2 r d) * Scale.factor)

/-- The weight's gradient as an array, and the same rounded: over the extended reals a rounding changes nothing. -/
def grad : FVec Ideal S1x1024x1024 .f32 := fun i => entry m c (i 1) (i 2)
def gradNarrow : FVec Ideal S1x1024x1024 .bf16 := fun i => entry m c (i 1) (i 2)

/-- Where the blocks lie. -/
theorem index_facts : ∀ t : Fin grid0.N, win0_0.index t = ![t.val % 2, t.val / 2] ∧ win0_1.index t = ![0, t.val % 2, 0]
    ∧ win0_2.index t = ![0, t.val / 2, 0] ∧ win0_3.index t = ![0, t.val / 2, 0] := by
  decide +kernel

/-- The blocks of the activation and of the incoming gradient at a grid point. -/
abbrev blockIn (t : Fin cfg0.N) : FVec Ideal S2048x512 .bf16 := iblk m c 0 t
abbrev blockGrad (t : Fin cfg0.N) : FVec Ideal S1x2048x1024 .f32 := iblk m c 1 t

/-- The product of a grid point's blocks. -/
def term (t : Fin cfg0.N) (i : S1x512x1024.Idx) : EReal :=
  ∑ r : Fin 2048, blockIn m c t (ix2 r (i 1)) * blockGrad m c t (ix3 0 r (i 2))

/-- One accumulation step adds the product of the point's blocks. -/
theorem pay2_apply (t : Fin cfg0.N) (v : Vec Ideal S1x512x1024 .f32) (i : S1x512x1024.Idx) :
    k0_pay2 v (iblk m c 0 t) (iblk m c 1 t) i = (v i : EReal) + term m c t i := by
  unfold term
  obtain ⟨z, k, x, rfl⟩ : ∃ z k x, i = ix3 z k x := ⟨i 0, i 1, i 2, eq_ix3 i⟩
  obtain rfl : z = 0 := Subsingleton.elim _ _
  pointwise [k0_pay2]

/-- The first point of a run leaves its product. -/
theorem start (t : Fin cfg0.N) (ht : t.val % 2 = 0) (i : S1x512x1024.Idx) : ((outsAt0 m c t.val t.isLt).1 i : EReal) = term m c t i := by
  rw [outsAt0_A m c t ht (by omega)]
  frame_out
  rw [pay2_apply]
  pointwise [k0_pay1]

/-- The second adds its own, and scales. -/
theorem block2 (t : Fin cfg0.N) (ht : t.val % 2 = 1) (i : S1x512x1024.Idx) : (outsAt0 m c t.val t.isLt).1 i
    = (∑ s : Fin 2, term m c ⟨2 * (t.val / 2) + s.val, by have := t.isLt; omega⟩ i) * Scale.factor := by
  obtain ⟨z, k, x, rfl⟩ : ∃ z k x, i = ix3 z k x := ⟨i 0, i 1, i 2, eq_ix3 i⟩
  obtain rfl : z = 0 := Subsingleton.elim _ _
  have h4 : t.val < 4 := t.isLt
  have hp := start m c ⟨t.val - 1, show _ < 4 by omega⟩ (by show (t.val - 1) % 2 = 0; omega) (ix3 0 k x)
  rw [outsAt0_B m c t (by omega) ht]
  frame_out
  pointwise [k0_pay3]
  rw [pay2_apply, Fin.sum_univ_two]
  refine congrArg (· * Scale.factor) ?_
  refine congrArg₂ (· + ·) (hp.trans ?_) ?_
  · exact congrArg (fun s => term m c s (ix3 0 k x)) (Fin.ext (by show t.val - 1 = 2 * (t.val / 2) + 0; omega))
  · exact congrArg (fun s => term m c s (ix3 0 k x)) (Fin.ext (by show t.val = 2 * (t.val / 2) + 1; omega))

/-- The rounded block is the f32 block. -/
theorem block3 (t : Fin cfg0.N) (ht : t.val % 2 = 1) (i : S1x512x1024.Idx) :
    ((outsAt0 m c t.val t.isLt).2 i : EReal) = (outsAt0 m c t.val t.isLt).1 i := by
  obtain ⟨z, k, x, rfl⟩ : ∃ z k x, i = ix3 z k x := ⟨i 0, i 1, i 2, eq_ix3 i⟩
  rw [outsAt0_B m c t (by omega) ht]
  frame_out
  pointwise [k0_pay4]

/-- The two products are the sum over all rows, at the block's place. -/
theorem place (t : Fin cfg0.N) (ht : t.val % 2 = 1) (z : Fin 1) (k : Fin 512) (x : Fin 1024) (K : Fin 1024) (X : Fin 1024)
    (hK : K.val = t.val / 2 * 512 + k.val) (hX : X.val = x.val) :
    (∑ s : Fin 2, term m c ⟨2 * (t.val / 2) + s.val, by have := t.isLt; omega⟩ (ix3 z k x)) * Scale.factor = entry m c K X := by
  unfold entry hn dq
  simp only [← mul_assoc]
  rw [← Scale.sum_mul_factor]
  refine congrArg (· * Scale.factor) ?_
  unfold term
  refine Fin.sum_mul_add_congr (S := 2) (n := 2048) fun s r h => ?_
  have h4 : t.val < 4 := t.isLt
  obtain ⟨e0, e1, -, -⟩ := index_facts ⟨2 * (t.val / 2) + s.val, show _ < 4 by omega⟩
  congr 1
  · blk_ext [iblk, V, e0]
  · blk_simp [iblk]
    entry_read
    pointwise
    blk_ext [e1]

theorem array2 : (dats m 0 c).arrAt 2 cfg0.N = grad m c := by
  refine (dats m 0 c).arrAt_eq_of_covers 2 _ (by decide +kernel) fun t hf y => ?_
  obtain ⟨-, -, e2, -⟩ := index_facts t
  have ht := (flush0_2 t).mp hf
  blk_simp
  rw [after0_2]
  obtain ⟨z, k, x, rfl⟩ : ∃ z k x, y = ix3 z k x := ⟨y 0, y 1, y 2, eq_ix3 y⟩
  exact (block2 m c t ht _).trans (place m c t ht z k x _ _ (by blk_simp [e2]) (by blk_simp [e2]))

theorem array3 : (dats m 0 c).arrAt 3 cfg0.N = gradNarrow m c := by
  refine (dats m 0 c).arrAt_eq_of_covers 3 _ (by decide +kernel) fun t hf y => ?_
  obtain ⟨-, -, -, e3⟩ := index_facts t
  have ht := (flush0_3 t).mp hf
  blk_simp
  rw [after0_3]
  obtain ⟨z, k, x, rfl⟩ : ∃ z k x, y = ix3 z k x := ⟨y 0, y 1, y 2, eq_ix3 y⟩
  exact (block3 m c t ht _).trans ((block2 m c t ht _).trans
    (place m c t ht z k x _ _ (by blk_simp [e3]) (by blk_simp [e3])))

/-- After the kernel's run the results hold the gradient, and the arguments what they held. -/
theorem kernel_run : θ_run defs (onTc (τ := τ) (main (F := Ideal))) ⟨m, fun _ => 0, ρ⟩ (fun r => ∀ c : Dev nD,
      r.2.mem ((c : Thread nD τ).loc main_v1_0) = grad m c
      ∧ r.2.mem ((c : Thread nD τ).loc main_v1_1) = gradNarrow m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2.1.trans (array3 m c), (h c).2.2⟩) (Value.run_blocks m ρ)

/-- The reference's product, before the leading unit axis is put on. -/
abbrev product : FVec Ideal Cert.Reference9Ideal.S1x1024x1024 .f32 :=
  broadcastInDim Cert.Reference9Ideal.S1x1024x1024 ![1, 2] Cert.Reference9Ideal.Facts₀.bcast_S1024x1024_S1x1024x1024_1_2
    (transpose Cert.Reference9Ideal.S1024x1024 [1, 0]
      (Host.dotGeneral Cert.Reference9Ideal.dot_S4096x1024_S4096x1024_S1024x1024_0_0_1_1_n_n none
        (mulf (dq m c) (broadcastInDim Cert.Reference9Ideal.S4096x1024 ![] Cert.Reference9Ideal.Facts₀.bcast_S_S4096x1024 (constant Cert.Reference9Ideal.S_ .f32 0x3E000000#32))) (extf .f32 (hn m c) Cert.Reference9Ideal.Facts₀.bitsLt_bf16_f32))
      Cert.Reference9Ideal.Facts₀.transposes_S1024x1024_S1024x1024_1_0)

theorem product_apply (i : Cert.Reference9Ideal.S1x1024x1024.Idx) : product m c i = entry m c (i 1) (i 2) := by
  unfold entry
  obtain ⟨z, k, d, rfl⟩ : ∃ z k d, i = ix3 z k d := ⟨i 0, i 1, i 2, eq_ix3 i⟩
  pointwise [product]
  exact Finset.sum_congr rfl fun r _ => mul_comm _ _

/-- The reference's frame. -/
theorem reference_frame : Cert.quiescent_Reference9Ideal (hReference9Ideal := Cert.Reference9Ideal.Gen.facts) := fun m ρ _ =>
  (θ_run Cert.Reference9Ideal.defs _ _).mono
    (fun r h => ⟨fun c => (h c).2.2, sem_eq_zero_of_no_sems (by decide) r.2⟩) (Cert.Reference9Ideal.Value.run (F := Ideal) m ρ)

/-- Over the extended reals kernel and reference have the same results. -/
theorem algebraic : Cert.algebraic_Kernel9Ideal_Reference9Ideal (hKernel9Ideal := Cert.Kernel9Ideal.Gen.facts)
    (hReference9Ideal := Cert.Reference9Ideal.Gen.facts) := by
  intro m ρ m' ρ' _ hm
  refine ⟨fun c => grad m c, fun c => gradNarrow m c, kernel_run m ρ, ?_⟩
  refine (θ_run Cert.Reference9Ideal.defs _ _).mono (fun r h c => ?_) (Cert.Reference9Ideal.Value.run (F := Ideal) m' ρ')
  obtain ⟨a0, a1⟩ := hm c
  obtain ⟨h0, h1, h2⟩ := h c
  rw [a0, a1] at h0 h1
  exact ⟨h0.trans (funext fun i => product_apply m c i), h1.trans (funext fun i => product_apply m c i), h2⟩

end Cert.QDw

end
-- ==== Proof.ODx.lean ====
/- The gradient of the attention's output product at its input, `do[r, k] = Σ_d d1[r, d] · w_o[k, d]`, and for every head
   the sum over its columns of `do · o`, kernel and reference. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.ODx

open Idealize.ShloMosaic Idealize.ShloMosaic.TcCoe Idealize.SL.Sem
open Idealize.ShloMosaic.Tactic
open Cert.Kernel10Ideal Cert.Kernel10Ideal.Gen

variable (m : (ℓ : Loc nD τ sig) → Buf (Elt Ideal) ℓ) (ρ : Dev nD → PrngReg) (c : Dev nD)

/-- The arguments, as launched: the incoming gradient, the weight, and the attention's output. -/
abbrev d1 : FVec Ideal S4096x1024 .bf16 := m ((c : Thread nD τ).loc main_arg0)
abbrev weight : FVec Ideal S1x1x1024x1024 .bf16 := m ((c : Thread nD τ).loc main_arg1)
abbrev att : FVec Ideal S4096x1024 .f32 := m ((c : Thread nD τ).loc main_arg2)

/-- The input's gradient. -/
def entry (r : Fin 4096) (k : Fin 1024) : EReal := ∑ d : Fin 1024, d1 m c (ix2 r d) * weight m c (ix4 0 0 k d)

/-- A head's sum: sixteen heads of sixty-four columns stand in the first sixteen lanes, and zeros behind them. -/
def head (r : Fin 4096) (l : Fin 128) : EReal :=
  if hl : l.val < 16 then ∑ x : Fin 64, entry m c r ⟨l.val * 64 + x.val, by omega⟩ * att m c (ix2 r ⟨l.val * 64 + x.val, by omega⟩) else 0

/-- Both as arrays. -/
def grad : FVec Ideal S4096x1024 .f32 := fun i => entry m c (i 0) (i 1)
def heads : FVec Ideal S4096x128 .f32 := fun i => head m c (i 0) (i 1)

/-- A sum over all columns, of those of one head, is the head's sum. -/
theorem sum_head (f : Fin 1024 → EReal) (l : Fin 128) : (∑ k : Fin 1024, if k.val / 64 = l.val then f k else 0)
    = if hl : l.val < 16 then ∑ x : Fin 64, f ⟨l.val * 64 + x.val, by omega⟩ else 0 := by
  have e : (∑ s : Fin 16, ∑ x : Fin 64, if s.val = l.val then f ⟨s.val * 64 + x.val, by omega⟩ else 0)
      = ∑ k : Fin 1024, if k.val / 64 = l.val then f k else 0 :=
    Fin.sum_mul_add_congr (S := 16) (n := 64) fun s x h => by
      have : (s.val * 64 + x.val) / 64 = s.val := by omega
      simp only [this]
  rw [← e]
  split_ifs with hl
  · rw [Finset.sum_eq_single (⟨l.val, hl⟩ : Fin 16)]
    · simp
    · exact fun s _ hs => Finset.sum_eq_zero fun x _ => if_neg fun h => hs (Fin.ext h)
    · exact fun h => absurd (Finset.mem_univ _) h
  · exact Finset.sum_eq_zero fun s _ => Finset.sum_eq_zero fun x _ => if_neg (by omega)

/-- The kernel's mark of a head's columns. -/
theorem head_word (k : Fin 1024) (l : Fin 128) :
    IntOp.cmpi CmpIPredicate.eq (IntOp.shrsi ArithUnit.vector (BitVec.ofNat 32 k.val) 6#32) (BitVec.ofNat 32 l.val)
      = if k.val / 64 = l.val then 1 else 0 := by
  have e : ∀ k : Fin 1024, IntOp.shrsi ArithUnit.vector (BitVec.ofNat 32 k.val) 6#32 = BitVec.ofNat 32 (k.val / 64) := by decide +kernel
  rw [e, WordCmp.cmpi_eq_ofNat (by omega) (by omega)]
  split_ifs with h <;> simp [h]

/-- Where the blocks lie. -/
theorem index_facts : ∀ t : Fin grid0.N, win0_0.index t = ![t.val, 0] ∧ win0_1.index t = ![0, 0, 0, 0] ∧ win0_2.index t = ![t.val, 0]
    ∧ win0_3.index t = ![t.val, 0] ∧ win0_4.index t = ![t.val, 0] := by
  decide +kernel

/-- The whole arrays' row at row `a` of a grid point's block. -/
abbrev place (t : Fin cfg0.N) (a : Fin 1024) : Fin 4096 := ⟨t.val * 1024 + a.val, by have h : t.val < 4 := t.isLt; omega⟩

/-- A grid point's block of the gradient. -/
theorem pay1_apply (t : Fin cfg0.N) (a k : Fin 1024) :
    k0_pay1 (F := Ideal) (iblk m c 0 t) (iblk m c 1 t) (ix2 a k) = entry m c (place t a) k := by
  obtain ⟨e0, e1, -, -, -⟩ := index_facts t
  unfold entry d1 weight
  pointwise [k0_pay1]
  refine Fin.sum_fin_congr fun x => congrArg₂ (· * ·) ?_ ?_
  · blk_ext [iblk, V, e0]
  · blk_ext [iblk, V, e1]

/-- A grid point's block of the heads' sums. -/
theorem pay2_apply (t : Fin cfg0.N) (a : Fin 1024) (l : Fin 128) :
    k0_pay2 (F := Ideal) (iblk m c 0 t) (iblk m c 1 t) (iblk m c 2 t) (ix2 a l) = head m c (place t a) l := by
  obtain ⟨-, -, e2, -, -⟩ := index_facts t
  unfold k0_pay2
  have e := pay1_apply m c t
  generalize k0_pay1 (F := Ideal) (iblk m c 0 t) (iblk m c 1 t) = p at e
  pointwise
  simp only [e]
  unfold head
  rw [← sum_head (fun k => entry m c (place t a) k * att m c (ix2 (place t a) k)) l]
  refine Fin.sum_fin_congr fun k => ?_
  rw [head_word]
  refine (if_congr (by split_ifs with h <;> simp [h]) ?_ rfl)
  unfold att
  refine congrArg₂ (· * ·) rfl ?_
  blk_ext [iblk, V, e2]

/-- A block's place in the whole arrays. -/
theorem put {n : ℕ} (f : Fin 4096 → Fin n → EReal) (t : Fin cfg0.N) (a : Fin 1024) (k : Fin n) (R : Fin 4096) (K : Fin n)
    (hR : R.val = t.val * 1024 + a.val) (hK : K.val = k.val) : f (place t a) k = f R K := by
  obtain rfl : place t a = R := Fin.ext hR.symm
  obtain rfl : k = K := Fin.ext hK.symm
  rfl

theorem array3 : (dats m 0 c).arrAt 3 cfg0.N = grad m c := by
  refine (dats m 0 c).arrAt_eq_of_covers 3 _ (by decide +kernel) fun t hf y => ?_
  obtain ⟨-, -, -, e3, -⟩ := index_facts t
  blk_simp
  rw [after0_3]
  frame_out
  obtain ⟨a, k, rfl⟩ : ∃ a k, y = ix2 a k := ⟨y 0, y 1, eq_ix2 y⟩
  exact (pay1_apply m c t a k).trans (put (entry m c) t a k _ _ (by blk_simp [e3]) (by blk_simp [e3]))

theorem array4 : (dats m 0 c).arrAt 4 cfg0.N = heads m c := by
  refine (dats m 0 c).arrAt_eq_of_covers 4 _ (by decide +kernel) fun t hf y => ?_
  obtain ⟨-, -, -, -, e4⟩ := index_facts t
  blk_simp
  rw [after0_4]
  frame_out
  obtain ⟨a, k, rfl⟩ : ∃ a k, y = ix2 a k := ⟨y 0, y 1, eq_ix2 y⟩
  exact (pay2_apply m c t a k).trans (put (head m c) t a k _ _ (by blk_simp [e4]) (by blk_simp [e4]))

/-- After the kernel's run the results are the gradient and the heads' sums, and the arguments what they were. -/
theorem kernel_run : θ_run defs (onTc (τ := τ) (main (F := Ideal))) ⟨m, fun _ => 0, ρ⟩ (fun r => ∀ c : Dev nD,
      r.2.mem ((c : Thread nD τ).loc main_v0_0) = grad m c
      ∧ r.2.mem ((c : Thread nD τ).loc main_v0_1) = heads m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c).1.trans (array3 m c), (h c).2.1.trans (array4 m c), (h c).2.2⟩) (Value.run_blocks m ρ)

/-- The reference's frame. -/
theorem reference_frame : Cert.quiescent_Reference10Ideal (hReference10Ideal := Cert.Reference10Ideal.Gen.facts) := fun m ρ _ =>
  (θ_run Cert.Reference10Ideal.defs _ _).mono
    (fun r h => ⟨fun c => (h c).2.2, sem_eq_zero_of_no_sems (by decide) r.2⟩) (Cert.Reference10Ideal.Value.run (F := Ideal) m ρ)

/-- Over the extended reals kernel and reference have the same results. -/
theorem algebraic : Cert.algebraic_Kernel10Ideal_Reference10Ideal (hKernel10Ideal := Cert.Kernel10Ideal.Gen.facts)
    (hReference10Ideal := Cert.Reference10Ideal.Gen.facts) := by
  intro m ρ m' ρ' _ hm
  refine ⟨fun c => grad m c, fun c => heads m c, kernel_run m ρ, ?_⟩
  refine (θ_run Cert.Reference10Ideal.defs _ _).mono (fun r h c => ?_) (Cert.Reference10Ideal.Value.run (F := Ideal) m' ρ')
  obtain ⟨a0, a1, a2⟩ := hm c
  obtain ⟨h0, h1, h2⟩ := h c
  rw [a0, a1] at h0
  rw [a0, a1, a2] at h1
  refine ⟨h0.trans (funext fun i => ?_), h1.trans (funext fun i => ?_), h2⟩
  · obtain ⟨r, k, rfl⟩ : ∃ r k, i = ix2 r k := ⟨i 0, i 1, eq_ix2 i⟩
    unfold grad entry
    clean_types
    pointwise
  · obtain ⟨r, l, rfl⟩ : ∃ r l, i = ix2 r l := ⟨i 0, i 1, eq_ix2 i⟩
    unfold heads head entry
    clean_types
    pointwise

end Cert.ODx

end
-- ==== Proof.ODw.lean ====
/- The gradient of the attention's output product at its weight: `dw[k, d] = Σ_r o[r, k] · d1[r, d]`, in f32 and rounded,
   kernel and reference. -/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.ODw

open Idealize.ShloMosaic Idealize.ShloMosaic.TcCoe Idealize.SL.Sem
open Cert.Kernel11Ideal Cert.Kernel11Ideal.Gen

variable (m : (ℓ : Loc nD τ sig) → Buf (Elt Ideal) ℓ) (ρ : Dev nD → PrngReg) (c : Dev nD)

/-- The activation and the incoming gradient, as launched. -/
def att : FVec Ideal S4096x1024 .f32 := m ((c : Thread nD τ).loc main_arg0)
def dcur : FVec Ideal S4096x1024 .bf16 := m ((c : Thread nD τ).loc main_arg1)

/-- The weight's gradient at row `k` and column `d`. -/
def entry (k : Fin 1024) (d : Fin 1024) : EReal := ∑ r : Fin 4096, att m c (ix2 r k) * dcur m c (ix2 r d)

/-- The weight's gradient as an array, and the same rounded: over the extended reals a rounding changes nothing. -/
def grad : FVec Ideal S1x1024x1024 .f32 := fun i => entry m c (i 1) (i 2)
def gradNarrow : FVec Ideal S1x1024x1024 .bf16 := fun i => entry m c (i 1) (i 2)

/-- Where the blocks lie. -/
theorem index_facts : ∀ t : Fin grid0.N, win0_0.index t = ![t.val % 2, t.val / 2] ∧ win0_1.index t = ![0, t.val % 2, 0]
    ∧ win0_2.index t = ![0, t.val / 2, 0] ∧ win0_3.index t = ![0, t.val / 2, 0] := by
  decide +kernel

/-- The blocks of the activation and of the incoming gradient at a grid point. -/
abbrev blockIn (t : Fin cfg0.N) : FVec Ideal S2048x512 .f32 := iblk m c 0 t
abbrev blockGrad (t : Fin cfg0.N) : FVec Ideal S1x2048x1024 .bf16 := iblk m c 1 t

/-- The product of a grid point's blocks. -/
def term (t : Fin cfg0.N) (i : S1x512x1024.Idx) : EReal :=
  ∑ r : Fin 2048, blockIn m c t (ix2 r (i 1)) * blockGrad m c t (ix3 0 r (i 2))

/-- One accumulation step adds the product of the point's blocks. -/
theorem pay2_apply (t : Fin cfg0.N) (v : Vec Ideal S1x512x1024 .f32) (i : S1x512x1024.Idx) :
    k0_pay2 v (iblk m c 0 t) (iblk m c 1 t) i = (v i : EReal) + term m c t i := by
  unfold term
  obtain ⟨z, k, x, rfl⟩ : ∃ z k x, i = ix3 z k x := ⟨i 0, i 1, i 2, eq_ix3 i⟩
  obtain rfl : z = 0 := Subsingleton.elim _ _
  pointwise [k0_pay2]

/-- What a run of two points leaves in the f32 block: the sum of both products. -/
theorem block2 (t : Fin cfg0.N) (ht : t.val % 2 = 1) (i : S1x512x1024.Idx) : (outsAt0 m c t.val t.isLt).1 i
    = 0 + ∑ s : Fin 2, term m c ⟨2 * (t.val / 2) + s.val, by have := t.isLt; omega⟩ i :=
  Pipeline.eq_sum_fin_of_reset_step_apply_of_flush (M := EReal) (fun n h => (outsAt0 m c n h).1) 2 (fun _ => 0) (term m c)
    (fun t h j => by
      rw [outsAt0_A m c t h (by omega)]
      frame_out
      rw [pay2_apply]
      pointwise [k0_pay1])
    (fun t h j => by
      rw [outsAt0_B m c t h (by omega)]
      frame_out
      rw [pay2_apply])
    t ht i

/-- The rounded block is the f32 block. -/
theorem block3 (t : Fin cfg0.N) (ht : t.val % 2 = 1) (i : S1x512x1024.Idx) :
    ((outsAt0 m c t.val t.isLt).2 i : EReal) = (outsAt0 m c t.val t.isLt).1 i := by
  obtain ⟨z, k, x, rfl⟩ : ∃ z k x, i = ix3 z k x := ⟨i 0, i 1, i 2, eq_ix3 i⟩
  rw [outsAt0_B m c t (by omega) ht]
  frame_out
  pointwise [k0_pay3]

/-- The two products are the sum over all rows, at the block's place. -/
theorem place (t : Fin cfg0.N) (ht : t.val % 2 = 1) (z : Fin 1) (k : Fin 512) (x : Fin 1024) (K : Fin 1024) (X : Fin 1024)
    (hK : K.val = t.val / 2 * 512 + k.val) (hX : X.val = x.val) :
    0 + ∑ s : Fin 2, term m c ⟨2 * (t.val / 2) + s.val, by have := t.isLt; omega⟩ (ix3 z k x) = entry m c K X := by
  rw [zero_add]
  unfold entry term att dcur
  refine Fin.sum_mul_add_congr (S := 2) (n := 2048) fun s r h => ?_
  have h4 : t.val < 4 := t.isLt
  obtain ⟨e0, e1, -, -⟩ := index_facts ⟨2 * (t.val / 2) + s.val, show _ < 4 by omega⟩
  congr 1
  · blk_ext [iblk, V, e0]
  · blk_simp [iblk]
    entry_read
    pointwise
    blk_ext [e1]

theorem array2 : (dats m 0 c).arrAt 2 cfg0.N = grad m c := by
  refine (dats m 0 c).arrAt_eq_of_covers 2 _ (by decide +kernel) fun t hf y => ?_
  obtain ⟨-, -, e2, -⟩ := index_facts t
  have ht := (flush0_2 t).mp hf
  blk_simp
  rw [after0_2]
  obtain ⟨z, k, x, rfl⟩ : ∃ z k x, y = ix3 z k x := ⟨y 0, y 1, y 2, eq_ix3 y⟩
  exact (block2 m c t ht _).trans (place m c t ht z k x _ _ (by blk_simp [e2]) (by blk_simp [e2]))

theorem array3 : (dats m 0 c).arrAt 3 cfg0.N = gradNarrow m c := by
  refine (dats m 0 c).arrAt_eq_of_covers 3 _ (by decide +kernel) fun t hf y => ?_
  obtain ⟨-, -, -, e3⟩ := index_facts t
  have ht := (flush0_3 t).mp hf
  blk_simp
  rw [after0_3]
  obtain ⟨z, k, x, rfl⟩ : ∃ z k x, y = ix3 z k x := ⟨y 0, y 1, y 2, eq_ix3 y⟩
  exact (block3 m c t ht _).trans ((block2 m c t ht _).trans
    (place m c t ht z k x _ _ (by blk_simp [e3]) (by blk_simp [e3])))

/-- After the kernel's run the results hold the gradient, and the arguments what they held. -/
theorem kernel_run : θ_run defs (onTc (τ := τ) (main (F := Ideal))) ⟨m, fun _ => 0, ρ⟩ (fun r => ∀ c : Dev nD,
      r.2.mem ((c : Thread nD τ).loc main_v1_0) = grad m c
      ∧ r.2.mem ((c : Thread nD τ).loc main_v1_1) = gradNarrow m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2.1.trans (array3 m c), (h c).2.2⟩) (Value.run_blocks m ρ)

/-- The reference's product, before the leading unit axis is put on. -/
abbrev product : FVec Ideal Cert.Reference11Ideal.S1x1024x1024 .f32 :=
  broadcastInDim Cert.Reference11Ideal.S1x1024x1024 ![1, 2] Cert.Reference11Ideal.Facts₀.bcast_S1024x1024_S1x1024x1024_1_2
    (transpose Cert.Reference11Ideal.S1024x1024 [1, 0]
      (Host.dotGeneral Cert.Reference11Ideal.dot_S4096x1024_S4096x1024_S1024x1024_0_0_1_1_n_n none
        (extf .f32 (dcur m c) Cert.Reference11Ideal.Facts₀.bitsLt_bf16_f32) (att m c))
      Cert.Reference11Ideal.Facts₀.transposes_S1024x1024_S1024x1024_1_0)

theorem product_apply (i : Cert.Reference11Ideal.S1x1024x1024.Idx) : product m c i = entry m c (i 1) (i 2) := by
  unfold entry
  obtain ⟨z, k, d, rfl⟩ : ∃ z k d, i = ix3 z k d := ⟨i 0, i 1, i 2, eq_ix3 i⟩
  pointwise [product]
  exact Finset.sum_congr rfl fun r _ => mul_comm _ _

/-- The reference's frame. -/
theorem reference_frame : Cert.quiescent_Reference11Ideal (hReference11Ideal := Cert.Reference11Ideal.Gen.facts) := fun m ρ _ =>
  (θ_run Cert.Reference11Ideal.defs _ _).mono
    (fun r h => ⟨fun c => (h c).2.2, sem_eq_zero_of_no_sems (by decide) r.2⟩) (Cert.Reference11Ideal.Value.run (F := Ideal) m ρ)

/-- Over the extended reals kernel and reference have the same results. -/
theorem algebraic : Cert.algebraic_Kernel11Ideal_Reference11Ideal (hKernel11Ideal := Cert.Kernel11Ideal.Gen.facts)
    (hReference11Ideal := Cert.Reference11Ideal.Gen.facts) := by
  intro m ρ m' ρ' _ hm
  refine ⟨fun c => grad m c, fun c => gradNarrow m c, kernel_run m ρ, ?_⟩
  refine (θ_run Cert.Reference11Ideal.defs _ _).mono (fun r h c => ?_) (Cert.Reference11Ideal.Value.run (F := Ideal) m' ρ')
  obtain ⟨a0, a1⟩ := hm c
  obtain ⟨h0, h1, h2⟩ := h c
  rw [a0, a1] at h0 h1
  exact ⟨h0.trans (funext fun i => product_apply m c i), h1.trans (funext fun i => product_apply m c i), h2⟩

end Cert.ODw

end
-- ==== Proof.KvDx.lean ====
/- The gradient of the product of keys and values at its input:
   `dh[r, k] = Σ_d dkv[r, d] · w_kv[k, d]`, kernel and reference. -/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.KvDx

open Idealize.ShloMosaic Idealize.ShloMosaic.TcCoe Idealize.SL.Sem
open Idealize.ShloMosaic.Tactic
open Cert.Kernel12Ideal Cert.Kernel12Ideal.Gen

variable (m : (ℓ : Loc nD τ sig) → Buf (Elt Ideal) ℓ) (ρ : Dev nD → PrngReg) (c : Dev nD)

/-- The incoming gradient and the weight, as launched. -/
abbrev dkv : FVec Ideal S4096x2048 .bf16 := m ((c : Thread nD τ).loc main_arg0)
abbrev weight : FVec Ideal S1x1x1024x2048 .bf16 := m ((c : Thread nD τ).loc main_arg1)

/-- The input's gradient. -/
def grad : FVec Ideal S4096x1024 .f32 := fun i => ∑ d : Fin 2048, dkv m c (ix2 (i 0) d) * weight m c (ix4 0 0 (i 1) d)

/-- Where the blocks lie. -/
theorem index_facts : ∀ t : Fin grid0.N, win0_0.index t = ![t.val, 0] ∧ win0_1.index t = ![0, 0, 0, 0] ∧ win0_2.index t = ![t.val, 0] := by
  decide +kernel

/-- After the run the result array is the gradient. -/
theorem array2 : (dats m 0 c).arrAt 2 cfg0.N = grad m c := by
  refine (dats m 0 c).arrAt_eq_of_covers 2 _ (by decide +kernel) fun t hf y => ?_
  blk_simp
  rw [after0_2]
  frame_out
  unfold grad dkv weight
  obtain ⟨e0, e1, e2⟩ := index_facts t
  pointwise [k0_pay1]
  refine Fin.sum_fin_congr fun d => ?_
  congr 1
  · blk_ext [iblk, V, e0, e2]
  · blk_ext [iblk, V, e1, e2]

/-- After the kernel's run the result is the gradient, and the arguments what they were. -/
theorem kernel_run : θ_run defs (onTc (τ := τ) (main (F := Ideal))) ⟨m, fun _ => 0, ρ⟩ (fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2⟩) (Value.run_blocks m ρ)

/-- The reference's frame. -/
theorem reference_frame : Cert.quiescent_Reference12Ideal (hReference12Ideal := Cert.Reference12Ideal.Gen.facts) := fun m ρ _ =>
  (θ_run Cert.Reference12Ideal.defs _ _).mono
    (fun r h => ⟨fun c => (h c).2, sem_eq_zero_of_no_sems (by decide) r.2⟩) (Cert.Reference12Ideal.Value.run (F := Ideal) m ρ)

/-- Over the extended reals kernel and reference have the same result. -/
theorem algebraic : Cert.algebraic_Kernel12Ideal_Reference12Ideal (hKernel12Ideal := Cert.Kernel12Ideal.Gen.facts)
    (hReference12Ideal := Cert.Reference12Ideal.Gen.facts) := by
  intro m ρ m' ρ' _ hm
  refine ⟨fun c => grad m c, kernel_run m ρ, ?_⟩
  refine (θ_run Cert.Reference12Ideal.defs _ _).mono (fun r h c => ?_) (Cert.Reference12Ideal.Value.run (F := Ideal) m' ρ')
  obtain ⟨a0, a1⟩ := hm c
  obtain ⟨h0, h1⟩ := h c
  rw [a0, a1] at h0
  refine ⟨h0.trans (funext fun i => ?_), h1⟩
  unfold grad
  obtain ⟨r, k, rfl⟩ : ∃ r k, i = ix2 r k := ⟨i 0, i 1, eq_ix2 i⟩
  clean_types
  pointwise

end Cert.KvDx

end
-- ==== Proof.KvDw.lean ====
/- The gradient of the product of keys and values at its weight: `dw[k, d] = Σ_r h[r, k] · dkv[r, d]`, kernel and reference. -/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.KvDw

open Idealize.ShloMosaic Idealize.ShloMosaic.TcCoe Idealize.SL.Sem
open Cert.Kernel13Ideal Cert.Kernel13Ideal.Gen

variable (m : (ℓ : Loc nD τ sig) → Buf (Elt Ideal) ℓ) (ρ : Dev nD → PrngReg) (c : Dev nD)

/-- The activation and the incoming gradient, as launched. -/
def hn : FVec Ideal S4096x1024 .bf16 := m ((c : Thread nD τ).loc main_arg0)
def dkv : FVec Ideal S4096x2048 .bf16 := m ((c : Thread nD τ).loc main_arg1)

/-- The weight's gradient at row `k` and column `d`. -/
def entry (k : Fin 1024) (d : Fin 2048) : EReal := ∑ r : Fin 4096, hn m c (ix2 r k) * dkv m c (ix2 r d)

/-- The weight's gradient as an array. -/
def grad : FVec Ideal S1x1024x2048 .f32 := fun i => entry m c (i 1) (i 2)

/-- Where the blocks lie. -/
theorem index_facts : ∀ t : Fin grid0.N, win0_0.index t = ![t.val % 2, t.val / 2] ∧ win0_1.index t = ![0, t.val % 2, 0]
    ∧ win0_2.index t = ![0, t.val / 2, 0] := by
  decide +kernel

/-- The blocks of the activation and of the incoming gradient at a grid point. -/
abbrev blockIn (t : Fin cfg0.N) : FVec Ideal S2048x512 .bf16 := iblk m c 0 t
abbrev blockGrad (t : Fin cfg0.N) : FVec Ideal S1x2048x2048 .bf16 := iblk m c 1 t

/-- The product of a grid point's blocks. -/
def term (t : Fin cfg0.N) (i : S1x512x2048.Idx) : EReal :=
  ∑ r : Fin 2048, blockIn m c t (ix2 r (i 1)) * blockGrad m c t (ix3 0 r (i 2))

/-- One accumulation step adds the product of the point's blocks. -/
theorem pay2_apply (t : Fin cfg0.N) (v : Vec Ideal S1x512x2048 .f32) (i : S1x512x2048.Idx) :
    k0_pay2 v (iblk m c 0 t) (iblk m c 1 t) i = (v i : EReal) + term m c t i := by
  unfold term
  obtain ⟨z, k, x, rfl⟩ : ∃ z k x, i = ix3 z k x := ⟨i 0, i 1, i 2, eq_ix3 i⟩
  obtain rfl : z = 0 := Subsingleton.elim _ _
  pointwise [k0_pay2]

/-- What a run of two points leaves in the f32 block: the sum of both products. -/
theorem block2 (t : Fin cfg0.N) (ht : t.val % 2 = 1) (i : S1x512x2048.Idx) : outsAt0 m c t.val t.isLt i
    = 0 + ∑ s : Fin 2, term m c ⟨2 * (t.val / 2) + s.val, by have := t.isLt; omega⟩ i :=
  Pipeline.eq_sum_fin_of_reset_step_apply_of_flush (M := EReal) (fun n h => outsAt0 m c n h) 2 (fun _ => 0) (term m c)
    (fun t h j => by
      rw [outsAt0_A m c t h]
      frame_out
      rw [pay2_apply]
      pointwise [k0_pay1])
    (fun t h j => by
      rw [outsAt0_B m c t h]
      frame_out
      rw [pay2_apply])
    t ht i

/-- The two products are the sum over all rows, at the block's place. -/
theorem place (t : Fin cfg0.N) (ht : t.val % 2 = 1) (z : Fin 1) (k : Fin 512) (x : Fin 2048) (K : Fin 1024) (X : Fin 2048)
    (hK : K.val = t.val / 2 * 512 + k.val) (hX : X.val = x.val) :
    0 + ∑ s : Fin 2, term m c ⟨2 * (t.val / 2) + s.val, by have := t.isLt; omega⟩ (ix3 z k x) = entry m c K X := by
  rw [zero_add]
  unfold entry term hn dkv
  refine Fin.sum_mul_add_congr (S := 2) (n := 2048) fun s r h => ?_
  have h4 : t.val < 4 := t.isLt
  obtain ⟨e0, e1, -⟩ := index_facts ⟨2 * (t.val / 2) + s.val, show _ < 4 by omega⟩
  congr 1
  · blk_ext [iblk, V, e0]
  · blk_simp [iblk]
    entry_read
    pointwise
    blk_ext [e1]

theorem array2 : (dats m 0 c).arrAt 2 cfg0.N = grad m c := by
  refine (dats m 0 c).arrAt_eq_of_covers 2 _ (by decide +kernel) fun t hf y => ?_
  obtain ⟨-, -, e2⟩ := index_facts t
  have ht := (flush0_2 t).mp hf
  blk_simp
  rw [after0_2]
  obtain ⟨z, k, x, rfl⟩ : ∃ z k x, y = ix3 z k x := ⟨y 0, y 1, y 2, eq_ix3 y⟩
  exact (block2 m c t ht _).trans (place m c t ht z k x _ _ (by blk_simp [e2]) (by blk_simp [e2]))

/-- After the kernel's run the result is the gradient, and the arguments what they held. -/
theorem kernel_run : θ_run defs (onTc (τ := τ) (main (F := Ideal))) ⟨m, fun _ => 0, ρ⟩ (fun r => ∀ c : Dev nD,
      r.2.mem ((c : Thread nD τ).loc main_v1) = grad m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2⟩) (Value.run_blocks m ρ)

/-- The reference's product, before the leading unit axis is put on. -/
abbrev product : FVec Ideal Cert.Reference13Ideal.S1x1024x2048 .f32 :=
  broadcastInDim Cert.Reference13Ideal.S1x1024x2048 ![1, 2] Cert.Reference13Ideal.Facts₀.bcast_S1024x2048_S1x1024x2048_1_2
    (transpose Cert.Reference13Ideal.S1024x2048 [1, 0]
      (Host.dotGeneral Cert.Reference13Ideal.dot_S4096x2048_S4096x1024_S2048x1024_0_0_1_1_n_n none
        (extf .f32 (dkv m c) Cert.Reference13Ideal.Facts₀.bitsLt_bf16_f32) (extf .f32 (hn m c) Cert.Reference13Ideal.Facts₀.bitsLt_bf16_f32))
      Cert.Reference13Ideal.Facts₀.transposes_S2048x1024_S1024x2048_1_0)

theorem product_apply (i : Cert.Reference13Ideal.S1x1024x2048.Idx) : product m c i = entry m c (i 1) (i 2) := by
  unfold entry
  obtain ⟨z, k, d, rfl⟩ : ∃ z k d, i = ix3 z k d := ⟨i 0, i 1, i 2, eq_ix3 i⟩
  pointwise [product]
  exact Finset.sum_congr rfl fun r _ => mul_comm _ _

/-- The reference's frame. -/
theorem reference_frame : Cert.quiescent_Reference13Ideal (hReference13Ideal := Cert.Reference13Ideal.Gen.facts) := fun m ρ _ =>
  (θ_run Cert.Reference13Ideal.defs _ _).mono
    (fun r h => ⟨fun c => (h c).2, sem_eq_zero_of_no_sems (by decide) r.2⟩) (Cert.Reference13Ideal.Value.run (F := Ideal) m ρ)

/-- Over the extended reals kernel and reference have the same result. -/
theorem algebraic : Cert.algebraic_Kernel13Ideal_Reference13Ideal (hKernel13Ideal := Cert.Kernel13Ideal.Gen.facts)
    (hReference13Ideal := Cert.Reference13Ideal.Gen.facts) := by
  intro m ρ m' ρ' _ hm
  refine ⟨fun c => grad m c, kernel_run m ρ, ?_⟩
  refine (θ_run Cert.Reference13Ideal.defs _ _).mono (fun r h c => ?_) (Cert.Reference13Ideal.Value.run (F := Ideal) m' ρ')
  obtain ⟨a0, a1⟩ := hm c
  obtain ⟨h0, h1⟩ := h c
  rw [a0, a1] at h0
  exact ⟨h0.trans (funext fun i => product_apply m c i), h1⟩

end Cert.KvDw

end
-- ==== Proof.FfnIn.lean ====
/- The input product of the feed-forward layer: `uu[r, q · 1408 + x] = Σ_k hn[r, k] · w_in[q, k, x]`, kernel and reference. -/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.FfnIn

open Idealize.ShloMosaic Idealize.ShloMosaic.TcCoe Idealize.SL.Sem
open Idealize.ShloMosaic.Tactic
open Cert.Kernel14Ideal Cert.Kernel14Ideal.Gen

variable (m : (ℓ : Loc nD τ sig) → Buf (Elt Ideal) ℓ) (ρ : Dev nD → PrngReg) (c : Dev nD)

/-- The normalised activation and the weight's four column blocks, as launched. -/
abbrev hn : FVec Ideal S4096x1024 .bf16 := m ((c : Thread nD τ).loc main_arg0)
abbrev weight : FVec Ideal S4x1x1024x1408 .bf16 := m ((c : Thread nD τ).loc main_arg1)

/-- The product. -/
def product : FVec Ideal S4096x5632 .f32 := fun i => ∑ k : Fin 1024, hn m c (ix2 (i 0) k)
  * weight m c (ix4 ⟨(i 1).val / 1408, by have : (i 1).val < 5632 := (i 1).isLt; show _ < 4; omega⟩ 0 k
      ⟨(i 1).val % 1408, by show _ < 1408; omega⟩)

/-- Where the blocks lie. -/
theorem index_facts : ∀ t : Fin grid0.N, win0_0.index t = ![t.val % 4, 0] ∧ win0_1.index t = ![t.val / 4, 0, 0, 0]
    ∧ win0_2.index t = ![t.val % 4, t.val / 4] := by
  decide +kernel

/-- After the run the result array is the product. -/
theorem array2 : (dats m 0 c).arrAt 2 cfg0.N = product m c := by
  refine (dats m 0 c).arrAt_eq_of_covers 2 _ (by decide +kernel) fun t hf y => ?_
  blk_simp
  rw [after0_2]
  frame_out
  unfold product hn weight
  obtain ⟨e0, e1, e2⟩ := index_facts t
  have h16 : t.val < 16 := t.isLt
  pointwise [k0_pay1]
  refine Fin.sum_fin_congr fun d => ?_
  congr 1
  · blk_ext [iblk, V, e0, e2]
  · blk_ext [iblk, V, e1, e2]

/-- After the kernel's run the result is the product, and the arguments what they were. -/
theorem kernel_run : θ_run defs (onTc (τ := τ) (main (F := Ideal))) ⟨m, fun _ => 0, ρ⟩ (fun r => ∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2⟩) (Value.run_blocks m ρ)

/-- The reference's frame. -/
theorem reference_frame : Cert.quiescent_Reference14Ideal (hReference14Ideal := Cert.Reference14Ideal.Gen.facts) := fun m ρ _ =>
  (θ_run Cert.Reference14Ideal.defs _ _).mono
    (fun r h => ⟨fun c => (h c).2, sem_eq_zero_of_no_sems (by decide) r.2⟩) (Cert.Reference14Ideal.Value.run (F := Ideal) m ρ)

/-- Over the extended reals kernel and reference have the same result. -/
theorem algebraic : Cert.algebraic_Kernel14Ideal_Reference14Ideal (hKernel14Ideal := Cert.Kernel14Ideal.Gen.facts)
    (hReference14Ideal := Cert.Reference14Ideal.Gen.facts) := by
  intro m ρ m' ρ' _ hm
  refine ⟨fun c => product m c, kernel_run m ρ, ?_⟩
  refine (θ_run Cert.Reference14Ideal.defs _ _).mono (fun r h c => ?_) (Cert.Reference14Ideal.Value.run (F := Ideal) m' ρ')
  obtain ⟨a0, a1⟩ := hm c
  obtain ⟨h0, h1⟩ := h c
  rw [a0, a1] at h0
  refine ⟨h0.trans (funext fun i => ?_), h1⟩
  obtain ⟨r, k, rfl⟩ : ∃ r k, i = ix2 r k := ⟨i 0, i 1, eq_ix2 i⟩
  unfold product
  clean_types
  pointwise

end Cert.FfnIn

end
-- ==== Proof.FfnOut.lean ====
/- The output product of the feed-forward layer with what follows it: the hidden rows `h = h1 + act · w_out`, and their
   normalisation for the next layer, kernel and reference. -/
module

public import proofs.«01_k».proof.Defs
public import proofs.«01_k».proof.Proof.Gen.Kernel15Ideal.Value
public import proofs.«01_k».proof.Proof.Gen.Reference15Ideal.Run
public import proofs.«01_k».proof.Proof.InDxSpec
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.FfnOut

open Idealize.ShloMosaic Idealize.ShloMosaic.TcCoe Idealize.SL.Sem
open Idealize.ShloMosaic.Tactic
open Cert.Kernel15Ideal Cert.Kernel15Ideal.Gen

variable (m : (ℓ : Loc nD τ sig) → Buf (Elt Ideal) ℓ) (ρ : Dev nD → PrngReg) (c : Dev nD)

/-- The arguments, as launched: the activation, the weight, the rows to add to, and the next layer's gain. -/
abbrev act : FVec Ideal S4096x2816 .bf16 := m ((c : Thread nD τ).loc main_arg0)
abbrev weight : FVec Ideal S1x1x2816x1024 .bf16 := m ((c : Thread nD τ).loc main_arg1)
abbrev before : FVec Ideal S4096x1024 .f32 := m ((c : Thread nD τ).loc main_arg2)
abbrev gain : FVec Ideal S1x1024 .f32 := m ((c : Thread nD τ).loc main_arg3)

/-- The hidden rows. -/
def row (r : Fin 4096) (k : Fin 1024) : EReal := before m c (ix2 r k) + ∑ x : Fin 2816, act m c (ix2 r x) * weight m c (ix4 0 0 x k)

/-- The normalised rows; over the extended reals their rounding changes nothing. -/
def normed (r : Fin 4096) (k : Fin 1024) : EReal := row m c r k * InDx.scale (row m c r) * gain m c (ix2 0 k)

/-- Both as arrays. -/
def hidden : FVec Ideal S4096x1024 .f32 := fun i => row m c (i 0) (i 1)
def normedNarrow : FVec Ideal S4096x1024 .bf16 := fun i => normed m c (i 0) (i 1)

/-- Where the blocks lie. -/
theorem index_facts : ∀ t : Fin grid0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] := by
  decide +kernel

/-- The whole arrays' row at row `a` of a grid point's block. -/
abbrev place (t : Fin cfg0.N) (a : Fin 512) : Fin 4096 := ⟨t.val * 512 + a.val, by have h : t.val < 8 := t.isLt; omega⟩

/-- A grid point's block of hidden rows. -/
theorem pay1_apply (t : Fin cfg0.N) (a : Fin 512) (k : Fin 1024) :
    k0_pay1 (F := Ideal) (iblk m c 0 t) (iblk m c 1 t) (iblk m c 2 t) (ix2 a k) = row m c (place t a) k := by
  obtain ⟨e0, e1, e2, -, -, -⟩ := index_facts t
  unfold row act weight before
  pointwise [k0_pay1]
  refine congrArg₂ (· + ·) ?_ (Fin.sum_fin_congr fun x => congrArg₂ (· * ·) ?_ ?_)
  · blk_ext [iblk, V, e2]
  · blk_ext [iblk, V, e0]
  · blk_ext [iblk, V, e1]

/-- A grid point's block of normalised rows. -/
theorem pay2_apply (t : Fin cfg0.N) (a : Fin 512) (k : Fin 1024) :
    k0_pay2 (F := Ideal) (iblk m c 0 t) (iblk m c 1 t) (iblk m c 2 t) (iblk m c 3 t) (ix2 a k) = normed m c (place t a) k := by
  obtain ⟨-, -, -, e3, -, -⟩ := index_facts t
  unfold k0_pay2
  have e := pay1_apply m c t
  generalize k0_pay1 (F := Ideal) (iblk m c 0 t) (iblk m c 1 t) (iblk m c 2 t) = p at e
  pointwise
  simp only [e]
  unfold normed InDx.scale InDx.meanSquare gain
  refine congrArg₂ (· * ·) rfl ?_
  blk_ext [iblk, V, e3]

/-- A block's place in the whole arrays. -/
theorem put (f : Fin 4096 → Fin 1024 → EReal) (t : Fin cfg0.N) (a : Fin 512) (k : Fin 1024) (R : Fin 4096) (K : Fin 1024)
    (hR : R.val = t.val * 512 + a.val) (hK : K.val = k.val) : f (place t a) k = f R K := by
  obtain rfl : place t a = R := Fin.ext hR.symm
  obtain rfl : k = K := Fin.ext hK.symm
  rfl

theorem array4 : (dats m 0 c).arrAt 4 cfg0.N = hidden m c := by
  refine (dats m 0 c).arrAt_eq_of_covers 4 _ (by decide +kernel) fun t hf y => ?_
  obtain ⟨-, -, -, -, e4, -⟩ := index_facts t
  blk_simp
  rw [after0_4]
  frame_out
  obtain ⟨a, k, rfl⟩ : ∃ a k, y = ix2 a k := ⟨y 0, y 1, eq_ix2 y⟩
  exact (pay1_apply m c t a k).trans (put (row m c) t a k _ _ (by blk_simp [e4]) (by blk_simp [e4]))

theorem array5 : (dats m 0 c).arrAt 5 cfg0.N = normedNarrow m c := by
  refine (dats m 0 c).arrAt_eq_of_covers 5 _ (by decide +kernel) fun t hf y => ?_
  obtain ⟨-, -, -, -, -, e5⟩ := index_facts t
  blk_simp
  rw [after0_5]
  frame_out
  obtain ⟨a, k, rfl⟩ : ∃ a k, y = ix2 a k := ⟨y 0, y 1, eq_ix2 y⟩
  exact (pay2_apply m c t a k).trans (put (normed m c) t a k _ _ (by blk_simp [e5]) (by blk_simp [e5]))

/-- After the kernel's run the results are the hidden and the normalised rows, and the arguments what they were. -/
theorem kernel_run : θ_run defs (onTc (τ := τ) (main (F := Ideal))) ⟨m, fun _ => 0, ρ⟩ (fun r => ∀ c : Dev nD,
      r.2.mem ((c : Thread nD τ).loc main_v0_0) = hidden m c
      ∧ r.2.mem ((c : Thread nD τ).loc main_v0_1) = normedNarrow m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (array4 m c), (h c).2.1.trans (array5 m c), (h c).2.2⟩) (Value.run_blocks m ρ)

/-- The reference's frame. -/
theorem reference_frame : Cert.quiescent_Reference15Ideal (hReference15Ideal := Cert.Reference15Ideal.Gen.facts) := fun m ρ _ =>
  (θ_run Cert.Reference15Ideal.defs _ _).mono
    (fun r h => ⟨fun c => (h c).2.2, sem_eq_zero_of_no_sems (by decide) r.2⟩) (Cert.Reference15Ideal.Value.run (F := Ideal) m ρ)

/-- Over the extended reals kernel and reference have the same results. -/
theorem algebraic : Cert.algebraic_Kernel15Ideal_Reference15Ideal (hKernel15Ideal := Cert.Kernel15Ideal.Gen.facts)
    (hReference15Ideal := Cert.Reference15Ideal.Gen.facts) := by
  intro m ρ m' ρ' _ hm
  refine ⟨fun c => hidden m c, fun c => normedNarrow m c, kernel_run m ρ, ?_⟩
  refine (θ_run Cert.Reference15Ideal.defs _ _).mono (fun r h c => ?_) (Cert.Reference15Ideal.Value.run (F := Ideal) m' ρ')
  obtain ⟨a0, a1, a2, a3⟩ := hm c
  obtain ⟨h0, h1, h2⟩ := h c
  rw [a0, a1, a2] at h0
  rw [a0, a1, a2, a3] at h1
  refine ⟨h0.trans (funext fun i => ?_), h1.trans (funext fun i => ?_), h2⟩
  · obtain ⟨r, k, rfl⟩ : ∃ r k, i = ix2 r k := ⟨i 0, i 1, eq_ix2 i⟩
    unfold hidden row
    clean_types
    pointwise
  · obtain ⟨r, k, rfl⟩ : ∃ r k, i = ix2 r k := ⟨i 0, i 1, eq_ix2 i⟩
    unfold normedNarrow normed InDx.scale InDx.meanSquare row
    clean_types
    pointwise

end Cert.FfnOut

end
-- ==== Proof.GluMm.lean ====
/- The product of the gated linear unit with what follows it: the product `zz = z · w_glu`, the hidden rows
   `h1 = h + zz₁ · sigmoid(zz₂)`, and their normalisation for the feed-forward layer, kernel and reference. -/
module

public import proofs.«01_k».proof.Defs
public import proofs.«01_k».proof.Proof.Gen.Kernel16Ideal.Value
public import proofs.«01_k».proof.Proof.Gen.Reference16Ideal.Run
public import proofs.«01_k».proof.Proof.InDxSpec
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.GluMm

open Idealize.ShloMosaic Idealize.ShloMosaic.TcCoe Idealize.SL.Sem
open Idealize.ShloMosaic.Tactic
open Cert.Kernel16Ideal Cert.Kernel16Ideal.Gen

variable (m : (ℓ : Loc nD τ sig) → Buf (Elt Ideal) ℓ) (ρ : Dev nD → PrngReg) (c : Dev nD)

/-- The arguments, as launched: the layer's activation, the weight's four column blocks, the rows to add to, and the next gain. -/
abbrev z : FVec Ideal S4096x1024 .bf16 := m ((c : Thread nD τ).loc main_arg0)
abbrev weight : FVec Ideal S4x1x1024x512 .bf16 := m ((c : Thread nD τ).loc main_arg1)
abbrev before : FVec Ideal S4096x1024 .f32 := m ((c : Thread nD τ).loc main_arg2)
abbrev gain : FVec Ideal S1x1024 .f32 := m ((c : Thread nD τ).loc main_arg3)

/-- The product: column `x` lies in block `x / 512` of the weight. -/
def zz (r : Fin 4096) (x : Fin 2048) : EReal := ∑ k : Fin 1024, z m c (ix2 r k) * weight m c (ix4 ⟨x.val / 512, by omega⟩ 0 k ⟨x.val % 512, by omega⟩)

/-- The hidden rows: the first half of the product, gated by the logistic function of the second. -/
def row (r : Fin 4096) (k : Fin 1024) : EReal := before m c (ix2 r k)
  + zz m c r ⟨k.val, by omega⟩ * Ideal.div 1 (1 + Ideal.exp (-zz m c r ⟨1024 + k.val, by omega⟩))

/-- The normalised rows; over the extended reals their rounding changes nothing. -/
def normed (r : Fin 4096) (k : Fin 1024) : EReal := row m c r k * InDx.scale (row m c r) * gain m c (ix2 0 k)

/-- All as arrays. -/
def product : FVec Ideal S4096x2048 .f32 := fun i => zz m c (i 0) (i 1)
def hidden : FVec Ideal S4096x1024 .f32 := fun i => row m c (i 0) (i 1)
def normedNarrow : FVec Ideal S4096x1024 .bf16 := fun i => normed m c (i 0) (i 1)

/-- Where the blocks lie. -/
theorem index_facts : ∀ t : Fin grid0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![t.val, 0] := by
  decide +kernel

/-- The whole arrays' row at row `a` of a grid point's block. -/
abbrev place (t : Fin cfg0.N) (a : Fin 512) : Fin 4096 := ⟨t.val * 512 + a.val, by have h : t.val < 8 := t.isLt; omega⟩

/-- A grid point's block of the product. -/
theorem pay1_apply (t : Fin cfg0.N) (a : Fin 512) (x : Fin 2048) :
    k0_pay1 (F := Ideal) (iblk m c 0 t) (iblk m c 1 t) (ix2 a x) = zz m c (place t a) x := by
  obtain ⟨e0, e1, -, -, -, -, -⟩ := index_facts t
  unfold zz z weight
  pointwise [k0_pay1]
  refine Fin.sum_fin_congr fun k => congrArg₂ (· * ·) ?_ ?_
  · blk_ext [iblk, V, e0]
  · blk_simp [iblk]
    entry_read
    pointwise
    blk_ext [e1]

/-- A grid point's block of hidden rows. -/
theorem pay2_apply (t : Fin cfg0.N) (a : Fin 512) (k : Fin 1024) :
    k0_pay2 (F := Ideal) (iblk m c 0 t) (iblk m c 1 t) (iblk m c 2 t) (ix2 a k) = row m c (place t a) k := by
  obtain ⟨-, -, e2, -, -, -, -⟩ := index_facts t
  unfold k0_pay2
  have e := pay1_apply m c t
  generalize k0_pay1 (F := Ideal) (iblk m c 0 t) (iblk m c 1 t) = p at e
  pointwise
  simp only [e]
  unfold row before
  refine congrArg₂ (· + ·) ?_ ?_
  · blk_ext [iblk, V, e2]
  · simp

/-- A grid point's block of normalised rows. -/
theorem pay3_apply (t : Fin cfg0.N) (a : Fin 512) (k : Fin 1024) :
    k0_pay3 (F := Ideal) (iblk m c 0 t) (iblk m c 1 t) (iblk m c 2 t) (iblk m c 3 t) (ix2 a k) = normed m c (place t a) k := by
  obtain ⟨-, -, -, e3, -, -, -⟩ := index_facts t
  unfold k0_pay3
  have e := pay2_apply m c t
  generalize k0_pay2 (F := Ideal) (iblk m c 0 t) (iblk m c 1 t) (iblk m c 2 t) = p at e
  pointwise
  simp only [e]
  unfold normed InDx.scale InDx.meanSquare gain
  refine congrArg₂ (· * ·) rfl ?_
  blk_ext [iblk, V, e3]

/-- A block's place in the whole arrays. -/
theorem put {n : ℕ} (f : Fin 4096 → Fin n → EReal) (t : Fin cfg0.N) (a : Fin 512) (k : Fin n) (R : Fin 4096) (K : Fin n)
    (hR : R.val = t.val * 512 + a.val) (hK : K.val = k.val) : f (place t a) k = f R K := by
  obtain rfl : place t a = R := Fin.ext hR.symm
  obtain rfl : k = K := Fin.ext hK.symm
  rfl

theorem array4 : (dats m 0 c).arrAt 4 cfg0.N = product m c := by
  refine (dats m 0 c).arrAt_eq_of_covers 4 _ (by decide +kernel) fun t hf y => ?_
  obtain ⟨-, -, -, -, e4, -, -⟩ := index_facts t
  blk_simp
  rw [after0_4]
  frame_out
  obtain ⟨a, k, rfl⟩ : ∃ a k, y = ix2 a k := ⟨y 0, y 1, eq_ix2 y⟩
  exact (pay1_apply m c t a k).trans (put (zz m c) t a k _ _ (by blk_simp [e4]) (by blk_simp [e4]))

theorem array5 : (dats m 0 c).arrAt 5 cfg0.N = hidden m c := by
  refine (dats m 0 c).arrAt_eq_of_covers 5 _ (by decide +kernel) fun t hf y => ?_
  obtain ⟨-, -, -, -, -, e5, -⟩ := index_facts t
  blk_simp
  rw [after0_5]
  frame_out
  obtain ⟨a, k, rfl⟩ : ∃ a k, y = ix2 a k := ⟨y 0, y 1, eq_ix2 y⟩
  exact (pay2_apply m c t a k).trans (put (row m c) t a k _ _ (by blk_simp [e5]) (by blk_simp [e5]))

theorem array6 : (dats m 0 c).arrAt 6 cfg0.N = normedNarrow m c := by
  refine (dats m 0 c).arrAt_eq_of_covers 6 _ (by decide +kernel) fun t hf y => ?_
  obtain ⟨-, -, -, -, -, -, e6⟩ := index_facts t
  blk_simp
  rw [after0_6]
  frame_out
  obtain ⟨a, k, rfl⟩ : ∃ a k, y = ix2 a k := ⟨y 0, y 1, eq_ix2 y⟩
  exact (pay3_apply m c t a k).trans (put (normed m c) t a k _ _ (by blk_simp [e6]) (by blk_simp [e6]))

/-- After the kernel's run the results are the product, the hidden and the normalised rows, and the arguments what they were. -/
theorem kernel_run : θ_run defs (onTc (τ := τ) (main (F := Ideal))) ⟨m, fun _ => 0, ρ⟩ (fun r => ∀ c : Dev nD,
      r.2.mem ((c : Thread nD τ).loc main_v3_0) = product m c
      ∧ r.2.mem ((c : Thread nD τ).loc main_v3_1) = hidden m c
      ∧ r.2.mem ((c : Thread nD τ).loc main_v3_2) = normedNarrow m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (array4 m c), (h c).2.1.trans (array5 m c), (h c).2.2.1.trans (array6 m c), (h c).2.2.2⟩) (Value.run_blocks m ρ)

/-- The reference's frame. -/
theorem reference_frame : Cert.quiescent_Reference16Ideal (hReference16Ideal := Cert.Reference16Ideal.Gen.facts) := fun m ρ _ =>
  (θ_run Cert.Reference16Ideal.defs _ _).mono
    (fun r h => ⟨fun c => (h c).2.2.2, sem_eq_zero_of_no_sems (by decide) r.2⟩) (Cert.Reference16Ideal.Value.run (F := Ideal) m ρ)

/-- Over the extended reals kernel and reference have the same results. -/
theorem algebraic : Cert.algebraic_Kernel16Ideal_Reference16Ideal (hKernel16Ideal := Cert.Kernel16Ideal.Gen.facts)
    (hReference16Ideal := Cert.Reference16Ideal.Gen.facts) := by
  intro m ρ m' ρ' _ hm
  refine ⟨fun c => product m c, fun c => hidden m c, fun c => normedNarrow m c, kernel_run m ρ, ?_⟩
  refine (θ_run Cert.Reference16Ideal.defs _ _).mono (fun r h c => ?_) (Cert.Reference16Ideal.Value.run (F := Ideal) m' ρ')
  obtain ⟨a0, a1, a2, a3⟩ := hm c
  obtain ⟨h0, h1, h2, h3⟩ := h c
  unfold Cert.Reference16Ideal.Value.res_main_v28 at h2
  rw [a0, a1] at h0
  rw [a0, a1, a2] at h1
  rw [a0, a1, a2, a3] at h2
  refine ⟨h0.trans (funext fun i => ?_), h1.trans (funext fun i => ?_), h2.trans (funext fun i => ?_), h3⟩
  · obtain ⟨r, k, rfl⟩ : ∃ r k, i = ix2 r k := ⟨i 0, i 1, eq_ix2 i⟩
    unfold product zz
    clean_types
    pointwise
  · obtain ⟨r, k, rfl⟩ : ∃ r k, i = ix2 r k := ⟨i 0, i 1, eq_ix2 i⟩
    unfold hidden row zz
    clean_types
    pointwise
  · obtain ⟨r, k, rfl⟩ : ∃ r k, i = ix2 r k := ⟨i 0, i 1, eq_ix2 i⟩
    unfold normedNarrow normed InDx.scale InDx.meanSquare row zz
    clean_types
    pointwise

end Cert.GluMm

end
-- ==== Proof.QMm.lean ====
/- The product of queries: `q[r, d] = (Σ_k h[r, k] · w_q[k, d]) · scale`, rounded, kernel and reference. -/
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.QMm

open Idealize.ShloMosaic Idealize.ShloMosaic.TcCoe Idealize.SL.Sem
open Idealize.ShloMosaic.Tactic
open Cert.Kernel17Ideal Cert.Kernel17Ideal.Gen

variable (m : (ℓ : Loc nD τ sig) → Buf (Elt Ideal) ℓ) (ρ : Dev nD → PrngReg) (c : Dev nD)

/-- The normalised activation and the weight, as launched. -/
abbrev hn : FVec Ideal S4096x1024 .bf16 := m ((c : Thread nD τ).loc main_arg0)
abbrev weight : FVec Ideal S1x1x1024x1024 .bf16 := m ((c : Thread nD τ).loc main_arg1)

/-- The number whose bits stand in both programs: one over the root of a head's width. -/
abbrev factor : EReal := Scalar.ofBits (F := Ideal) .f32 0x3E000000#32

/-- The scaled product; over the extended reals its rounding changes nothing. -/
def product : FVec Ideal S4096x1024 .bf16 := fun i => ((∑ k : Fin 1024, hn m c (ix2 (i 0) k) * weight m c (ix4 0 0 k (i 1))) * factor : EReal)

/-- Where the blocks lie. -/
theorem index_facts : ∀ t : Fin grid0.N, win0_0.index t = ![t.val, 0] ∧ win0_1.index t = ![0, 0, 0, 0] ∧ win0_2.index t = ![t.val, 0] := by
  decide +kernel

/-- After the run the result array is the product. -/
theorem array2 : (dats m 0 c).arrAt 2 cfg0.N = product m c := by
  refine (dats m 0 c).arrAt_eq_of_covers 2 _ (by decide +kernel) fun t hf y => ?_
  blk_simp
  rw [after0_2]
  frame_out
  unfold product hn weight
  obtain ⟨e0, e1, e2⟩ := index_facts t
  pointwise [k0_pay1]
  congr 1
  refine Fin.sum_fin_congr fun d => ?_
  congr 1
  · blk_ext [iblk, V, e0, e2]
  · blk_ext [iblk, V, e1, e2]

/-- After the kernel's run the result is the product, and the arguments what they were. -/
theorem kernel_run : θ_run defs (onTc (τ := τ) (main (F := Ideal))) ⟨m, fun _ => 0, ρ⟩ (fun r => ∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2⟩) (Value.run_blocks m ρ)

/-- The reference's frame. -/
theorem reference_frame : Cert.quiescent_Reference17Ideal (hReference17Ideal := Cert.Reference17Ideal.Gen.facts) := fun m ρ _ =>
  (θ_run Cert.Reference17Ideal.defs _ _).mono
    (fun r h => ⟨fun c => (h c).2, sem_eq_zero_of_no_sems (by decide) r.2⟩) (Cert.Reference17Ideal.Value.run (F := Ideal) m ρ)

/-- Over the extended reals kernel and reference have the same result. -/
theorem algebraic : Cert.algebraic_Kernel17Ideal_Reference17Ideal (hKernel17Ideal := Cert.Kernel17Ideal.Gen.facts)
    (hReference17Ideal := Cert.Reference17Ideal.Gen.facts) := by
  intro m ρ m' ρ' _ hm
  refine ⟨fun c => product m c, kernel_run m ρ, ?_⟩
  refine (θ_run Cert.Reference17Ideal.defs _ _).mono (fun r h c => ?_) (Cert.Reference17Ideal.Value.run (F := Ideal) m' ρ')
  obtain ⟨a0, a1⟩ := hm c
  obtain ⟨h0, h1⟩ := h c
  rw [a0, a1] at h0
  refine ⟨h0.trans (funext fun i => ?_), h1⟩
  obtain ⟨r, k, rfl⟩ : ∃ r k, i = ix2 r k := ⟨i 0, i 1, eq_ix2 i⟩
  unfold product
  clean_types
  pointwise

end Cert.QMm

end
-- ==== Proof.OMm.lean ====
/- The output product of the attention with what follows it: the hidden rows `h1 = h + o · w_o`, and their
   normalisation for the feed-forward layer, kernel and reference. -/
module

public import proofs.«01_k».proof.Defs
public import proofs.«01_k».proof.Proof.Gen.Kernel18Ideal.Value
public import proofs.«01_k».proof.Proof.Gen.Reference18Ideal.Run
public import proofs.«01_k».proof.Proof.InDxSpec
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.OMm

open Idealize.ShloMosaic Idealize.ShloMosaic.TcCoe Idealize.SL.Sem
open Idealize.ShloMosaic.Tactic
open Cert.Kernel18Ideal Cert.Kernel18Ideal.Gen

variable (m : (ℓ : Loc nD τ sig) → Buf (Elt Ideal) ℓ) (ρ : Dev nD → PrngReg) (c : Dev nD)

/-- The arguments, as launched: the attention's output, the weight, the rows to add to, and the next gain. -/
abbrev att : FVec Ideal S4096x1024 .f32 := m ((c : Thread nD τ).loc main_arg0)
abbrev weight : FVec Ideal S1x1x1024x1024 .bf16 := m ((c : Thread nD τ).loc main_arg1)
abbrev before : FVec Ideal S4096x1024 .f32 := m ((c : Thread nD τ).loc main_arg2)
abbrev gain : FVec Ideal S1x1024 .f32 := m ((c : Thread nD τ).loc main_arg3)

/-- The hidden rows. -/
def row (r : Fin 4096) (k : Fin 1024) : EReal := before m c (ix2 r k) + ∑ x : Fin 1024, att m c (ix2 r x) * weight m c (ix4 0 0 x k)

/-- The normalised rows; over the extended reals their rounding changes nothing. -/
def normed (r : Fin 4096) (k : Fin 1024) : EReal := row m c r k * InDx.scale (row m c r) * gain m c (ix2 0 k)

/-- Both as arrays. -/
def hidden : FVec Ideal S4096x1024 .f32 := fun i => row m c (i 0) (i 1)
def normedNarrow : FVec Ideal S4096x1024 .bf16 := fun i => normed m c (i 0) (i 1)

/-- Where the blocks lie. -/
theorem index_facts : ∀ t : Fin grid0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] := by
  decide +kernel

/-- The whole arrays' row at row `a` of a grid point's block. -/
abbrev place (t : Fin cfg0.N) (a : Fin 512) : Fin 4096 := ⟨t.val * 512 + a.val, by have h : t.val < 8 := t.isLt; omega⟩

/-- A grid point's block of hidden rows. -/
theorem pay1_apply (t : Fin cfg0.N) (a : Fin 512) (k : Fin 1024) :
    k0_pay1 (F := Ideal) (iblk m c 0 t) (iblk m c 1 t) (iblk m c 2 t) (ix2 a k) = row m c (place t a) k := by
  obtain ⟨e0, e1, e2, -, -, -⟩ := index_facts t
  unfold row att weight before
  pointwise [k0_pay1]
  refine congrArg₂ (· + ·) ?_ (Fin.sum_fin_congr fun x => congrArg₂ (· * ·) ?_ ?_)
  · blk_ext [iblk, V, e2]
  · blk_ext [iblk, V, e0]
  · blk_ext [iblk, V, e1]

/-- A grid point's block of normalised rows. -/
theorem pay2_apply (t : Fin cfg0.N) (a : Fin 512) (k : Fin 1024) :
    k0_pay2 (F := Ideal) (iblk m c 0 t) (iblk m c 1 t) (iblk m c 2 t) (iblk m c 3 t) (ix2 a k) = normed m c (place t a) k := by
  obtain ⟨-, -, -, e3, -, -⟩ := index_facts t
  unfold k0_pay2
  have e := pay1_apply m c t
  generalize k0_pay1 (F := Ideal) (iblk m c 0 t) (iblk m c 1 t) (iblk m c 2 t) = p at e
  pointwise
  simp only [e]
  unfold normed InDx.scale InDx.meanSquare gain
  refine congrArg₂ (· * ·) rfl ?_
  blk_ext [iblk, V, e3]

/-- A block's place in the whole arrays. -/
theorem put (f : Fin 4096 → Fin 1024 → EReal) (t : Fin cfg0.N) (a : Fin 512) (k : Fin 1024) (R : Fin 4096) (K : Fin 1024)
    (hR : R.val = t.val * 512 + a.val) (hK : K.val = k.val) : f (place t a) k = f R K := by
  obtain rfl : place t a = R := Fin.ext hR.symm
  obtain rfl : k = K := Fin.ext hK.symm
  rfl

theorem array4 : (dats m 0 c).arrAt 4 cfg0.N = hidden m c := by
  refine (dats m 0 c).arrAt_eq_of_covers 4 _ (by decide +kernel) fun t hf y => ?_
  obtain ⟨-, -, -, -, e4, -⟩ := index_facts t
  blk_simp
  rw [after0_4]
  frame_out
  obtain ⟨a, k, rfl⟩ : ∃ a k, y = ix2 a k := ⟨y 0, y 1, eq_ix2 y⟩
  exact (pay1_apply m c t a k).trans (put (row m c) t a k _ _ (by blk_simp [e4]) (by blk_simp [e4]))

theorem array5 : (dats m 0 c).arrAt 5 cfg0.N = normedNarrow m c := by
  refine (dats m 0 c).arrAt_eq_of_covers 5 _ (by decide +kernel) fun t hf y => ?_
  obtain ⟨-, -, -, -, -, e5⟩ := index_facts t
  blk_simp
  rw [after0_5]
  frame_out
  obtain ⟨a, k, rfl⟩ : ∃ a k, y = ix2 a k := ⟨y 0, y 1, eq_ix2 y⟩
  exact (pay2_apply m c t a k).trans (put (normed m c) t a k _ _ (by blk_simp [e5]) (by blk_simp [e5]))

/-- After the kernel's run the results are the hidden and the normalised rows, and the arguments what they were. -/
theorem kernel_run : θ_run defs (onTc (τ := τ) (main (F := Ideal))) ⟨m, fun _ => 0, ρ⟩ (fun r => ∀ c : Dev nD,
      r.2.mem ((c : Thread nD τ).loc main_v0_0) = hidden m c
      ∧ r.2.mem ((c : Thread nD τ).loc main_v0_1) = normedNarrow m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (array4 m c), (h c).2.1.trans (array5 m c), (h c).2.2⟩) (Value.run_blocks m ρ)

/-- The reference's frame. -/
theorem reference_frame : Cert.quiescent_Reference18Ideal (hReference18Ideal := Cert.Reference18Ideal.Gen.facts) := fun m ρ _ =>
  (θ_run Cert.Reference18Ideal.defs _ _).mono
    (fun r h => ⟨fun c => (h c).2.2, sem_eq_zero_of_no_sems (by decide) r.2⟩) (Cert.Reference18Ideal.Value.run (F := Ideal) m ρ)

/-- Over the extended reals kernel and reference have the same results. -/
theorem algebraic : Cert.algebraic_Kernel18Ideal_Reference18Ideal (hKernel18Ideal := Cert.Kernel18Ideal.Gen.facts)
    (hReference18Ideal := Cert.Reference18Ideal.Gen.facts) := by
  intro m ρ m' ρ' _ hm
  refine ⟨fun c => hidden m c, fun c => normedNarrow m c, kernel_run m ρ, ?_⟩
  refine (θ_run Cert.Reference18Ideal.defs _ _).mono (fun r h c => ?_) (Cert.Reference18Ideal.Value.run (F := Ideal) m' ρ')
  obtain ⟨a0, a1, a2, a3⟩ := hm c
  obtain ⟨h0, h1, h2⟩ := h c
  rw [a0, a1, a2] at h0
  rw [a0, a1, a2, a3] at h1
  refine ⟨h0.trans (funext fun i => ?_), h1.trans (funext fun i => ?_), h2⟩
  · obtain ⟨r, k, rfl⟩ : ∃ r k, i = ix2 r k := ⟨i 0, i 1, eq_ix2 i⟩
    unfold hidden row
    clean_types
    pointwise
  · obtain ⟨r, k, rfl⟩ : ∃ r k, i = ix2 r k := ⟨i 0, i 1, eq_ix2 i⟩
    unfold normedNarrow normed InDx.scale InDx.meanSquare row
    clean_types
    pointwise

end Cert.OMm

end
-- ==== Proof.KvMm.lean ====
/- The product of keys and values: `kv[r, d] = Σ_k h[r, k] · w_kv[k, d]`, rounded, kernel and reference. -/
module

public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.KvMm

open Idealize.ShloMosaic Idealize.ShloMosaic.TcCoe Idealize.SL.Sem
open Idealize.ShloMosaic.Tactic
open Cert.Kernel19Ideal Cert.Kernel19Ideal.Gen

variable (m : (ℓ : Loc nD τ sig) → Buf (Elt Ideal) ℓ) (ρ : Dev nD → PrngReg) (c : Dev nD)

/-- The normalised activation and the weight, as launched. -/
abbrev hn : FVec Ideal S4096x1024 .bf16 := m ((c : Thread nD τ).loc main_arg0)
abbrev weight : FVec Ideal S1x1x1024x2048 .bf16 := m ((c : Thread nD τ).loc main_arg1)

/-- The product; over the extended reals its rounding changes nothing. -/
def product : FVec Ideal S4096x2048 .bf16 := fun i => ((∑ k : Fin 1024, hn m c (ix2 (i 0) k) * weight m c (ix4 0 0 k (i 1)) : EReal))

/-- Where the blocks lie. -/
theorem index_facts : ∀ t : Fin grid0.N, win0_0.index t = ![t.val, 0] ∧ win0_1.index t = ![0, 0, 0, 0] ∧ win0_2.index t = ![t.val, 0] := by
  decide +kernel

/-- After the run the result array is the product. -/
theorem array2 : (dats m 0 c).arrAt 2 cfg0.N = product m c := by
  refine (dats m 0 c).arrAt_eq_of_covers 2 _ (by decide +kernel) fun t hf y => ?_
  blk_simp
  rw [after0_2]
  frame_out
  unfold product hn weight
  obtain ⟨e0, e1, e2⟩ := index_facts t
  pointwise [k0_pay1]
  refine Fin.sum_fin_congr fun d => ?_
  congr 1
  · blk_ext [iblk, V, e0, e2]
  · blk_ext [iblk, V, e1, e2]

/-- After the kernel's run the result is the product, and the arguments what they were. -/
theorem kernel_run : θ_run defs (onTc (τ := τ) (main (F := Ideal))) ⟨m, fun _ => 0, ρ⟩ (fun r => ∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2⟩) (Value.run_blocks m ρ)

/-- The reference's frame. -/
theorem reference_frame : Cert.quiescent_Reference19Ideal (hReference19Ideal := Cert.Reference19Ideal.Gen.facts) := fun m ρ _ =>
  (θ_run Cert.Reference19Ideal.defs _ _).mono
    (fun r h => ⟨fun c => (h c).2, sem_eq_zero_of_no_sems (by decide) r.2⟩) (Cert.Reference19Ideal.Value.run (F := Ideal) m ρ)

/-- Over the extended reals kernel and reference have the same result. -/
theorem algebraic : Cert.algebraic_Kernel19Ideal_Reference19Ideal (hKernel19Ideal := Cert.Kernel19Ideal.Gen.facts)
    (hReference19Ideal := Cert.Reference19Ideal.Gen.facts) := by
  intro m ρ m' ρ' _ hm
  refine ⟨fun c => product m c, kernel_run m ρ, ?_⟩
  refine (θ_run Cert.Reference19Ideal.defs _ _).mono (fun r h c => ?_) (Cert.Reference19Ideal.Value.run (F := Ideal) m' ρ')
  obtain ⟨a0, a1⟩ := hm c
  obtain ⟨h0, h1⟩ := h c
  rw [a0, a1] at h0
  refine ⟨h0.trans (funext fun i => ?_), h1⟩
  obtain ⟨r, k, rfl⟩ : ∃ r k, i = ix2 r k := ⟨i 0, i 1, eq_ix2 i⟩
  unfold product
  clean_types
  pointwise

end Cert.KvMm

end
-- ==== Proof.FfnOutS.lean ====
/- The output product of the feed-forward layer with what follows it: the hidden rows `h = h1 + act · w_out`, and their
   normalisation, in single precision, for a next layer that is a recurrence, kernel and reference. -/
module

public import proofs.«01_k».proof.Defs
public import proofs.«01_k».proof.Proof.Gen.Kernel20Ideal.Value
public import proofs.«01_k».proof.Proof.Gen.Reference20Ideal.Run
public import proofs.«01_k».proof.Proof.InDxSpec
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.FfnOutS

open Idealize.ShloMosaic Idealize.ShloMosaic.TcCoe Idealize.SL.Sem
open Idealize.ShloMosaic.Tactic
open Cert.Kernel20Ideal Cert.Kernel20Ideal.Gen

variable (m : (ℓ : Loc nD τ sig) → Buf (Elt Ideal) ℓ) (ρ : Dev nD → PrngReg) (c : Dev nD)

/-- The arguments, as launched: the activation, the weight, the rows to add to, and the next layer's gain. -/
abbrev act : FVec Ideal S4096x2816 .bf16 := m ((c : Thread nD τ).loc main_arg0)
abbrev weight : FVec Ideal S1x1x2816x1024 .bf16 := m ((c : Thread nD τ).loc main_arg1)
abbrev before : FVec Ideal S4096x1024 .f32 := m ((c : Thread nD τ).loc main_arg2)
abbrev gain : FVec Ideal S1x1024 .f32 := m ((c : Thread nD τ).loc main_arg3)

/-- The hidden rows. -/
def row (r : Fin 4096) (k : Fin 1024) : EReal := before m c (ix2 r k) + ∑ x : Fin 2816, act m c (ix2 r x) * weight m c (ix4 0 0 x k)

/-- The normalised rows. -/
def normed (r : Fin 4096) (k : Fin 1024) : EReal := row m c r k * InDx.scale (row m c r) * gain m c (ix2 0 k)

/-- Both as arrays. -/
def hidden : FVec Ideal S4096x1024 .f32 := fun i => row m c (i 0) (i 1)
def normedRows : FVec Ideal S4096x1024 .f32 := fun i => normed m c (i 0) (i 1)

/-- Where the blocks lie. -/
theorem index_facts : ∀ t : Fin grid0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] := by
  decide +kernel

/-- The whole arrays' row at row `a` of a grid point's block. -/
abbrev place (t : Fin cfg0.N) (a : Fin 512) : Fin 4096 := ⟨t.val * 512 + a.val, by have h : t.val < 8 := t.isLt; omega⟩

/-- A grid point's block of hidden rows. -/
theorem pay1_apply (t : Fin cfg0.N) (a : Fin 512) (k : Fin 1024) :
    k0_pay1 (F := Ideal) (iblk m c 0 t) (iblk m c 1 t) (iblk m c 2 t) (ix2 a k) = row m c (place t a) k := by
  obtain ⟨e0, e1, e2, -, -, -⟩ := index_facts t
  unfold row act weight before
  pointwise [k0_pay1]
  refine congrArg₂ (· + ·) ?_ (Fin.sum_fin_congr fun x => congrArg₂ (· * ·) ?_ ?_)
  · blk_ext [iblk, V, e2]
  · blk_ext [iblk, V, e0]
  · blk_ext [iblk, V, e1]

/-- A grid point's block of normalised rows. -/
theorem pay2_apply (t : Fin cfg0.N) (a : Fin 512) (k : Fin 1024) :
    k0_pay2 (F := Ideal) (iblk m c 0 t) (iblk m c 1 t) (iblk m c 2 t) (iblk m c 3 t) (ix2 a k) = normed m c (place t a) k := by
  obtain ⟨-, -, -, e3, -, -⟩ := index_facts t
  unfold k0_pay2
  have e := pay1_apply m c t
  generalize k0_pay1 (F := Ideal) (iblk m c 0 t) (iblk m c 1 t) (iblk m c 2 t) = p at e
  pointwise
  simp only [e]
  unfold normed InDx.scale InDx.meanSquare gain
  refine congrArg₂ (· * ·) rfl ?_
  blk_ext [iblk, V, e3]

/-- A block's place in the whole arrays. -/
theorem put (f : Fin 4096 → Fin 1024 → EReal) (t : Fin cfg0.N) (a : Fin 512) (k : Fin 1024) (R : Fin 4096) (K : Fin 1024)
    (hR : R.val = t.val * 512 + a.val) (hK : K.val = k.val) : f (place t a) k = f R K := by
  obtain rfl : place t a = R := Fin.ext hR.symm
  obtain rfl : k = K := Fin.ext hK.symm
  rfl

theorem array4 : (dats m 0 c).arrAt 4 cfg0.N = hidden m c := by
  refine (dats m 0 c).arrAt_eq_of_covers 4 _ (by decide +kernel) fun t hf y => ?_
  obtain ⟨-, -, -, -, e4, -⟩ := index_facts t
  blk_simp
  rw [after0_4]
  frame_out
  obtain ⟨a, k, rfl⟩ : ∃ a k, y = ix2 a k := ⟨y 0, y 1, eq_ix2 y⟩
  exact (pay1_apply m c t a k).trans (put (row m c) t a k _ _ (by blk_simp [e4]) (by blk_simp [e4]))

theorem array5 : (dats m 0 c).arrAt 5 cfg0.N = normedRows m c := by
  refine (dats m 0 c).arrAt_eq_of_covers 5 _ (by decide +kernel) fun t hf y => ?_
  obtain ⟨-, -, -, -, -, e5⟩ := index_facts t
  blk_simp
  rw [after0_5]
  frame_out
  obtain ⟨a, k, rfl⟩ : ∃ a k, y = ix2 a k := ⟨y 0, y 1, eq_ix2 y⟩
  exact (pay2_apply m c t a k).trans (put (normed m c) t a k _ _ (by blk_simp [e5]) (by blk_simp [e5]))

/-- After the kernel's run the results are the hidden and the normalised rows, and the arguments what they were. -/
theorem kernel_run : θ_run defs (onTc (τ := τ) (main (F := Ideal))) ⟨m, fun _ => 0, ρ⟩ (fun r => ∀ c : Dev nD,
      r.2.mem ((c : Thread nD τ).loc main_v0_0) = hidden m c
      ∧ r.2.mem ((c : Thread nD τ).loc main_v0_1) = normedRows m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (array4 m c), (h c).2.1.trans (array5 m c), (h c).2.2⟩) (Value.run_blocks m ρ)

/-- The reference's frame. -/
theorem reference_frame : Cert.quiescent_Reference20Ideal (hReference20Ideal := Cert.Reference20Ideal.Gen.facts) := fun m ρ _ =>
  (θ_run Cert.Reference20Ideal.defs _ _).mono
    (fun r h => ⟨fun c => (h c).2.2, sem_eq_zero_of_no_sems (by decide) r.2⟩) (Cert.Reference20Ideal.Value.run (F := Ideal) m ρ)

/-- Over the extended reals kernel and reference have the same results. -/
theorem algebraic : Cert.algebraic_Kernel20Ideal_Reference20Ideal (hKernel20Ideal := Cert.Kernel20Ideal.Gen.facts)
    (hReference20Ideal := Cert.Reference20Ideal.Gen.facts) := by
  intro m ρ m' ρ' _ hm
  refine ⟨fun c => hidden m c, fun c => normedRows m c, kernel_run m ρ, ?_⟩
  refine (θ_run Cert.Reference20Ideal.defs _ _).mono (fun r h c => ?_) (Cert.Reference20Ideal.Value.run (F := Ideal) m' ρ')
  obtain ⟨a0, a1, a2, a3⟩ := hm c
  obtain ⟨h0, h1, h2⟩ := h c
  rw [a0, a1, a2] at h0
  rw [a0, a1, a2, a3] at h1
  refine ⟨h0.trans (funext fun i => ?_), h1.trans (funext fun i => ?_), h2⟩
  · obtain ⟨r, k, rfl⟩ : ∃ r k, i = ix2 r k := ⟨i 0, i 1, eq_ix2 i⟩
    unfold hidden row
    clean_types
    pointwise
  · obtain ⟨r, k, rfl⟩ : ∃ r k, i = ix2 r k := ⟨i 0, i 1, eq_ix2 i⟩
    unfold normedRows normed InDx.scale InDx.meanSquare row
    clean_types
    pointwise

end Cert.FfnOutS

end
-- ==== Proof.FfnOutKv.lean ====
/- The output product of the feed-forward layer with what follows it: the hidden rows `h = h1 + act · w_out`, and their
   two normalisations, one for the attention and one for its keys and values, kernel and reference. -/
module

public import proofs.«01_k».proof.Defs
public import proofs.«01_k».proof.Proof.Gen.Kernel21Ideal.Value
public import proofs.«01_k».proof.Proof.Gen.Reference21Ideal.Run
public import proofs.«01_k».proof.Proof.InDxSpec
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.FfnOutKv

open Idealize.ShloMosaic Idealize.ShloMosaic.TcCoe Idealize.SL.Sem
open Idealize.ShloMosaic.Tactic
open Cert.Kernel21Ideal Cert.Kernel21Ideal.Gen

variable (m : (ℓ : Loc nD τ sig) → Buf (Elt Ideal) ℓ) (ρ : Dev nD → PrngReg) (c : Dev nD)

/-- The arguments, as launched: the activation, the weight, the rows to add to, and the two gains. -/
abbrev act : FVec Ideal S4096x2816 .bf16 := m ((c : Thread nD τ).loc main_arg0)
abbrev weight : FVec Ideal S1x1x2816x1024 .bf16 := m ((c : Thread nD τ).loc main_arg1)
abbrev before : FVec Ideal S4096x1024 .f32 := m ((c : Thread nD τ).loc main_arg2)
abbrev gain : FVec Ideal S1x1024 .f32 := m ((c : Thread nD τ).loc main_arg3)
abbrev gainKv : FVec Ideal S1x1024 .f32 := m ((c : Thread nD τ).loc main_arg4)

/-- The hidden rows. -/
def row (r : Fin 4096) (k : Fin 1024) : EReal := before m c (ix2 r k) + ∑ x : Fin 2816, act m c (ix2 r x) * weight m c (ix4 0 0 x k)

/-- The rows normalised with gain `g`; over the extended reals their rounding changes nothing. -/
def normed (g : FVec Ideal S1x1024 .f32) (r : Fin 4096) (k : Fin 1024) : EReal := row m c r k * InDx.scale (row m c r) * g (ix2 0 k)

/-- The hidden rows and the two normalisations as arrays. -/
def hidden : FVec Ideal S4096x1024 .f32 := fun i => row m c (i 0) (i 1)
def normedArray (g : FVec Ideal S1x1024 .f32) : FVec Ideal S4096x1024 .bf16 := fun i => normed m c g (i 0) (i 1)

/-- Where the blocks lie. -/
theorem index_facts : ∀ t : Fin grid0.N, win0_0.index t = ![t.val, 0] ∧ win0_1.index t = ![0, 0, 0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] := by
  decide +kernel

/-- The whole arrays' row at row `a` of a grid point's block. -/
abbrev place (t : Fin cfg0.N) (a : Fin 512) : Fin 4096 := ⟨t.val * 512 + a.val, by have h : t.val < 8 := t.isLt; omega⟩

/-- A grid point's block of hidden rows. -/
theorem pay2_apply (t : Fin cfg0.N) (a : Fin 512) (k : Fin 1024) :
    k0_pay2 (F := Ideal) (iblk m c 0 t) (iblk m c 1 t) (iblk m c 2 t) (ix2 a k) = row m c (place t a) k := by
  obtain ⟨e0, e1, e2, -⟩ := index_facts t
  unfold row act weight before
  pointwise [k0_pay2]
  refine congrArg₂ (· + ·) ?_ (Fin.sum_fin_congr fun x => congrArg₂ (· * ·) ?_ ?_)
  · blk_ext [iblk, V, e2]
  · blk_ext [iblk, V, e0]
  · blk_ext [iblk, V, e1]

theorem gain_eq (t : Fin cfg0.N) (k : Fin 1024) : iblk m c 3 t (ix2 0 k) = gain m c (ix2 0 k) := by
  obtain ⟨-, -, -, e, -⟩ := index_facts t
  blk_ext [iblk, V, e]

theorem gainKv_eq (t : Fin cfg0.N) (k : Fin 1024) : iblk m c 4 t (ix2 0 k) = gainKv m c (ix2 0 k) := by
  obtain ⟨-, -, -, -, e, -⟩ := index_facts t
  blk_ext [iblk, V, e]

/-- A grid point's blocks of normalised rows. -/
theorem pay4_apply (t : Fin cfg0.N) (a : Fin 512) (k : Fin 1024) :
    k0_pay4 (F := Ideal) (iblk m c 0 t) (iblk m c 1 t) (iblk m c 2 t) (iblk m c 3 t) (ix2 a k) = normed m c (gain m c) (place t a) k := by
  unfold k0_pay4
  have e := pay2_apply m c t
  generalize k0_pay2 (F := Ideal) (iblk m c 0 t) (iblk m c 1 t) (iblk m c 2 t) = p at e
  pointwise
  simp only [e, gain_eq m c t]
  rfl

theorem pay1_apply (t : Fin cfg0.N) (a : Fin 512) (k : Fin 1024) :
    k0_pay1 (F := Ideal) (k0_pay3 (iblk m c 0 t) (iblk m c 1 t) (iblk m c 2 t) (iblk m c 4 t)) (ix2 a k) = normed m c (gainKv m c) (place t a) k := by
  unfold k0_pay1 k0_pay3
  have e := pay2_apply m c t
  generalize k0_pay2 (F := Ideal) (iblk m c 0 t) (iblk m c 1 t) (iblk m c 2 t) = p at e
  pointwise
  simp only [e, gainKv_eq m c t]
  rfl

/-- A block's place in the whole arrays. -/
theorem put (f : Fin 4096 → Fin 1024 → EReal) (t : Fin cfg0.N) (a : Fin 512) (k : Fin 1024) (R : Fin 4096) (K : Fin 1024)
    (hR : R.val = t.val * 512 + a.val) (hK : K.val = k.val) : f (place t a) k = f R K := by
  obtain rfl : place t a = R := Fin.ext hR.symm
  obtain rfl : k = K := Fin.ext hK.symm
  rfl

theorem array5 : (dats m 0 c).arrAt 5 cfg0.N = hidden m c := by
  refine (dats m 0 c).arrAt_eq_of_covers 5 _ (by decide +kernel) fun t hf y => ?_
  obtain ⟨-, -, -, -, -, e, -⟩ := index_facts t
  blk_simp
  rw [after0_5]
  frame_out
  obtain ⟨a, k, rfl⟩ : ∃ a k, y = ix2 a k := ⟨y 0, y 1, eq_ix2 y⟩
  exact (pay2_apply m c t a k).trans (put (row m c) t a k _ _ (by blk_simp [e]) (by blk_simp [e]))

theorem array6 : (dats m 0 c).arrAt 6 cfg0.N = normedArray m c (gain m c) := by
  refine (dats m 0 c).arrAt_eq_of_covers 6 _ (by decide +kernel) fun t hf y => ?_
  obtain ⟨-, -, -, -, -, -, e, -⟩ := index_facts t
  blk_simp
  rw [after0_6]
  frame_out
  obtain ⟨a, k, rfl⟩ : ∃ a k, y = ix2 a k := ⟨y 0, y 1, eq_ix2 y⟩
  exact (pay4_apply m c t a k).trans (put (normed m c (gain m c)) t a k _ _ (by blk_simp [e]) (by blk_simp [e]))

theorem array7 : (dats m 0 c).arrAt 7 cfg0.N = normedArray m c (gainKv m c) := by
  refine (dats m 0 c).arrAt_eq_of_covers 7 _ (by decide +kernel) fun t hf y => ?_
  obtain ⟨-, -, -, -, -, -, -, e⟩ := index_facts t
  blk_simp
  rw [after0_7]
  frame_out
  obtain ⟨a, k, rfl⟩ : ∃ a k, y = ix2 a k := ⟨y 0, y 1, eq_ix2 y⟩
  exact (pay1_apply m c t a k).trans (put (normed m c (gainKv m c)) t a k _ _ (by blk_simp [e]) (by blk_simp [e]))

/-- After the kernel's run the results are the hidden rows and both normalisations, and the arguments what they were. -/
theorem kernel_run : θ_run defs (onTc (τ := τ) (main (F := Ideal))) ⟨m, fun _ => 0, ρ⟩ (fun r => ∀ c : Dev nD,
      r.2.mem ((c : Thread nD τ).loc main_v0_0) = hidden m c
      ∧ r.2.mem ((c : Thread nD τ).loc main_v0_1) = normedArray m c (gain m c)
      ∧ r.2.mem ((c : Thread nD τ).loc main_v0_2) = normedArray m c (gainKv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c).1.trans (array5 m c), (h c).2.1.trans (array6 m c), (h c).2.2.1.trans (array7 m c), (h c).2.2.2⟩)
    (Value.run_blocks m ρ)

/-- The reference's frame. -/
theorem reference_frame : Cert.quiescent_Reference21Ideal (hReference21Ideal := Cert.Reference21Ideal.Gen.facts) := fun m ρ _ =>
  (θ_run Cert.Reference21Ideal.defs _ _).mono
    (fun r h => ⟨fun c => (h c).2.2.2, sem_eq_zero_of_no_sems (by decide) r.2⟩) (Cert.Reference21Ideal.Value.run (F := Ideal) m ρ)

/-- Over the extended reals kernel and reference have the same results. -/
theorem algebraic : Cert.algebraic_Kernel21Ideal_Reference21Ideal (hKernel21Ideal := Cert.Kernel21Ideal.Gen.facts)
    (hReference21Ideal := Cert.Reference21Ideal.Gen.facts) := by
  intro m ρ m' ρ' _ hm
  refine ⟨fun c => hidden m c, fun c => normedArray m c (gain m c), fun c => normedArray m c (gainKv m c), kernel_run m ρ, ?_⟩
  refine (θ_run Cert.Reference21Ideal.defs _ _).mono (fun r h c => ?_) (Cert.Reference21Ideal.Value.run (F := Ideal) m' ρ')
  obtain ⟨a0, a1, a2, a3, a4⟩ := hm c
  obtain ⟨h0, h1, h2, h3⟩ := h c
  rw [a0, a1, a2] at h0
  rw [a0, a1, a2, a3] at h1
  rw [a0, a1, a2, a4] at h2
  refine ⟨h0.trans (funext fun i => ?_), h1.trans (funext fun i => ?_), h2.trans (funext fun i => ?_), h3⟩
  · obtain ⟨r, k, rfl⟩ : ∃ r k, i = ix2 r k := ⟨i 0, i 1, eq_ix2 i⟩
    unfold hidden row
    clean_types
    pointwise
  · obtain ⟨r, k, rfl⟩ : ∃ r k, i = ix2 r k := ⟨i 0, i 1, eq_ix2 i⟩
    unfold normedArray normed InDx.scale InDx.meanSquare row
    clean_types
    pointwise
  · obtain ⟨r, k, rfl⟩ : ∃ r k, i = ix2 r k := ⟨i 0, i 1, eq_ix2 i⟩
    unfold normedArray normed InDx.scale InDx.meanSquare row
    clean_types
    pointwise

end Cert.FfnOutKv

end
-- ==== Proof.LossHead.lean ====
/- The last layer's output product with the loss at its end: the loss summed over the rows, and the loss's gradient at the
   hidden rows and at the last normalisation's gain. Kernel and reference. -/
module

public import proofs.«01_k».proof.Defs
public import proofs.«01_k».proof.Proof.Gen.Kernel22Ideal.Value
public import proofs.«01_k».proof.Proof.Gen.Reference22Ideal.Run
public import proofs.«01_k».proof.Proof.InDxSpec
public import proofs.«01_k».proof.Proof.Scale
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.LossHead

open Idealize.ShloMosaic Idealize.ShloMosaic.TcCoe Idealize.SL.Sem
open Idealize.ShloMosaic.Tactic
open Cert.InDx (rowGrad shift scale meanSquare)
open Cert.Kernel22Ideal Cert.Kernel22Ideal.Gen

variable (m : (ℓ : Loc nD τ sig) → Buf (Elt Ideal) ℓ) (ρ : Dev nD → PrngReg) (c : Dev nD)

/-- The arguments, as launched: the activation, the weight, the rows to add to, the target, and the gain. -/
abbrev act : FVec Ideal S4096x2816 .bf16 := m ((c : Thread nD τ).loc main_arg0)
abbrev weight : FVec Ideal S1x1x2816x1024 .bf16 := m ((c : Thread nD τ).loc main_arg1)
abbrev before : FVec Ideal S4096x1024 .f32 := m ((c : Thread nD τ).loc main_arg2)
abbrev target : FVec Ideal S4096x1024 .f32 := m ((c : Thread nD τ).loc main_arg3)
abbrev gain : FVec Ideal S1x1024 .f32 := m ((c : Thread nD τ).loc main_arg4)

/-- The constants as they are written: one over the row's width, one half, and two. -/
abbrev unit : EReal := Ideal.ofBits .f32 0x3A800000#32
abbrev half : EReal := Ideal.ofBits .f32 0x3F000000#32
abbrev two : EReal := Ideal.ofBits .f32 0x40000000#32

theorem half_eq : half = ((1 / 2 : ℝ) : EReal) := by
  simp [half, Ideal.ofBits, Ideal.ieee, -EReal.coe_mul]
  norm_num

/-- The derivative of half the mean square of an error, as the chain rule writes it. -/
theorem mean_grad (x : EReal) : Ideal.div (half) InDx.width * (two * x) = x * unit := by
  have h : Ideal.div (half) InDx.width * two = unit := by
    have e2 : two = ((2 : ℝ) : EReal) := by
      simp [two, Ideal.ofBits, Ideal.ieee, -EReal.coe_mul]
      norm_num
    have ew : InDx.width = ((1024 : ℝ) : EReal) := by
      simp [InDx.width, Ideal.ofBits, Ideal.ieee, -EReal.coe_mul]
      norm_num
    have eu : unit = ((1 / 1024 : ℝ) : EReal) := by
      simp [unit, Ideal.ofBits, Ideal.ieee, -EReal.coe_mul]
      norm_num
    rw [half_eq, e2, ew, eu]
    unfold Ideal.div
    rw [if_neg (by exact_mod_cast (by norm_num : (1024 : ℝ) ≠ 0)), ← EReal.coe_inv, ← EReal.coe_mul, ← EReal.coe_mul]
    norm_num
  rw [← mul_assoc, h, mul_comm]

/-- The hidden rows, the error of their normalisation against the target, and the error's gradient. -/
def row (r : Fin 4096) (k : Fin 1024) : EReal := before m c (ix2 r k) + ∑ x : Fin 2816, act m c (ix2 r x) * weight m c (ix4 0 0 x k)
def error (r : Fin 4096) (k : Fin 1024) : EReal := row m c r k * scale (row m c r) * gain m c (ix2 0 k) - target m c (ix2 r k)
def product (r : Fin 4096) (k : Fin 1024) : EReal := error m c r k * unit

/-- The gradient at the hidden rows. -/
def hidden (r : Fin 4096) (k : Fin 1024) : EReal :=
  product m c r k * gain m c (ix2 0 k) * scale (row m c r) + row m c r k * shift (product m c r) (row m c r) (fun x => gain m c (ix2 0 x))
    + shift (product m c r) (row m c r) (fun x => gain m c (ix2 0 x)) * row m c r k

/-- What a row adds to the loss, but for the half, and to the gradient at the gain. -/
def square (r : Fin 4096) : EReal := Ideal.div (∑ k : Fin 1024, error m c r k * error m c r k) InDx.width
def share (r : Fin 4096) (k : Fin 1024) : EReal := row m c r k * scale (row m c r) * product m c r k

/-- The four results. -/
def grad : FVec Ideal S4096x1024 .f32 := fun i => hidden m c (i 0) (i 1)
def gradNarrow : FVec Ideal S4096x1024 .bf16 := fun i => hidden m c (i 0) (i 1)
def loss : FVec Ideal S1x128 .f32 := fun _ => ((half * ∑ r : Fin 4096, square m c r : EReal))
def gainGrad : FVec Ideal S1x1024 .f32 := fun i => ((∑ r : Fin 4096, share m c r (i 1) : EReal))

/-- Where the blocks lie. -/
theorem index_facts : ∀ t : Fin grid0.N, win0_0.index t = ![t.val, 0] ∧ win0_1.index t = ![0, 0, 0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] := by
  decide +kernel

/-- The row of the arrays that row `y` of point `t`'s blocks is. -/
def place_of (t : Fin cfg0.N) (y : Fin 512) : Fin 4096 := ⟨t.val * 512 + y.val, by have : t.val < 8 := t.isLt; omega⟩

theorem target_eq (t : Fin cfg0.N) (y : Fin 512) (k : Fin 1024) : iblk m c 3 t (ix2 y k) = target m c (ix2 (place_of t y) k) := by
  obtain ⟨-, -, -, e, -⟩ := index_facts t
  unfold place_of
  blk_ext [iblk, V, e]

theorem gain_eq (t : Fin cfg0.N) (k : Fin 1024) : iblk m c 4 t (ix2 0 k) = gain m c (ix2 0 k) := by
  obtain ⟨-, -, -, -, e, -⟩ := index_facts t
  blk_ext [iblk, V, e]

/-- A grid point's block of hidden rows. -/
theorem row_eq (t : Fin cfg0.N) (y : Fin 512) (k : Fin 1024) :
    k0_pay8 (F := Ideal) (iblk m c 0 t) (iblk m c 1 t) (iblk m c 2 t) (ix2 y k) = row m c (place_of t y) k := by
  obtain ⟨e0, e1, e2, -⟩ := index_facts t
  unfold row act weight before place_of
  pointwise [k0_pay8]
  refine congrArg₂ (· + ·) ?_ (Fin.sum_fin_congr fun x => congrArg₂ (· * ·) ?_ ?_)
  · blk_ext [iblk, V, e2]
  · blk_ext [iblk, V, e0]
  · blk_ext [iblk, V, e1]

/-- The errors of a block's rows. -/
abbrev blockError (t : Fin cfg0.N) : FVec Ideal S512x1024 .f32 :=
  k0_pay13 (F := Ideal) (iblk m c 0 t) (iblk m c 1 t) (iblk m c 2 t) (iblk m c 3 t) (iblk m c 4 t)

theorem error_eq (t : Fin cfg0.N) (y : Fin 512) (k : Fin 1024) : blockError m c t (ix2 y k) = error m c (place_of t y) k := by
  unfold blockError k0_pay13 k0_pay12 k0_pay10 k0_pay9
  have e := row_eq m c t
  generalize k0_pay8 (F := Ideal) (iblk m c 0 t) (iblk m c 1 t) (iblk m c 2 t) = p at e
  pointwise
  simp only [e, gain_eq m c t, target_eq m c t]
  rfl

/-- The gradient at a block's rows. -/
abbrev blockGrad (t : Fin cfg0.N) : FVec Ideal S512x1024 .f32 :=
  k0_pay2 (F := Ideal) (iblk m c 4 t) (k0_pay8 (iblk m c 0 t) (iblk m c 1 t) (iblk m c 2 t)) (k0_pay10 (iblk m c 0 t) (iblk m c 1 t) (iblk m c 2 t))
    (k0_pay11 (iblk m c 0 t) (iblk m c 1 t) (iblk m c 2 t)) (blockError m c t) (k0_pay15 (F := Ideal))

theorem blockGrad_eq (t : Fin cfg0.N) (y : Fin 512) (k : Fin 1024) : blockGrad m c t (ix2 y k) = hidden m c (place_of t y) k := by
  unfold blockGrad k0_pay2 k0_pay1 k0_pay11 k0_pay10 k0_pay9
  have e := row_eq m c t
  have ee := error_eq m c t
  have eg := gain_eq m c t
  generalize blockError m c t = d at ee
  generalize k0_pay8 (F := Ideal) (iblk m c 0 t) (iblk m c 1 t) (iblk m c 2 t) = p at e
  generalize iblk m c 4 t = g at eg
  unfold hidden shift product scale meanSquare
  simp only [← e, ← ee, ← eg]
  pointwise [k0_pay15]

/-- What a block's rows add to the loss. -/
theorem square_eq (t : Fin cfg0.N) :
    k0_pay14 (F := Ideal) (iblk m c 0 t) (iblk m c 1 t) (iblk m c 2 t) (iblk m c 3 t) (iblk m c 4 t) (ix2 0 0) = half * ∑ y : Fin 512, square m c (place_of t y) := by
  unfold k0_pay14
  have ee := error_eq m c t
  unfold blockError at ee
  generalize k0_pay13 (F := Ideal) (iblk m c 0 t) (iblk m c 1 t) (iblk m c 2 t) (iblk m c 3 t) (iblk m c 4 t) = d at ee
  unfold square
  simp only [← ee]
  pointwise

theorem pay6_apply (a : FVec Ideal S1x1 .f32) (b : Vec Ideal S1x128 .f32) (k : Fin 128) :
    k0_pay6 (F := Ideal) a b (ix2 0 k) = (b (ix2 0 k) : EReal) + a (ix2 0 0) := by
  pointwise [k0_pay6]

/-- What a block's rows add to the gradient at the gain. -/
theorem share_eq (t : Fin cfg0.N) (b : Vec Ideal S1x1024 .f32) (k : Fin 1024) :
    k0_pay7 (F := Ideal) (k0_pay12 (iblk m c 0 t) (iblk m c 1 t) (iblk m c 2 t)) (blockError m c t) (k0_pay15 (F := Ideal)) b (ix2 0 k)
    = (b (ix2 0 k) : EReal) + ∑ y : Fin 512, share m c (place_of t y) k := by
  unfold k0_pay7 k0_pay1 k0_pay12 k0_pay10 k0_pay9
  have e := row_eq m c t
  have ee := error_eq m c t
  generalize blockError m c t = d at ee
  generalize k0_pay8 (F := Ideal) (iblk m c 0 t) (iblk m c 1 t) (iblk m c 2 t) = p at e
  unfold share product scale meanSquare
  simp only [← e, ← ee]
  pointwise [k0_pay15]

theorem block5 (t : Fin cfg0.N) : (outsAt0 m c t.val t.isLt).1 = blockGrad m c t := by
  by_cases h : t.val % 8 = 0
  · rw [outsAt0_A m c t h]
    frame_out
  · rw [outsAt0_B m c t h]
    frame_out

theorem block6 (t : Fin cfg0.N) (y : Fin 512) (k : Fin 1024) : (outsAt0 m c t.val t.isLt).2.1 (ix2 y k) = blockGrad m c t (ix2 y k) := by
  by_cases h : t.val % 8 = 0
  · rw [outsAt0_A m c t h]
    frame_out
    pointwise [k0_pay3]
  · rw [outsAt0_B m c t h]
    frame_out
    pointwise [k0_pay3]

/-- The loss after the last point: the sum of all points' parts. -/
theorem block7 (t : Fin cfg0.N) (ht : t.val % 8 = 7) (k : Fin 128) : (outsAt0 m c t.val t.isLt).2.2.1 (ix2 0 k)
    = 0 + ∑ s : Fin 8, half * ∑ y : Fin 512, square m c (place_of ⟨8 * (t.val / 8) + s.val, by have : t.val < 8 := t.isLt; exact (show _ < 8 by omega)⟩ y) :=
  Pipeline.eq_sum_fin_of_reset_step_apply_of_flush (M := EReal) (fun n h => fun k : Fin 128 => (outsAt0 m c n h).2.2.1 (ix2 0 k)) 8 (fun _ => 0)
    (fun t _ => half * ∑ y : Fin 512, square m c (place_of t y))
    (fun t h j => by
      rw [outsAt0_A m c t h]
      frame_out
      rw [pay6_apply, square_eq]
      pointwise [k0_pay4])
    (fun t h j => by
      rw [outsAt0_B m c t h]
      frame_out
      rw [pay6_apply, square_eq])
    t ht k

/-- That is half the sum over all rows. -/
theorem block7_eq (t : Fin cfg0.N) (ht : t.val % 8 = 7) (k : Fin 128) :
    (outsAt0 m c t.val t.isLt).2.2.1 (ix2 0 k) = half * ∑ r : Fin 4096, square m c r := by
  refine (block7 m c t ht k).trans ?_
  rw [zero_add]
  simp only [mul_comm half]
  rw [← Scale.sum_mul (by rw [half_eq]; exact EReal.coe_nonneg.2 (by norm_num)) (by rw [half_eq]; exact EReal.coe_ne_top _)]
  congr 1
  have h8 : t.val < 8 := t.isLt
  refine Fin.sum_mul_add_congr (S := 8) (n := 512) fun s y h => congrArg (square m c) (Fin.ext ?_)
  show (8 * (t.val / 8) + s.val) * 512 + y.val = _
  simp
  omega

/-- The gradient at the gain, after the last point: the sum of all points' shares. -/
theorem block8 (t : Fin cfg0.N) (ht : t.val % 8 = 7) (k : Fin 1024) : (outsAt0 m c t.val t.isLt).2.2.2 (ix2 0 k)
    = 0 + ∑ s : Fin 8, ∑ y : Fin 512, share m c (place_of ⟨8 * (t.val / 8) + s.val, by have : t.val < 8 := t.isLt; exact (show _ < 8 by omega)⟩ y) k :=
  Pipeline.eq_sum_fin_of_reset_step_apply_of_flush (M := EReal) (fun n h => fun k : Fin 1024 => (outsAt0 m c n h).2.2.2 (ix2 0 k)) 8 (fun _ => 0)
    (fun t k => ∑ y : Fin 512, share m c (place_of t y) k)
    (fun t h j => by
      rw [outsAt0_A m c t h]
      frame_out
      rw [share_eq]
      pointwise [k0_pay5])
    (fun t h j => by
      rw [outsAt0_B m c t h]
      frame_out
      rw [share_eq])
    t ht k

/-- That is the sum over all rows. -/
theorem block8_eq (t : Fin cfg0.N) (ht : t.val % 8 = 7) (k : Fin 1024) :
    (outsAt0 m c t.val t.isLt).2.2.2 (ix2 0 k) = ∑ r : Fin 4096, share m c r k := by
  refine (block8 m c t ht k).trans ?_
  rw [zero_add]
  have h8 : t.val < 8 := t.isLt
  refine Fin.sum_mul_add_congr (S := 8) (n := 512) fun s y h => congrArg (fun r => share m c r k) (Fin.ext ?_)
  show (8 * (t.val / 8) + s.val) * 512 + y.val = _
  simp
  omega

theorem place (t : Fin cfg0.N) (y : Fin 512) (k : Fin 1024) (R : Fin 4096) (K : Fin 1024) (hR : R.val = t.val * 512 + y.val) (hK : K.val = k.val) :
    hidden m c (place_of t y) k = hidden m c R K := by
  rw [show R = place_of t y from Fin.ext hR, show K = k from Fin.ext hK]

theorem place_gain (k K : Fin 1024) (hK : K.val = k.val) : (∑ r : Fin 4096, share m c r k) = ∑ r : Fin 4096, share m c r K := by
  rw [show K = k from Fin.ext hK]

theorem array5 : (dats m 0 c).arrAt 5 cfg0.N = grad m c := by
  refine (dats m 0 c).arrAt_eq_of_covers 5 _ (by decide +kernel) fun t hf y => ?_
  obtain ⟨-, -, -, -, -, e, -⟩ := index_facts t
  blk_simp
  rw [after0_5, block5]
  obtain ⟨y0, y1, rfl⟩ : ∃ a b, y = ix2 a b := ⟨y 0, y 1, eq_ix2 y⟩
  exact (blockGrad_eq m c t y0 y1).trans (place m c t y0 y1 _ _ (by blk_simp [e]) (by blk_simp [e]))

theorem array6 : (dats m 0 c).arrAt 6 cfg0.N = gradNarrow m c := by
  refine (dats m 0 c).arrAt_eq_of_covers 6 _ (by decide +kernel) fun t hf y => ?_
  obtain ⟨-, -, -, -, -, -, e, -⟩ := index_facts t
  blk_simp
  rw [after0_6]
  obtain ⟨y0, y1, rfl⟩ : ∃ a b, y = ix2 a b := ⟨y 0, y 1, eq_ix2 y⟩
  exact (block6 m c t y0 y1).trans ((blockGrad_eq m c t y0 y1).trans (place m c t y0 y1 _ _ (by blk_simp [e]) (by blk_simp [e])))

theorem array7 : (dats m 0 c).arrAt 7 cfg0.N = loss m c := by
  refine (dats m 0 c).arrAt_eq_of_covers 7 _ (by decide +kernel) fun t hf y => ?_
  have ht := (flush0_7 t).mp hf
  blk_simp
  rw [after0_7]
  obtain ⟨z, y1, rfl⟩ : ∃ z b, y = ix2 z b := ⟨y 0, y 1, eq_ix2 y⟩
  obtain rfl : z = 0 := Fin.fin_one_eq_zero z
  exact block7_eq m c t ht y1

theorem array8 : (dats m 0 c).arrAt 8 cfg0.N = gainGrad m c := by
  refine (dats m 0 c).arrAt_eq_of_covers 8 _ (by decide +kernel) fun t hf y => ?_
  obtain ⟨-, -, -, -, -, -, -, -, e⟩ := index_facts t
  have ht := (flush0_8 t).mp hf
  blk_simp
  rw [after0_8]
  obtain ⟨z, y1, rfl⟩ : ∃ z b, y = ix2 z b := ⟨y 0, y 1, eq_ix2 y⟩
  obtain rfl : z = 0 := Fin.fin_one_eq_zero z
  exact (block8_eq m c t ht y1).trans (place_gain m c y1 _ (by blk_simp [e]))

/-- After the kernel's run the results hold the gradients and the loss, and the arguments what they held. -/
theorem kernel_run : θ_run defs (onTc (τ := τ) (main (F := Ideal))) ⟨m, fun _ => 0, ρ⟩ (fun r => ∀ c : Dev nD,
      r.2.mem ((c : Thread nD τ).loc main_v0_0) = grad m c
      ∧ r.2.mem ((c : Thread nD τ).loc main_v0_1) = gradNarrow m c
      ∧ r.2.mem ((c : Thread nD τ).loc main_v0_2) = loss m c
      ∧ r.2.mem ((c : Thread nD τ).loc main_v0_3) = gainGrad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c).1.trans (array5 m c), (h c).2.1.trans (array6 m c), (h c).2.2.1.trans (array7 m c),
    (h c).2.2.2.1.trans (array8 m c), (h c).2.2.2.2⟩) (Value.run_blocks m ρ)

/-- The reference's frame. -/
theorem reference_frame : Cert.quiescent_Reference22Ideal (hReference22Ideal := Cert.Reference22Ideal.Gen.facts) := fun m ρ _ =>
  (θ_run Cert.Reference22Ideal.defs _ _).mono
    (fun r h => ⟨fun c => (h c).2.2.2.2, sem_eq_zero_of_no_sems (by decide) r.2⟩) (Cert.Reference22Ideal.Value.run (F := Ideal) m ρ)

/-- Over the extended reals kernel and reference have the same results. -/
theorem algebraic : Cert.algebraic_Kernel22Ideal_Reference22Ideal (hKernel22Ideal := Cert.Kernel22Ideal.Gen.facts)
    (hReference22Ideal := Cert.Reference22Ideal.Gen.facts) := by
  intro m ρ m' ρ' _ hm
  refine ⟨fun c => grad m c, fun c => gradNarrow m c, fun c => loss m c, fun c => gainGrad m c, kernel_run m ρ, ?_⟩
  refine (θ_run Cert.Reference22Ideal.defs _ _).mono (fun r h c => ?_) (Cert.Reference22Ideal.Value.run (F := Ideal) m' ρ')
  obtain ⟨a0, a1, a2, a3, a4⟩ := hm c
  obtain ⟨h0, h1, h2, h3, h4⟩ := h c
  unfold Cert.Reference22Ideal.Value.res_main_v53 at h0
  unfold Cert.Reference22Ideal.Value.res_main_v54 at h1
  rw [a0, a1, a2, a3, a4] at h0 h1 h2 h3
  refine ⟨h0.trans (funext fun i => ?_), h1.trans (funext fun i => ?_), h2.trans (funext fun i => ?_), h3.trans (funext fun i => ?_), h4⟩
  · obtain ⟨r, k, rfl⟩ : ∃ r k, i = ix2 r k := ⟨i 0, i 1, eq_ix2 i⟩
    unfold grad hidden shift
    clean_types
    pointwise
    simp only [mean_grad]
    unfold product error scale meanSquare row
    rfl
  · obtain ⟨r, k, rfl⟩ : ∃ r k, i = ix2 r k := ⟨i 0, i 1, eq_ix2 i⟩
    unfold gradNarrow hidden shift
    clean_types
    pointwise
    simp only [mean_grad]
    unfold product error scale meanSquare row
    rfl
  · obtain ⟨z, k, rfl⟩ : ∃ z k, i = ix2 z k := ⟨i 0, i 1, eq_ix2 i⟩
    unfold loss square error scale meanSquare row
    clean_types
    pointwise
  · obtain ⟨z, k, rfl⟩ : ∃ z k, i = ix2 z k := ⟨i 0, i 1, eq_ix2 i⟩
    unfold gainGrad share
    clean_types
    pointwise
    simp only [mean_grad]
    unfold product error scale meanSquare row
    rfl

end Cert.LossHead

end
-- ==== Proof.QDxFirst.lean ====
/- The first layer's product of queries, whose input another normalisation of the same rows also feeds the keys, the values and
   the forget gates: the gradient at the rows through both normalisations, joined to the gradient that passes by, and the
   gradients at the two gains. Kernel and reference. -/
module

public import proofs.«01_k».proof.Defs
public import proofs.«01_k».proof.Proof.Gen.Kernel23Ideal.Value
public import proofs.«01_k».proof.Proof.Gen.Reference23Ideal.Run
public import proofs.«01_k».proof.Proof.InDxSpec
public import proofs.«01_k».proof.Proof.Scale
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.QDxFirst

open Idealize.ShloMosaic Idealize.ShloMosaic.TcCoe Idealize.SL.Sem
open Idealize.ShloMosaic.Tactic
open Cert.InDx (rowGrad shift scale meanSquare)
open Cert.Kernel23Ideal Cert.Kernel23Ideal.Gen

variable (m : (ℓ : Loc nD τ sig) → Buf (Elt Ideal) ℓ) (ρ : Dev nD → PrngReg) (c : Dev nD)

/-- The arguments, as launched: the queries' gradient, the weight, the gradient that passes by, the hidden rows, the gradients
    that come back from the keys and values and from the forget gates, and the two gains. -/
abbrev dq : FVec Ideal S4096x1024 .f32 := m ((c : Thread nD τ).loc main_arg0)
abbrev weight : FVec Ideal S1x1x1024x1024 .bf16 := m ((c : Thread nD τ).loc main_arg1)
abbrev past : FVec Ideal S4096x1024 .f32 := m ((c : Thread nD τ).loc main_arg2)
abbrev rows : FVec Ideal S4096x1024 .f32 := m ((c : Thread nD τ).loc main_arg3)
abbrev dkv : FVec Ideal S4096x1024 .f32 := m ((c : Thread nD τ).loc main_arg4)
abbrev df : FVec Ideal S4096x1024 .f32 := m ((c : Thread nD τ).loc main_arg5)
abbrev gain : FVec Ideal S1x1024 .f32 := m ((c : Thread nD τ).loc main_arg6)
abbrev gainKv : FVec Ideal S1x1024 .f32 := m ((c : Thread nD τ).loc main_arg7)

/-- The scaled product that comes back. -/
def product (r : Fin 4096) (k : Fin 1024) : EReal := (∑ d : Fin 1024, dq m c (ix2 r d) * weight m c (ix4 0 0 k d)) * Scale.factor

/-- What comes back through the other normalisation. -/
def back (r : Fin 4096) (k : Fin 1024) : EReal := dkv m c (ix2 r k) + df m c (ix2 r k)

/-- The other normalisation's part of the gradient at the hidden rows. -/
def hiddenKv (r : Fin 4096) (k : Fin 1024) : EReal :=
  back m c r k * gainKv m c (ix2 0 k) * scale (fun x => rows m c (ix2 r x))
    + rows m c (ix2 r k) * shift (back m c r) (fun x => rows m c (ix2 r x)) (fun x => gainKv m c (ix2 0 x))
    + shift (back m c r) (fun x => rows m c (ix2 r x)) (fun x => gainKv m c (ix2 0 x)) * rows m c (ix2 r k)

/-- The gradient at the hidden rows. -/
def hidden (r : Fin 4096) (k : Fin 1024) : EReal :=
  rowGrad (past m c (ix2 r k)) (product m c r) (fun x => rows m c (ix2 r x)) (fun x => gain m c (ix2 0 x)) k + hiddenKv m c r k

/-- What a row adds to the gradient at the gain. -/
def share (r : Fin 4096) (k : Fin 1024) : EReal := rows m c (ix2 r k) * scale (fun x => rows m c (ix2 r x)) * product m c r k

/-- What a row adds to the gradient at the other gain. -/
def shareKv (r : Fin 4096) (k : Fin 1024) : EReal := rows m c (ix2 r k) * scale (fun x => rows m c (ix2 r x)) * back m c r k

/-- The four results. -/
def grad : FVec Ideal S4096x1024 .f32 := fun i => hidden m c (i 0) (i 1)
def gradNarrow : FVec Ideal S4096x1024 .bf16 := fun i => hidden m c (i 0) (i 1)
def gainGrad : FVec Ideal S1x1024 .f32 := fun i => ((∑ r : Fin 4096, share m c r (i 1) : EReal))
def gainKvGrad : FVec Ideal S1x1024 .f32 := fun i => ((∑ r : Fin 4096, shareKv m c r (i 1) : EReal))

/-- Where the blocks lie. -/
theorem index_facts : ∀ t : Fin grid0.N, win0_0.index t = ![t.val, 0] ∧ win0_1.index t = ![0, 0, 0, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![t.val, 0] ∧ win0_9.index t = ![t.val, 0] ∧ win0_10.index t = ![0, 0]
    ∧ win0_11.index t = ![0, 0] := by
  decide +kernel

/-- The row of the arrays that row `y` of point `t`'s blocks is. -/
def row (t : Fin cfg0.N) (y : Fin 512) : Fin 4096 := ⟨t.val * 512 + y.val, by have : t.val < 8 := t.isLt; omega⟩

theorem rows_eq (t : Fin cfg0.N) (y : Fin 512) (k : Fin 1024) : iblk m c 3 t (ix2 y k) = rows m c (ix2 (row t y) k) := by
  obtain ⟨-, -, -, e, -⟩ := index_facts t
  unfold row
  blk_ext [iblk, V, e]

theorem past_eq (t : Fin cfg0.N) (y : Fin 512) (k : Fin 1024) : iblk m c 2 t (ix2 y k) = past m c (ix2 (row t y) k) := by
  obtain ⟨-, -, e, -⟩ := index_facts t
  unfold row
  blk_ext [iblk, V, e]

theorem back_eq (t : Fin cfg0.N) (y : Fin 512) (k : Fin 1024) :
    k0_pay14 (F := Ideal) (iblk m c 4 t) (iblk m c 5 t) (ix2 y k) = back m c (row t y) k := by
  obtain ⟨-, -, -, -, e4, e5, -⟩ := index_facts t
  unfold back row
  pointwise [k0_pay14]
  refine congrArg₂ (· + ·) ?_ ?_
  · blk_ext [iblk, V, e4]
  · blk_ext [iblk, V, e5]

theorem gain_eq (t : Fin cfg0.N) (k : Fin 1024) : iblk m c 6 t (ix2 0 k) = gain m c (ix2 0 k) := by
  obtain ⟨-, -, -, -, -, -, e, -⟩ := index_facts t
  blk_ext [iblk, V, e]

theorem gainKv_eq (t : Fin cfg0.N) (k : Fin 1024) : iblk m c 7 t (ix2 0 k) = gainKv m c (ix2 0 k) := by
  obtain ⟨-, -, -, -, -, -, -, e, -⟩ := index_facts t
  blk_ext [iblk, V, e]

/-- A grid point's block of the product. -/
theorem product_eq (t : Fin cfg0.N) (y : Fin 512) (k : Fin 1024) :
    k0_pay7 (F := Ideal) (iblk m c 0 t) (iblk m c 1 t) (ix2 y k) = product m c (row t y) k := by
  obtain ⟨e0, e1, -⟩ := index_facts t
  unfold product row
  pointwise [k0_pay7]
  congr 1
  refine Fin.sum_fin_congr fun d => congrArg₂ (· * ·) ?_ ?_
  · blk_ext [iblk, V, e0]
  · blk_ext [iblk, V, e1]

/-- The part of the gradient at a block's rows that the product brings, and the whole gradient. -/
abbrev blockMain (t : Fin cfg0.N) : FVec Ideal S512x1024 .f32 :=
  k0_pay13 (F := Ideal) (iblk m c 2 t) (iblk m c 3 t) (k0_pay9 (iblk m c 3 t)) (k0_pay10 (iblk m c 3 t)) (k0_pay12 (iblk m c 0 t) (iblk m c 1 t) (iblk m c 6 t))

abbrev blockGrad (t : Fin cfg0.N) : FVec Ideal S512x1024 .f32 :=
  k0_pay1 (F := Ideal) (blockMain m c t) (k0_pay20 (iblk m c 3 t) (iblk m c 4 t) (iblk m c 5 t) (iblk m c 7 t))
    (k0_pay21 (iblk m c 3 t) (iblk m c 4 t) (iblk m c 5 t) (iblk m c 7 t))

theorem blockMain_eq (t : Fin cfg0.N) (y : Fin 512) (k : Fin 1024) : blockMain m c t (ix2 y k)
    = rowGrad (past m c (ix2 (row t y) k)) (product m c (row t y)) (fun x => rows m c (ix2 (row t y) x)) (fun x => gain m c (ix2 0 x)) k := by
  unfold blockMain k0_pay12
  have e := product_eq m c t
  generalize k0_pay7 (F := Ideal) (iblk m c 0 t) (iblk m c 1 t) = p at e
  have er := rows_eq m c t
  have eg := gain_eq m c t
  have ep := past_eq m c t
  generalize iblk m c 3 t = x at er
  generalize iblk m c 6 t = g at eg
  generalize iblk m c 2 t = d at ep
  unfold rowGrad shift scale meanSquare
  simp only [← e, ← er, ← eg, ← ep]
  pointwise [k0_pay13, k0_pay10, k0_pay9, k0_pay8]

theorem blockKv_eq (t : Fin cfg0.N) (y : Fin 512) (k : Fin 1024) :
    (k0_pay20 (F := Ideal) (iblk m c 3 t) (iblk m c 4 t) (iblk m c 5 t) (iblk m c 7 t) (ix2 y k) : EReal)
      + k0_pay21 (F := Ideal) (iblk m c 3 t) (iblk m c 4 t) (iblk m c 5 t) (iblk m c 7 t) (ix2 y k) = hiddenKv m c (row t y) k := by
  unfold k0_pay21 k0_pay20 k0_pay19 k0_pay18
  have e := back_eq m c t
  generalize k0_pay14 (F := Ideal) (iblk m c 4 t) (iblk m c 5 t) = p at e
  have er := rows_eq m c t
  have eg := gainKv_eq m c t
  generalize iblk m c 3 t = x at er
  generalize iblk m c 7 t = g at eg
  unfold hiddenKv shift scale meanSquare
  simp only [← e, ← er, ← eg]
  pointwise [k0_pay16, k0_pay15]

theorem pay1_apply (a b d : FVec Ideal S512x1024 .f32) (y : Fin 512) (k : Fin 1024) :
    k0_pay1 (F := Ideal) a b d (ix2 y k) = (a (ix2 y k) : EReal) + (b (ix2 y k) + d (ix2 y k)) := by
  pointwise [k0_pay1]

theorem blockGrad_eq (t : Fin cfg0.N) (y : Fin 512) (k : Fin 1024) : blockGrad m c t (ix2 y k) = hidden m c (row t y) k := by
  rw [blockGrad, pay1_apply, blockMain_eq, blockKv_eq]
  rfl

/-- What a block's rows add to the gradients at the gains. -/
theorem share_eq (t : Fin cfg0.N) (k : Fin 1024) :
    k0_pay11 (F := Ideal) (iblk m c 0 t) (iblk m c 1 t) (iblk m c 3 t) (ix2 0 k) = ∑ y : Fin 512, share m c (row t y) k := by
  unfold k0_pay11
  have e := product_eq m c t
  generalize k0_pay7 (F := Ideal) (iblk m c 0 t) (iblk m c 1 t) = p at e
  have er := rows_eq m c t
  generalize iblk m c 3 t = x at er
  unfold share scale meanSquare
  simp only [← e, ← er]
  pointwise [k0_pay9, k0_pay8]

theorem shareKv_eq (t : Fin cfg0.N) (k : Fin 1024) :
    k0_pay17 (F := Ideal) (iblk m c 3 t) (iblk m c 4 t) (iblk m c 5 t) (ix2 0 k) = ∑ y : Fin 512, shareKv m c (row t y) k := by
  unfold k0_pay17
  have e := back_eq m c t
  generalize k0_pay14 (F := Ideal) (iblk m c 4 t) (iblk m c 5 t) = p at e
  have er := rows_eq m c t
  generalize iblk m c 3 t = x at er
  unfold shareKv scale meanSquare
  simp only [← e, ← er]
  pointwise [k0_pay16, k0_pay15]

theorem pay5_apply (a : FVec Ideal S1x1024 .f32) (b : Vec Ideal S1x1024 .f32) (k : Fin 1024) : k0_pay5 (F := Ideal) a b (ix2 0 k) = (b (ix2 0 k) : EReal) + a (ix2 0 k) := by
  pointwise [k0_pay5]

theorem pay6_apply (a : FVec Ideal S1x1024 .f32) (b : Vec Ideal S1x1024 .f32) (k : Fin 1024) : k0_pay6 (F := Ideal) a b (ix2 0 k) = (b (ix2 0 k) : EReal) + a (ix2 0 k) := by
  pointwise [k0_pay6]

theorem block8 (t : Fin cfg0.N) : (outsAt0 m c t.val t.isLt).1 = blockGrad m c t := by
  by_cases h : t.val % 8 = 0
  · rw [outsAt0_A m c t h]
    frame_out
  · rw [outsAt0_B m c t h]
    frame_out

theorem block9 (t : Fin cfg0.N) (y : Fin 512) (k : Fin 1024) : (outsAt0 m c t.val t.isLt).2.1 (ix2 y k) = blockGrad m c t (ix2 y k) := by
  by_cases h : t.val % 8 = 0
  · rw [outsAt0_A m c t h]
    frame_out
    pointwise [k0_pay2]
  · rw [outsAt0_B m c t h]
    frame_out
    pointwise [k0_pay2]

/-- All points' shares are the sum over all rows. -/
theorem sum_rows (f : Fin 4096 → EReal) (t : Fin cfg0.N) :
    0 + ∑ s : Fin 8, ∑ y : Fin 512, f (row ⟨8 * (t.val / 8) + s.val, by have : t.val < 8 := t.isLt; exact (show _ < 8 by omega)⟩ y) = ∑ r : Fin 4096, f r := by
  rw [zero_add]
  have h8 : t.val < 8 := t.isLt
  refine Fin.sum_mul_add_congr (S := 8) (n := 512) fun s y h => congrArg f (Fin.ext ?_)
  show (8 * (t.val / 8) + s.val) * 512 + y.val = _
  simp
  omega

/-- The gradients at the gains, after the last point: the sums of all points' shares. -/
theorem block10 (t : Fin cfg0.N) (ht : t.val % 8 = 7) (k : Fin 1024) : (outsAt0 m c t.val t.isLt).2.2.1 (ix2 0 k) = ∑ r : Fin 4096, share m c r k :=
  (Pipeline.eq_sum_fin_of_reset_step_apply_of_flush (M := EReal) (fun n h => fun k : Fin 1024 => (outsAt0 m c n h).2.2.1 (ix2 0 k)) 8 (fun _ => 0)
    (fun t k => ∑ y : Fin 512, share m c (row t y) k)
    (fun t h j => by
      rw [outsAt0_A m c t h]
      frame_out
      rw [pay5_apply, share_eq]
      pointwise [k0_pay3])
    (fun t h j => by
      rw [outsAt0_B m c t h]
      frame_out
      rw [pay5_apply, share_eq])
    t ht k).trans (sum_rows (fun r => share m c r k) t)

theorem block11 (t : Fin cfg0.N) (ht : t.val % 8 = 7) (k : Fin 1024) : (outsAt0 m c t.val t.isLt).2.2.2 (ix2 0 k) = ∑ r : Fin 4096, shareKv m c r k :=
  (Pipeline.eq_sum_fin_of_reset_step_apply_of_flush (M := EReal) (fun n h => fun k : Fin 1024 => (outsAt0 m c n h).2.2.2 (ix2 0 k)) 8 (fun _ => 0)
    (fun t k => ∑ y : Fin 512, shareKv m c (row t y) k)
    (fun t h j => by
      rw [outsAt0_A m c t h]
      frame_out
      rw [pay6_apply, shareKv_eq]
      pointwise [k0_pay4])
    (fun t h j => by
      rw [outsAt0_B m c t h]
      frame_out
      rw [pay6_apply, shareKv_eq])
    t ht k).trans (sum_rows (fun r => shareKv m c r k) t)

theorem place (t : Fin cfg0.N) (y : Fin 512) (k : Fin 1024) (R : Fin 4096) (K : Fin 1024) (hR : R.val = t.val * 512 + y.val) (hK : K.val = k.val) :
    hidden m c (row t y) k = hidden m c R K := by
  rw [show R = row t y from Fin.ext hR, show K = k from Fin.ext hK]

theorem place_gain (f : Fin 1024 → EReal) (k K : Fin 1024) (hK : K.val = k.val) : f k = f K := by
  rw [show K = k from Fin.ext hK]

theorem array8 : (dats m 0 c).arrAt 8 cfg0.N = grad m c := by
  refine (dats m 0 c).arrAt_eq_of_covers 8 _ (by decide +kernel) fun t hf y => ?_
  obtain ⟨-, -, -, -, -, -, -, -, e, -⟩ := index_facts t
  blk_simp
  rw [after0_8, block8]
  obtain ⟨y0, y1, rfl⟩ : ∃ a b, y = ix2 a b := ⟨y 0, y 1, eq_ix2 y⟩
  exact (blockGrad_eq m c t y0 y1).trans (place m c t y0 y1 _ _ (by blk_simp [e]) (by blk_simp [e]))

theorem array9 : (dats m 0 c).arrAt 9 cfg0.N = gradNarrow m c := by
  refine (dats m 0 c).arrAt_eq_of_covers 9 _ (by decide +kernel) fun t hf y => ?_
  obtain ⟨-, -, -, -, -, -, -, -, -, e, -⟩ := index_facts t
  blk_simp
  rw [after0_9]
  obtain ⟨y0, y1, rfl⟩ : ∃ a b, y = ix2 a b := ⟨y 0, y 1, eq_ix2 y⟩
  exact (block9 m c t y0 y1).trans ((blockGrad_eq m c t y0 y1).trans (place m c t y0 y1 _ _ (by blk_simp [e]) (by blk_simp [e])))

theorem array10 : (dats m 0 c).arrAt 10 cfg0.N = gainGrad m c := by
  refine (dats m 0 c).arrAt_eq_of_covers 10 _ (by decide +kernel) fun t hf y => ?_
  obtain ⟨-, -, -, -, -, -, -, -, -, -, e, -⟩ := index_facts t
  have ht := (flush0_10 t).mp hf
  blk_simp
  rw [after0_10]
  obtain ⟨z, y1, rfl⟩ : ∃ z b, y = ix2 z b := ⟨y 0, y 1, eq_ix2 y⟩
  obtain rfl : z = 0 := Fin.fin_one_eq_zero z
  exact (block10 m c t ht y1).trans (place_gain (fun k => ∑ r : Fin 4096, share m c r k) y1 _ (by blk_simp [e]))

theorem array11 : (dats m 0 c).arrAt 11 cfg0.N = gainKvGrad m c := by
  refine (dats m 0 c).arrAt_eq_of_covers 11 _ (by decide +kernel) fun t hf y => ?_
  obtain ⟨-, -, -, -, -, -, -, -, -, -, -, e⟩ := index_facts t
  have ht := (flush0_11 t).mp hf
  blk_simp
  rw [after0_11]
  obtain ⟨z, y1, rfl⟩ : ∃ z b, y = ix2 z b := ⟨y 0, y 1, eq_ix2 y⟩
  obtain rfl : z = 0 := Fin.fin_one_eq_zero z
  exact (block11 m c t ht y1).trans (place_gain (fun k => ∑ r : Fin 4096, shareKv m c r k) y1 _ (by blk_simp [e]))

/-- After the kernel's run the results hold the gradients, and the arguments what they held. -/
theorem kernel_run : θ_run defs (onTc (τ := τ) (main (F := Ideal))) ⟨m, fun _ => 0, ρ⟩ (fun r => ∀ c : Dev nD,
      r.2.mem ((c : Thread nD τ).loc main_v0_0) = grad m c
      ∧ r.2.mem ((c : Thread nD τ).loc main_v0_1) = gradNarrow m c
      ∧ r.2.mem ((c : Thread nD τ).loc main_v0_2) = gainGrad m c
      ∧ r.2.mem ((c : Thread nD τ).loc main_v0_3) = gainKvGrad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun _ h c => ⟨(h c).1.trans (array8 m c), (h c).2.1.trans (array9 m c), (h c).2.2.1.trans (array10 m c),
    (h c).2.2.2.1.trans (array11 m c), (h c).2.2.2.2⟩) (Value.run_blocks m ρ)

/-- Scaling the incoming gradient first scales the product. -/
theorem product_scaled (a : FVec Ideal S4096x1024 .f32) (w : FVec Ideal S1x1x1024x1024 .bf16) (r : Fin 4096) (k : Fin 1024) :
    (∑ d : Fin 1024, a (ix2 r d) * Ideal.ofBits .f32 0x3E000000#32 * w (ix4 0 0 k d)) = (∑ d : Fin 1024, a (ix2 r d) * w (ix4 0 0 k d)) * Scale.factor :=
  Scale.sum_mul_scaled (fun d => a (ix2 r d)) (fun d => w (ix4 0 0 k d))

/-- The reference's frame. -/
theorem reference_frame : Cert.quiescent_Reference23Ideal (hReference23Ideal := Cert.Reference23Ideal.Gen.facts) := fun m ρ _ =>
  (θ_run Cert.Reference23Ideal.defs _ _).mono
    (fun r h => ⟨fun c => (h c).2.2.2.2, sem_eq_zero_of_no_sems (by decide) r.2⟩) (Cert.Reference23Ideal.Value.run (F := Ideal) m ρ)

set_option maxHeartbeats 2000000 in
/-- Over the extended reals kernel and reference have the same results. -/
theorem algebraic : Cert.algebraic_Kernel23Ideal_Reference23Ideal (hKernel23Ideal := Cert.Kernel23Ideal.Gen.facts)
    (hReference23Ideal := Cert.Reference23Ideal.Gen.facts) := by
  intro m ρ m' ρ' _ hm
  refine ⟨fun c => grad m c, fun c => gradNarrow m c, fun c => gainGrad m c, fun c => gainKvGrad m c, kernel_run m ρ, ?_⟩
  refine (θ_run Cert.Reference23Ideal.defs _ _).mono (fun r h c => ?_) (Cert.Reference23Ideal.Value.run (F := Ideal) m' ρ')
  obtain ⟨a0, a1, a2, a3, a4, a5, a6, a7⟩ := hm c
  obtain ⟨h0, h1, h2, h3, h4⟩ := h c
  unfold Cert.Reference23Ideal.Value.res_main_v78 at h0
  unfold Cert.Reference23Ideal.Value.res_main_v79 at h1
  rw [a0, a1, a2, a3, a4, a5, a6, a7] at h0 h1
  rw [a0, a1, a3] at h2
  rw [a3, a4, a5] at h3
  have e := fun r k => product_scaled (dq m c) (weight m c) r k
  refine ⟨h0.trans (funext fun i => ?_), h1.trans (funext fun i => ?_), h2.trans (funext fun i => ?_), h3.trans (funext fun i => ?_), h4⟩
  · obtain ⟨r, k, rfl⟩ : ∃ r k, i = ix2 r k := ⟨i 0, i 1, eq_ix2 i⟩
    unfold grad hidden hiddenKv back
    clean_types
    pointwise
    simp only [e]
    unfold product rowGrad shift scale meanSquare
    simp only [add_assoc]
  · obtain ⟨r, k, rfl⟩ : ∃ r k, i = ix2 r k := ⟨i 0, i 1, eq_ix2 i⟩
    unfold gradNarrow hidden hiddenKv back
    clean_types
    pointwise
    simp only [e]
    unfold product rowGrad shift scale meanSquare
    simp only [add_assoc]
  · obtain ⟨z, k, rfl⟩ : ∃ z k, i = ix2 z k := ⟨i 0, i 1, eq_ix2 i⟩
    unfold gainGrad share
    clean_types
    pointwise
    simp only [e]
    unfold product scale meanSquare
    rfl
  · obtain ⟨z, k, rfl⟩ : ∃ z k, i = ix2 z k := ⟨i 0, i 1, eq_ix2 i⟩
    unfold gainKvGrad shareKv back scale meanSquare
    clean_types
    pointwise

end Cert.QDxFirst

end
-- ==== Proof.MixNorm.lean ====
/- The gradient of the normalisation before the recurrence, joined to the gradient that passes by; and the gradient at the
   normalisation's gain. Kernel and reference. -/
module

public import proofs.«01_k».proof.Defs
public import proofs.«01_k».proof.Proof.Gen.Kernel24Ideal.Value
public import proofs.«01_k».proof.Proof.Gen.Reference24Ideal.Run
public import proofs.«01_k».proof.Proof.InDxSpec
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.MixNorm

open Idealize.ShloMosaic Idealize.ShloMosaic.TcCoe Idealize.SL.Sem
open Idealize.ShloMosaic.Tactic
open Cert.InDx (rowGrad shift scale meanSquare)
open Cert.Kernel24Ideal Cert.Kernel24Ideal.Gen

variable (m : (ℓ : Loc nD τ sig) → Buf (Elt Ideal) ℓ) (ρ : Dev nD → PrngReg) (c : Dev nD)

/-- The arguments, as launched: the gradient that passes by, the hidden rows, the gradient that comes back, and the gain. -/
abbrev past : FVec Ideal S4096x1024 .f32 := m ((c : Thread nD τ).loc main_arg0)
abbrev rows : FVec Ideal S4096x1024 .f32 := m ((c : Thread nD τ).loc main_arg1)
abbrev back : FVec Ideal S4096x1024 .f32 := m ((c : Thread nD τ).loc main_arg2)
abbrev gain : FVec Ideal S1x1024 .f32 := m ((c : Thread nD τ).loc main_arg3)

/-- The gradient at the hidden rows. -/
def hidden (r : Fin 4096) (k : Fin 1024) : EReal :=
  rowGrad (past m c (ix2 r k)) (fun x => back m c (ix2 r x)) (fun x => rows m c (ix2 r x)) (fun x => gain m c (ix2 0 x)) k

/-- What a row adds to the gradient at the gain. -/
def share (r : Fin 4096) (k : Fin 1024) : EReal := rows m c (ix2 r k) * scale (fun x => rows m c (ix2 r x)) * back m c (ix2 r k)

/-- The three results. -/
def grad : FVec Ideal S4096x1024 .f32 := fun i => hidden m c (i 0) (i 1)
def gradNarrow : FVec Ideal S4096x1024 .bf16 := fun i => hidden m c (i 0) (i 1)
def gainGrad : FVec Ideal S1x1024 .f32 := fun i => ((∑ r : Fin 4096, share m c r (i 1) : EReal))

/-- Where the blocks lie. -/
theorem index_facts : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] := by
  decide +kernel

/-- The row of the arrays that row `y` of point `t`'s blocks is. -/
def row (t : Fin cfg0.N) (y : Fin 512) : Fin 4096 := ⟨t.val * 512 + y.val, by have : t.val < 8 := t.isLt; omega⟩

theorem past_eq (t : Fin cfg0.N) (y : Fin 512) (k : Fin 1024) : iblk m c 0 t (ix2 y k) = past m c (ix2 (row t y) k) := by
  obtain ⟨e, -⟩ := index_facts t
  unfold row
  blk_ext [iblk, V, e]

theorem rows_eq (t : Fin cfg0.N) (y : Fin 512) (k : Fin 1024) : iblk m c 1 t (ix2 y k) = rows m c (ix2 (row t y) k) := by
  obtain ⟨-, e, -⟩ := index_facts t
  unfold row
  blk_ext [iblk, V, e]

theorem back_eq (t : Fin cfg0.N) (y : Fin 512) (k : Fin 1024) : iblk m c 2 t (ix2 y k) = back m c (ix2 (row t y) k) := by
  obtain ⟨-, -, e, -⟩ := index_facts t
  unfold row
  blk_ext [iblk, V, e]

theorem gain_eq (t : Fin cfg0.N) (k : Fin 1024) : iblk m c 3 t (ix2 0 k) = gain m c (ix2 0 k) := by
  obtain ⟨-, -, -, e, -⟩ := index_facts t
  blk_ext [iblk, V, e]

/-- The gradient at a block's rows. -/
abbrev blockGrad (t : Fin cfg0.N) : FVec Ideal S512x1024 .f32 := k0_pay6 (F := Ideal) (iblk m c 0 t) (iblk m c 1 t) (iblk m c 2 t) (iblk m c 3 t)

theorem blockGrad_eq (t : Fin cfg0.N) (y : Fin 512) (k : Fin 1024) : blockGrad m c t (ix2 y k) = hidden m c (row t y) k := by
  unfold blockGrad
  have ep := past_eq m c t
  have er := rows_eq m c t
  have eb := back_eq m c t
  have eg := gain_eq m c t
  generalize iblk m c 0 t = d at ep
  generalize iblk m c 1 t = x at er
  generalize iblk m c 2 t = b at eb
  generalize iblk m c 3 t = g at eg
  unfold hidden rowGrad shift scale meanSquare
  simp only [← eb, ← er, ← eg, ← ep]
  pointwise [k0_pay6, k0_pay4, k0_pay3]

/-- What a block's rows add to the gradient at the gain. -/
theorem share_eq (t : Fin cfg0.N) (k : Fin 1024) :
    k0_pay5 (F := Ideal) (iblk m c 1 t) (iblk m c 2 t) (ix2 0 k) = ∑ y : Fin 512, share m c (row t y) k := by
  have er := rows_eq m c t
  have eb := back_eq m c t
  generalize iblk m c 1 t = x at er
  generalize iblk m c 2 t = b at eb
  unfold share scale meanSquare
  simp only [← eb, ← er]
  pointwise [k0_pay5, k0_pay4, k0_pay3]

theorem pay2_apply (a b : Vec Ideal S1x1024 .f32) (k : Fin 1024) : k0_pay2 (F := Ideal) a b (ix2 0 k) = (b (ix2 0 k) : EReal) + a (ix2 0 k) := by
  pointwise [k0_pay2]

theorem block4 (t : Fin cfg0.N) : (outsAt0 m c t.val t.isLt).1 = blockGrad m c t := by
  by_cases h : t.val % 8 = 0
  · rw [outsAt0_A m c t h]
    frame_out
  · rw [outsAt0_B m c t h]
    frame_out

theorem block5 (t : Fin cfg0.N) (y : Fin 512) (k : Fin 1024) : (outsAt0 m c t.val t.isLt).2.1 (ix2 y k) = blockGrad m c t (ix2 y k) := by
  by_cases h : t.val % 8 = 0
  · rw [outsAt0_A m c t h]
    frame_out
    pointwise [k0_pay7]
  · rw [outsAt0_B m c t h]
    frame_out
    pointwise [k0_pay7]

/-- The gradient at the gain, after the last point: the sum of all points' shares. -/
theorem block6 (t : Fin cfg0.N) (ht : t.val % 8 = 7) (k : Fin 1024) : (outsAt0 m c t.val t.isLt).2.2 (ix2 0 k)
    = 0 + ∑ s : Fin 8, ∑ y : Fin 512, share m c (row ⟨8 * (t.val / 8) + s.val, by have : t.val < 8 := t.isLt; exact (show _ < 8 by omega)⟩ y) k :=
  Pipeline.eq_sum_fin_of_reset_step_apply_of_flush (M := EReal) (fun n h => fun k : Fin 1024 => (outsAt0 m c n h).2.2 (ix2 0 k)) 8 (fun _ => 0)
    (fun t k => ∑ y : Fin 512, share m c (row t y) k)
    (fun t h j => by
      rw [outsAt0_A m c t h]
      frame_out
      rw [pay2_apply, share_eq]
      pointwise [k0_pay1])
    (fun t h j => by
      rw [outsAt0_B m c t h]
      frame_out
      rw [pay2_apply, share_eq])
    t ht k

/-- That is the sum over all rows. -/
theorem block6_eq (t : Fin cfg0.N) (ht : t.val % 8 = 7) (k : Fin 1024) :
    (outsAt0 m c t.val t.isLt).2.2 (ix2 0 k) = ∑ r : Fin 4096, share m c r k := by
  refine (block6 m c t ht k).trans ?_
  rw [zero_add]
  have h8 : t.val < 8 := t.isLt
  refine Fin.sum_mul_add_congr (S := 8) (n := 512) fun s y h => congrArg (fun r => share m c r k) (Fin.ext ?_)
  show (8 * (t.val / 8) + s.val) * 512 + y.val = _
  simp
  omega

theorem place (t : Fin cfg0.N) (y : Fin 512) (k : Fin 1024) (R : Fin 4096) (K : Fin 1024) (hR : R.val = t.val * 512 + y.val) (hK : K.val = k.val) :
    hidden m c (row t y) k = hidden m c R K := by
  rw [show R = row t y from Fin.ext hR, show K = k from Fin.ext hK]

theorem place_gain (k K : Fin 1024) (hK : K.val = k.val) : (∑ r : Fin 4096, share m c r k) = ∑ r : Fin 4096, share m c r K := by
  rw [show K = k from Fin.ext hK]

theorem array4 : (dats m 0 c).arrAt 4 cfg0.N = grad m c := by
  refine (dats m 0 c).arrAt_eq_of_covers 4 _ (by decide +kernel) fun t hf y => ?_
  obtain ⟨-, -, -, -, e, -⟩ := index_facts t
  blk_simp
  rw [after0_4, block4]
  obtain ⟨y0, y1, rfl⟩ : ∃ a b, y = ix2 a b := ⟨y 0, y 1, eq_ix2 y⟩
  exact (blockGrad_eq m c t y0 y1).trans (place m c t y0 y1 _ _ (by blk_simp [e]) (by blk_simp [e]))

theorem array5 : (dats m 0 c).arrAt 5 cfg0.N = gradNarrow m c := by
  refine (dats m 0 c).arrAt_eq_of_covers 5 _ (by decide +kernel) fun t hf y => ?_
  obtain ⟨-, -, -, -, -, e, -⟩ := index_facts t
  blk_simp
  rw [after0_5]
  obtain ⟨y0, y1, rfl⟩ : ∃ a b, y = ix2 a b := ⟨y 0, y 1, eq_ix2 y⟩
  exact (block5 m c t y0 y1).trans ((blockGrad_eq m c t y0 y1).trans (place m c t y0 y1 _ _ (by blk_simp [e]) (by blk_simp [e])))

theorem array6 : (dats m 0 c).arrAt 6 cfg0.N = gainGrad m c := by
  refine (dats m 0 c).arrAt_eq_of_covers 6 _ (by decide +kernel) fun t hf y => ?_
  obtain ⟨-, -, -, -, -, -, e⟩ := index_facts t
  have ht := (flush0_6 t).mp hf
  blk_simp
  rw [after0_6]
  obtain ⟨z, y1, rfl⟩ : ∃ z b, y = ix2 z b := ⟨y 0, y 1, eq_ix2 y⟩
  obtain rfl : z = 0 := Fin.fin_one_eq_zero z
  exact (block6_eq m c t ht y1).trans (place_gain m c y1 _ (by blk_simp [e]))

/-- After the kernel's run the results hold the gradients, and the arguments what they held. -/
theorem kernel_run : θ_run defs (onTc (τ := τ) (main (F := Ideal))) ⟨m, fun _ => 0, ρ⟩ (fun r => ∀ c : Dev nD,
      r.2.mem ((c : Thread nD τ).loc main_v0_0) = grad m c
      ∧ r.2.mem ((c : Thread nD τ).loc main_v0_1) = gradNarrow m c
      ∧ r.2.mem ((c : Thread nD τ).loc main_v0_2) = gainGrad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (array4 m c), (h c).2.1.trans (array5 m c), (h c).2.2.1.trans (array6 m c), (h c).2.2.2⟩)
    (Value.run_blocks m ρ)

/-- The reference's frame. -/
theorem reference_frame : Cert.quiescent_Reference24Ideal (hReference24Ideal := Cert.Reference24Ideal.Gen.facts) := fun m ρ _ =>
  (θ_run Cert.Reference24Ideal.defs _ _).mono
    (fun r h => ⟨fun c => (h c).2.2.2, sem_eq_zero_of_no_sems (by decide) r.2⟩) (Cert.Reference24Ideal.Value.run (F := Ideal) m ρ)

/-- Over the extended reals kernel and reference have the same results. -/
theorem algebraic : Cert.algebraic_Kernel24Ideal_Reference24Ideal (hKernel24Ideal := Cert.Kernel24Ideal.Gen.facts)
    (hReference24Ideal := Cert.Reference24Ideal.Gen.facts) := by
  intro m ρ m' ρ' _ hm
  refine ⟨fun c => grad m c, fun c => gradNarrow m c, fun c => gainGrad m c, kernel_run m ρ, ?_⟩
  refine (θ_run Cert.Reference24Ideal.defs _ _).mono (fun r h c => ?_) (Cert.Reference24Ideal.Value.run (F := Ideal) m' ρ')
  obtain ⟨a0, a1, a2, a3⟩ := hm c
  obtain ⟨h0, h1, h2, h3⟩ := h c
  rw [a0, a1, a2, a3] at h0 h1
  rw [a1, a2] at h2
  refine ⟨h0.trans (funext fun i => ?_), h1.trans (funext fun i => ?_), h2.trans (funext fun i => ?_), h3⟩
  · obtain ⟨r, k, rfl⟩ : ∃ r k, i = ix2 r k := ⟨i 0, i 1, eq_ix2 i⟩
    unfold grad hidden rowGrad shift scale meanSquare
    clean_types
    pointwise
    rw [add_assoc, add_assoc, add_assoc]
  · obtain ⟨r, k, rfl⟩ : ∃ r k, i = ix2 r k := ⟨i 0, i 1, eq_ix2 i⟩
    unfold gradNarrow hidden rowGrad shift scale meanSquare
    clean_types
    pointwise
    rw [add_assoc, add_assoc, add_assoc]
  · obtain ⟨z, k, rfl⟩ : ∃ z k, i = ix2 z k := ⟨i 0, i 1, eq_ix2 i⟩
    unfold gainGrad share scale meanSquare
    clean_types
    pointwise

end Cert.MixNorm

end
-- ==== Proof.Glu.lean ====
/- The gate of the gated linear unit, `z₁ · σ(z₂)`: the gradient at its two halves. Kernel and reference. -/
module

public import proofs.«01_k».proof.Defs
public import proofs.«01_k».proof.Proof.Gen.Kernel25Ideal.Value
public import proofs.«01_k».proof.Proof.Gen.Reference25Ideal.Run
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.Glu

open Idealize.ShloMosaic Idealize.ShloMosaic.TcCoe Idealize.SL.Sem
open Idealize.ShloMosaic.Tactic
open Cert.Kernel25Ideal Cert.Kernel25Ideal.Gen

variable (m : (ℓ : Loc nD τ sig) → Buf (Elt Ideal) ℓ) (ρ : Dev nD → PrngReg) (c : Dev nD)

/-- The arguments, as launched: the two halves side by side, and the gradient at the gated half. -/
abbrev zz : FVec Ideal S4096x2048 .f32 := m ((c : Thread nD τ).loc main_arg0)
abbrev dd : FVec Ideal S4096x1024 .f32 := m ((c : Thread nD τ).loc main_arg1)

/-- The sigmoid, and its derivative as the quotient rule writes it. -/
def sigm (x : EReal) : EReal := Ideal.div 1 (1 + Ideal.exp (-x))
def slope (x : EReal) : EReal := Ideal.div 1 ((1 + Ideal.exp (-x)) * (1 + Ideal.exp (-x))) * Ideal.exp (-x)

/-- The same derivative in the sigmoid itself, at infinite `x` too. -/
theorem slope_eq (x : EReal) : slope x = sigm x * (1 - sigm x) := by
  unfold slope sigm
  induction x with
  | bot =>
    rw [EReal.neg_bot, show Ideal.exp ⊤ = ⊤ from rfl, show (1 : EReal) + ⊤ = ⊤ from EReal.add_top_of_ne_bot (by decide)]
    simp [Ideal.div]
  | top =>
    have h : (1 : EReal) - 1 = 0 := EReal.sub_self (by decide) (by decide)
    rw [EReal.neg_top, show Ideal.exp ⊥ = 0 from rfl]
    simp [Ideal.div, h]
  | coe x =>
    have h : (0 : ℝ) < 1 + Real.exp (-x) := by positivity
    have h1 : (1 : EReal) + Ideal.exp (-(x : EReal)) = ((1 + Real.exp (-x) : ℝ) : EReal) := by
      rw [← EReal.coe_neg, Ideal.exp_coe]
      norm_cast
    rw [h1, ← EReal.coe_neg, Ideal.exp_coe, ← EReal.coe_mul, Ideal.div_coe h.ne', Ideal.div_coe (mul_pos h h).ne']
    norm_cast
    field_simp
    ring

/-- The gradient at the first half and at the second. -/
def first (r : Fin 4096) (k : Fin 1024) : EReal := dd m c (ix2 r k) * sigm (zz m c (ix2 r ⟨1024 + k.val, by omega⟩))
def second (r : Fin 4096) (k : Fin 1024) : EReal :=
  zz m c (ix2 r ⟨k.val, by omega⟩) * dd m c (ix2 r k) * slope (zz m c (ix2 r ⟨1024 + k.val, by omega⟩))

/-- The two side by side. -/
def entry (r : Fin 4096) (x : Fin 2048) : EReal :=
  if h : x.val < 1024 then first m c r ⟨x.val, h⟩ else second m c r ⟨x.val - 1024, by omega⟩
def grad : FVec Ideal S4096x2048 .bf16 := fun i => entry m c (i 0) (i 1)

/-- Where the blocks lie. -/
theorem index_facts : ∀ t : Fin grid0.N, win0_0.index t = ![t.val, 0] ∧ win0_1.index t = ![t.val, 0] ∧ win0_2.index t = ![t.val, 0] := by
  decide +kernel

/-- The row of the arrays that row `y` of point `t`'s blocks is. -/
def row (t : Fin cfg0.N) (y : Fin 512) : Fin 4096 := ⟨t.val * 512 + y.val, by have : t.val < 8 := t.isLt; omega⟩

theorem zz_eq (t : Fin cfg0.N) (y : Fin 512) (x : Fin 2048) : iblk m c 0 t (ix2 y x) = zz m c (ix2 (row t y) x) := by
  obtain ⟨e, -⟩ := index_facts t
  unfold row
  blk_ext [iblk, V, e]

theorem dd_eq (t : Fin cfg0.N) (y : Fin 512) (k : Fin 1024) : iblk m c 1 t (ix2 y k) = dd m c (ix2 (row t y) k) := by
  obtain ⟨-, e, -⟩ := index_facts t
  unfold row
  blk_ext [iblk, V, e]

theorem block_apply (t : Fin cfg0.N) (y : Fin 512) (x : Fin 2048) :
    k0_pay1 (F := Ideal) (iblk m c 0 t) (iblk m c 1 t) (ix2 y x) = entry m c (row t y) x := by
  have ez := zz_eq m c t
  have ed := dd_eq m c t
  generalize iblk m c 0 t = z at ez
  generalize iblk m c 1 t = d at ed
  unfold entry first second sigm slope
  simp only [← ez, ← ed]
  pointwise [k0_pay1]
  split
  · simp only [zero_sub, zero_add]
  · simp only [zero_sub, add_zero, neg_mul, neg_neg, mul_assoc]

theorem place (t : Fin cfg0.N) (y : Fin 512) (x : Fin 2048) (R : Fin 4096) (X : Fin 2048) (hR : R.val = t.val * 512 + y.val) (hX : X.val = x.val) :
    entry m c (row t y) x = entry m c R X := by
  rw [show R = row t y from Fin.ext hR, show X = x from Fin.ext hX]

theorem array2 : (dats m 0 c).arrAt 2 cfg0.N = grad m c := by
  refine (dats m 0 c).arrAt_eq_of_covers 2 _ (by decide +kernel) fun t hf y => ?_
  obtain ⟨-, -, e⟩ := index_facts t
  blk_simp
  rw [after0_2]
  obtain ⟨y0, y1, rfl⟩ : ∃ a b, y = ix2 a b := ⟨y 0, y 1, eq_ix2 y⟩
  frame_out
  exact (block_apply m c t y0 y1).trans (place m c t y0 y1 _ _ (by blk_simp [e]) (by blk_simp [e]))

/-- After the kernel's run the result is the gradient, and the arguments what they held. -/
theorem kernel_run : θ_run defs (onTc (τ := τ) (main (F := Ideal))) ⟨m, fun _ => 0, ρ⟩ (fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2⟩) (Value.run_blocks m ρ)

/-- The reference's frame. -/
theorem reference_frame : Cert.quiescent_Reference25Ideal (hReference25Ideal := Cert.Reference25Ideal.Gen.facts) := fun m ρ _ =>
  (θ_run Cert.Reference25Ideal.defs _ _).mono
    (fun r h => ⟨fun c => (h c).2, sem_eq_zero_of_no_sems (by decide) r.2⟩) (Cert.Reference25Ideal.Value.run (F := Ideal) m ρ)

/-- Over the extended reals kernel and reference have the same result. -/
theorem algebraic : Cert.algebraic_Kernel25Ideal_Reference25Ideal (hKernel25Ideal := Cert.Kernel25Ideal.Gen.facts)
    (hReference25Ideal := Cert.Reference25Ideal.Gen.facts) := by
  intro m ρ m' ρ' _ hm
  refine ⟨fun c => grad m c, kernel_run m ρ, ?_⟩
  refine (θ_run Cert.Reference25Ideal.defs _ _).mono (fun r h c => ?_) (Cert.Reference25Ideal.Value.run (F := Ideal) m' ρ')
  obtain ⟨a0, a1⟩ := hm c
  obtain ⟨h0, h1⟩ := h c
  rw [a0, a1] at h0
  refine ⟨h0.trans (funext fun i => ?_), h1⟩
  obtain ⟨r, x, rfl⟩ : ∃ r x, i = ix2 r x := ⟨i 0, i 1, eq_ix2 i⟩
  unfold grad entry first second
  clean_types
  simp only [slope_eq]
  pointwise
  rfl

end Cert.Glu

end
-- ==== Proof.CumSpec.lean ====
/- Sums of the entries from a row on, block by block and as a window of the whole height; the slope of the logarithm of the
   logistic function. -/
module

public import Idealize.ShloMosaic.Lib.Pointwise

@[expose] public section

noncomputable section

namespace Cert.CumBwd

open Idealize.ShloMosaic

/-- The sum of the entries from `g` on. -/
def after (f : Nat → EReal) (g : Nat) : EReal := ∑ r ∈ Finset.Ico g 4096, f r

theorem after_end (f : Nat → EReal) : after f 4096 = 0 := by
  unfold after
  rw [Finset.Ico_self, Finset.sum_empty]

theorem triangle (f : Nat → EReal) (b y : Nat) :
    (∑ c : Fin 256, if y ≤ c.val then f (b + c.val) else 0) = ∑ r ∈ Finset.Ico (b + y) (b + 256), f r := by
  rw [Fin.sum_univ_eq_sum_range (fun c => if y ≤ c then f (b + c) else 0) 256, ← Finset.sum_filter, add_comm b y, add_comm b 256,
    ← Finset.sum_Ico_add f y 256 b]
  refine Finset.sum_congr (Finset.ext fun n => ?_) fun _ _ => rfl
  rw [Finset.mem_filter, Finset.mem_range, Finset.mem_Ico]
  exact and_comm

/-- A block's entries from its row `y` on, and then all that come after the block. -/
theorem block_after (f : Nat → EReal) (b y : Nat) (hy : y ≤ 256) (hb : b + 256 ≤ 4096) :
    (∑ c : Fin 256, if y ≤ c.val then f (b + c.val) else 0) + after f (b + 256) = after f (b + y) := by
  rw [triangle]
  exact Finset.sum_Ico_consecutive f (by omega) hb

theorem foldl_add {N : Nat} (F : Fin N → EReal) (a : EReal) :
    (List.finRange N).foldl (fun r n => r + F n) a = a + ∑ n, F n := by
  have e : ∀ (l : List (Fin N)) (a : EReal), l.foldl (fun r n => r + F n) a = a + (l.map F).sum := fun l => by
    induction l with
    | nil => exact fun a => (add_zero a).symm
    | cons n l ih => exact fun a => (ih _).trans (by rw [List.map_cons, List.sum_cons, add_assoc])
  rw [e, Fin.sum_univ_def]

/-- A column of the array, with zeros below. -/
def column (X : (⟨2, ![4096, 128]⟩ : Shape).Idx → EReal) (k : Fin 128) (r : Nat) : EReal := if h : r < 4096 then X (ix2 ⟨r, h⟩ k) else 0

theorem column_row (X : (⟨2, ![4096, 128]⟩ : Shape).Idx → EReal) (k : Fin 128) (r : Fin 4096) : column X k r.val = X (ix2 r k) :=
  dif_pos r.isLt

theorem window_sum (f : Nat → EReal) (hf : ∀ r, 4096 ≤ r → f r = 0) (g : Nat) (hg : g ≤ 4096) :
    ∑ n : Fin 4096, f (g + n.val) = after f g := by
  rw [Fin.sum_univ_eq_sum_range (fun n => f (g + n)) 4096, Finset.range_eq_Ico, Finset.sum_Ico_add f 0 4096 g, Nat.zero_add]
  refine (Finset.sum_Ico_consecutive f hg (by omega)).symm.trans ?_
  rw [Finset.sum_eq_zero fun r hr => hf r (Finset.mem_Ico.1 hr).1, add_zero]
  rfl

/-- The sum over a window of the whole height, padded at the end, is the sum of the entries from the row on. -/
theorem window_after (X : (⟨2, ![4096, 128]⟩ : Shape).Idx → EReal) (v : (⟨0, ![]⟩ : Shape).Idx → EReal) (hv : ∀ i, v i = 0)
    (h : (⟨2, ![4096, 128]⟩ : Shape).ReduceWindows ![4096, 1] ![1, 1] ![0, 0] ![4095, 0] ⟨2, ![4096, 128]⟩)
    (hu : 0 < (⟨0, ![]⟩ : Shape).numel) (g : Fin 4096) (k : Fin 128) :
    Host.reduceWindow (· + ·) ![4096, 1] ![1, 1] ![0, 0] ![4095, 0] X v h hu (ix2 g k) = after (column X k) g.val := by
  refine (foldl_add _ _).trans ?_
  rw [hv, zero_add]
  refine (Finset.sum_congr rfl fun n _ => ?_ : _ = ∑ n, column X k (g.val + ((Shape.rowMajor ⟨2, ![4096, 1]⟩).symm n 0).val)).trans ?_
  · have h1 : ((Shape.rowMajor ⟨2, ![4096, 1]⟩).symm n 1).val = 0 := Nat.lt_one_iff.1 ((Shape.rowMajor ⟨2, ![4096, 1]⟩).symm n 1).isLt
    have p0 : g.val * 1 + ((Shape.rowMajor ⟨2, ![4096, 1]⟩).symm n 0).val - 0 = g.val + ((Shape.rowMajor ⟨2, ![4096, 1]⟩).symm n 0).val := by
      omega
    have p1 : k.val * 1 + ((Shape.rowMajor ⟨2, ![4096, 1]⟩).symm n 1).val - 0 = k.val := by omega
    unfold column
    by_cases hr : g.val + ((Shape.rowMajor ⟨2, ![4096, 1]⟩).symm n 0).val < 4096
    · rw [dif_pos hr, dif_pos]
      · refine congrArg X (funext fun a => Fin.ext ?_)
        match a with
        | ⟨0, _⟩ => exact p0
        | ⟨1, _⟩ => exact p1
      · intro a
        match a with
        | ⟨0, _⟩ => exact ⟨Nat.zero_le _, p0.trans_lt hr⟩
        | ⟨1, _⟩ => exact ⟨Nat.zero_le _, p1.trans_lt k.isLt⟩
    · rw [dif_neg hr, dif_neg fun hin => hr (p0.symm.trans_lt (hin 0).2)]
  · rw [Equiv.sum_comp (Shape.rowMajor ⟨2, ![4096, 1]⟩).symm fun i => column X k (g.val + (i 0).val), sum_idx2]
    refine (Finset.sum_congr rfl fun a _ => Fin.sum_univ_one _).trans ?_
    exact window_sum _ (fun r hr => dif_neg (Nat.not_lt.2 hr)) g.val g.isLt.le

theorem windowAdd_after (X : FVec Ideal ⟨2, ![4096, 128]⟩ .f32) (v : FVec Ideal ⟨0, ![]⟩ .f32) (hv : ∀ i, v i = (0 : EReal))
    (h : (⟨2, ![4096, 128]⟩ : Shape).ReduceWindows ![4096, 1] ![1, 1] ![0, 0] ![4095, 0] ⟨2, ![4096, 128]⟩)
    (hu : 0 < (⟨0, ![]⟩ : Shape).numel) (g : Fin 4096) (k : Fin 128) :
    Host.reduceWindowAdd (F := Ideal) ![4096, 1] ![1, 1] ![0, 0] ![4095, 0] X v h hu (ix2 g k) = after (column X k) g.val := by
  unfold Host.reduceWindowAdd
  rw [Ideal.hostReduceWindowAdd_def]
  unfold Ideal.hostReduceWindowAdd
  exact window_after X (fun _ => v (Shape.Idx.first hu)) (fun _ => hv _) h _ g k

/-- The logistic function at `-x`, which is the derivative of the logarithm of the logistic function at `x`, written with one
    exponential that is at most 1. -/
def slope (x : EReal) : EReal := Ideal.div (if 0 ≤ x then Ideal.exp (0 - max x (-x)) else 1) (1 + Ideal.exp (0 - max x (-x)))

/-- The logarithm of `e^a + 1`, written with one exponential that is at most 1. -/
def logOnePlus (a : EReal) : EReal := max a 0 + Ideal.log1p (Ideal.exp (-max a (-a)))

theorem max_coe (a b : ℝ) : max (a : EReal) (b : EReal) = ((max a b : ℝ) : EReal) := (EReal.coe_strictMono.monotone.map_max).symm

theorem max_neg_coe (r : ℝ) : max (r : EReal) (-(r : EReal)) = ((|r| : ℝ) : EReal) := by
  rw [← EReal.coe_neg, max_coe]
  rfl

theorem log1p_exp (s : ℝ) : Ideal.log1p (Ideal.exp (s : EReal)) = ((Real.log (1 + Real.exp s) : ℝ) : EReal) := by
  have hpos : 0 < 1 + Real.exp s := by positivity
  unfold Ideal.log1p
  rw [Ideal.exp_coe, ← EReal.coe_one, ← EReal.coe_add, Ideal.log_coe, if_neg (not_le.2 hpos)]

theorem logOnePlus_coe (r : ℝ) : logOnePlus (r : EReal) = ((max r 0 + Real.log (1 + Real.exp (-|r|)) : ℝ) : EReal) := by
  unfold logOnePlus
  rw [max_neg_coe, ← EReal.coe_neg, log1p_exp, ← EReal.coe_zero, max_coe, ← EReal.coe_add]

theorem slope_coe (r : ℝ) : slope (r : EReal) = (((if 0 ≤ r then Real.exp (-|r|) else 1) / (1 + Real.exp (-|r|)) : ℝ) : EReal) := by
  have hpos : 1 + Real.exp (-|r|) ≠ 0 := by positivity
  unfold slope
  rw [max_neg_coe, zero_sub, ← EReal.coe_neg, Ideal.exp_coe, ← EReal.coe_one, ← EReal.coe_add, Ideal.div_coe hpos, ← EReal.coe_zero]
  simp only [EReal.coe_le_coe_iff]
  split
  · rw [← EReal.coe_mul, mul_one_div]
  · rw [← EReal.coe_mul, mul_one_div]

theorem log1p_exp_bot : Ideal.log1p (Ideal.exp ⊥) = 0 := by
  unfold Ideal.log1p
  rw [Ideal.exp_bot, add_zero, ← EReal.coe_one, Ideal.log_coe, if_neg (by norm_num), Real.log_one, EReal.coe_zero]

theorem logOnePlus_top : logOnePlus ⊤ = ⊤ := by
  unfold logOnePlus
  rw [max_eq_left le_top, EReal.neg_top, max_eq_left bot_le, EReal.neg_top, log1p_exp_bot, add_zero]

theorem logOnePlus_bot : logOnePlus ⊥ = 0 := by
  unfold logOnePlus
  rw [EReal.neg_bot, max_eq_right bot_le, max_eq_right bot_le, EReal.neg_top, log1p_exp_bot, add_zero]

theorem slope_top : slope ⊤ = 0 := by
  unfold slope
  rw [EReal.neg_top, max_eq_left bot_le, zero_sub, EReal.neg_top, Ideal.exp_bot, if_pos le_top, add_zero, ← EReal.coe_one, Ideal.div_coe one_ne_zero,
    zero_mul]

theorem slope_bot : slope ⊥ = 1 := by
  unfold slope
  rw [EReal.neg_bot, max_eq_right bot_le, zero_sub, EReal.neg_top, Ideal.exp_bot, if_neg (not_le.2 EReal.bot_lt_zero), add_zero, ← EReal.coe_one,
    Ideal.div_coe one_ne_zero, one_div, inv_one, ← EReal.coe_mul, one_mul]

/-- The slope, as the difference of two logarithms exponentiated, an infinite logarithm taken as 0. -/
theorem slope_eq (x : EReal) :
    Ideal.exp ((if -x = ⊤ then 0 else -x) - (if logOnePlus (-x) = ⊤ then 0 else logOnePlus (-x))) = slope x := by
  induction x using EReal.rec with
  | bot => rw [EReal.neg_bot, logOnePlus_top, if_pos rfl, slope_bot, sub_zero, ← EReal.coe_zero, Ideal.exp_coe, Real.exp_zero, EReal.coe_one]
  | top =>
    rw [EReal.neg_top, logOnePlus_bot, if_neg bot_ne_top, if_neg EReal.zero_ne_top, sub_zero, slope_top, Ideal.exp_bot]
  | coe r =>
    have hpos : 0 < 1 + Real.exp (-|r|) := by positivity
    rw [← EReal.coe_neg, logOnePlus_coe, if_neg (EReal.coe_ne_top _), if_neg (EReal.coe_ne_top _), slope_coe, ← EReal.coe_sub, Ideal.exp_coe, abs_neg,
      ← sub_sub, Real.exp_sub, Real.exp_log hpos]
    refine congrArg (fun a : ℝ => ((a / (1 + Real.exp (-|r|)) : ℝ) : EReal)) ?_
    by_cases h : 0 ≤ r
    · rw [if_pos h, max_eq_right (neg_nonpos.2 h), sub_zero, abs_of_nonneg h]
    · rw [if_neg h, max_eq_left (neg_nonneg.2 (not_le.1 h).le), sub_self, Real.exp_zero]

end Cert.CumBwd

end
-- ==== Proof.CumBwd.lean ====
/- The gradient of the cumulative sum of the forget gates' logarithms, at the gates' inputs and at their bias. Kernel and
   reference. -/
module

public import proofs.«01_k».proof.Defs
public import proofs.«01_k».proof.Proof.Gen.Kernel26Ideal.Value
public import proofs.«01_k».proof.Proof.Gen.Reference26Ideal.Run
public import proofs.«01_k».proof.Proof.CumSpec
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Tactic.CleanTypes

@[expose] public section

set_option maxRecDepth 16384

noncomputable section

namespace Cert.CumBwd

open Idealize.ShloMosaic Idealize.ShloMosaic.TcCoe Idealize.SL.Sem
open Idealize.ShloMosaic.Tactic
open Cert.Kernel26Ideal Cert.Kernel26Ideal.Gen

variable (m : (ℓ : Loc nD τ sig) → Buf (Elt Ideal) ℓ) (ρ : Dev nD → PrngReg) (c : Dev nD)

/-- The arguments, as launched: the gradient at the cumulative sum, the gates' inputs, and the bias. -/
abbrev back : FVec Ideal S4096x128 .f32 := m ((c : Thread nD τ).loc main_arg0)
abbrev gates : FVec Ideal S4096x128 .f32 := m ((c : Thread nD τ).loc main_arg1)
abbrev bias : FVec Ideal S1x128 .f32 := m ((c : Thread nD τ).loc main_arg2)

/-- The gradient at a gate's input. -/
def entry (r : Fin 4096) (k : Fin 128) : EReal := after (column (back m c) k) r.val * slope (gates m c (ix2 r k) + bias m c (ix2 0 k))

/-- The two results. -/
def grad : FVec Ideal S4096x128 .bf16 := fun i => entry m c (i 0) (i 1)
def biasGrad : FVec Ideal S1x128 .f32 := fun i => ((∑ r : Fin 4096, entry m c r (i 1) : EReal))

/-- Where the blocks lie: the last rows first. -/
theorem index_facts : ∀ t : Fin grid0.N, win0_0.index t = ![15 - t.val, 0] ∧ win0_1.index t = ![15 - t.val, 0] ∧ win0_2.index t = ![0, 0]
    ∧ win0_3.index t = ![15 - t.val, 0] ∧ win0_4.index t = ![0, 0] := by
  decide +kernel

/-- The row of the arrays that row `y` of point `t`'s blocks is. -/
def row (t : Fin cfg0.N) (y : Fin 256) : Fin 4096 := ⟨(15 - t.val) * 256 + y.val, by have : t.val < 16 := t.isLt; omega⟩

theorem back_eq (t : Fin cfg0.N) (y : Fin 256) (k : Fin 128) : iblk m c 0 t (ix2 y k) = back m c (ix2 (row t y) k) := by
  obtain ⟨e, -⟩ := index_facts t
  unfold row
  blk_ext [iblk, V, e]

theorem gates_eq (t : Fin cfg0.N) (y : Fin 256) (k : Fin 128) : iblk m c 1 t (ix2 y k) = gates m c (ix2 (row t y) k) := by
  obtain ⟨-, e, -⟩ := index_facts t
  unfold row
  blk_ext [iblk, V, e]

theorem bias_eq (t : Fin cfg0.N) (k : Fin 128) : iblk m c 2 t (ix2 0 k) = bias m c (ix2 0 k) := by
  obtain ⟨-, -, e, -⟩ := index_facts t
  blk_ext [iblk, V, e]

theorem pay2_apply (k : Fin 128) : k0_pay2 (F := Ideal) (ix2 0 k) = (0 : EReal) := by
  pointwise [k0_pay2]

/-- A product with the triangle of ones, and the carried row. -/
theorem pay4_apply (a : Vec Ideal S256x128 .f32) (b : Vec Ideal S1x128 .f32) (y : Fin 256) (k : Fin 128) :
    k0_pay4 (F := Ideal) a b (ix2 y k) = (∑ x : Fin 256, if y.val ≤ x.val then (a (ix2 x k) : EReal) else 0) + b (ix2 0 k) := by
  pointwise [k0_pay4]
  refine congrArg (fun z : EReal => z + b (ix2 0 k)) (Finset.sum_congr rfl fun x _ => ?_)
  rw [WordCmp.cmpi_sle_ofNat (by omega) (by omega)]
  exact WordCmp.select_decide _ _ _

theorem pay5_apply (a : Vec Ideal S256x128 .f32) (b : Vec Ideal S1x128 .f32) (k : Fin 128) :
    k0_pay5 (F := Ideal) a b (ix2 0 k) = k0_pay4 (F := Ideal) a b (ix2 (0 : Fin 256) k) := by
  pointwise [k0_pay5]

theorem pay6_apply (a : Vec Ideal S256x128 .f32) (b : Vec Ideal S1x128 .f32) (x : Vec Ideal S256x128 .f32) (d : Vec Ideal S1x128 .f32)
    (y : Fin 256) (k : Fin 128) :
    k0_pay6 (F := Ideal) a b x d (ix2 y k) = (k0_pay4 (F := Ideal) a b (ix2 y k) : EReal) * slope (x (ix2 y k) + d (ix2 0 k)) := by
  unfold slope
  pointwise [k0_pay6]
  rfl

theorem pay7_apply (a : Vec Ideal S256x128 .f32) (b : Vec Ideal S1x128 .f32) (x : Vec Ideal S256x128 .f32) (d : Vec Ideal S1x128 .f32)
    (y : Fin 256) (k : Fin 128) : k0_pay7 (F := Ideal) a b x d (ix2 y k) = k0_pay6 (F := Ideal) a b x d (ix2 y k) := by
  pointwise [k0_pay7]

theorem pay1_apply (a : FVec Ideal S256x128 .f32) (b : Vec Ideal S1x128 .f32) (k : Fin 128) :
    k0_pay1 (F := Ideal) a b (ix2 0 k) = (b (ix2 0 k) : EReal) + ∑ y : Fin 256, (a (ix2 y k) : EReal) := by
  pointwise [k0_pay1]

/-- What a point is handed: the sums of all entries that come after its block. -/
def Carried (t : Fin cfg0.N) (v : Vec Ideal S1x128 .f32) : Prop :=
  ∀ k : Fin 128, v (ix2 0 k) = after (column (back m c) k) ((15 - t.val) * 256 + 256)

/-- Then the block's own sums are those of the whole column. -/
theorem sums_eq (t : Fin cfg0.N) (v : Vec Ideal S1x128 .f32) (hv : Carried m c t v) (y : Fin 256) (k : Fin 128) :
    k0_pay4 (F := Ideal) (iblk m c 0 t) v (ix2 y k) = after (column (back m c) k) (row t y).val := by
  have ht : t.val < 16 := t.isLt
  rw [pay4_apply, hv]
  refine (congrArg (fun z : EReal => z + after (column (back m c) k) ((15 - t.val) * 256 + 256)) (Finset.sum_congr rfl fun x _ => ?_)).trans
    (block_after (column (back m c) k) ((15 - t.val) * 256) y.val (by omega) (by omega))
  rw [back_eq]
  exact if_congr Iff.rfl (column_row (back m c) k (row t x)).symm rfl

theorem entry_eq (t : Fin cfg0.N) (v : Vec Ideal S1x128 .f32) (hv : Carried m c t v) (y : Fin 256) (k : Fin 128) :
    k0_pay6 (F := Ideal) (iblk m c 0 t) v (iblk m c 1 t) (iblk m c 2 t) (ix2 y k) = entry m c (row t y) k := by
  rw [pay6_apply, sums_eq m c t v hv, gates_eq, bias_eq]
  rfl

theorem carried_zero (t : Fin cfg0.N) (h : t.val % 16 = 0) : Carried m c t (k0_pay2 (F := Ideal)) := fun k => by
  have ht : t.val < 16 := t.isLt
  rw [pay2_apply, show (15 - t.val) * 256 + 256 = 4096 by omega, after_end]

/-- What a point leaves to the next. -/
theorem carry (n : Nat) : ∀ (h : n < cfg0.N) (k : Fin 128), (outsAt0 m c n h).2.2 (ix2 0 k) = after (column (back m c) k) ((15 - n) * 256) := by
  induction n with
  | zero =>
    intro h k
    rw [outsAt0_A m c ⟨0, h⟩ rfl]
    frame_out
    rw [pay5_apply, sums_eq m c ⟨0, h⟩ _ (carried_zero m c ⟨0, h⟩ rfl)]
    rfl
  | succ n ih =>
    intro h k
    have hn : n + 1 < 16 := h
    have hv : Carried m c ⟨n + 1, h⟩ (outsAt0 m c n (Nat.lt_of_succ_lt h)).2.2 := fun k => by
      rw [ih]
      exact congrArg _ (show (15 - n) * 256 = (15 - (n + 1)) * 256 + 256 by omega)
    rw [outsAt0_B m c ⟨n + 1, h⟩ (show ¬(n + 1) % 16 = 0 by omega)]
    frame_out
    simp only [read_unread_whole]
    rw [pay5_apply]
    exact sums_eq m c ⟨n + 1, h⟩ _ hv 0 k

theorem carried (t : Fin cfg0.N) (h : ¬t.val % 16 = 0) :
    Carried m c t (outsAt0 m c (t.val - 1) (Nat.lt_of_le_of_lt (Nat.sub_le _ _) t.isLt)).2.2 := fun k => by
  have ht : t.val < 16 := t.isLt
  rw [carry]
  exact congrArg _ (show (15 - (t.val - 1)) * 256 = (15 - t.val) * 256 + 256 by omega)

theorem block3 (t : Fin cfg0.N) (y : Fin 256) (k : Fin 128) : (outsAt0 m c t.val t.isLt).1 (ix2 y k) = entry m c (row t y) k := by
  by_cases h : t.val % 16 = 0
  · rw [outsAt0_A m c t h]
    frame_out
    rw [pay7_apply]
    exact entry_eq m c t _ (carried_zero m c t h) y k
  · rw [outsAt0_B m c t h]
    frame_out
    simp only [read_unread_whole]
    rw [pay7_apply]
    exact entry_eq m c t _ (carried m c t h) y k

/-- The gradient at the bias, after the last point: the sum of all points' rows. -/
theorem block4 (t : Fin cfg0.N) (ht : t.val % 16 = 15) (k : Fin 128) : (outsAt0 m c t.val t.isLt).2.1 (ix2 0 k)
    = 0 + ∑ s : Fin 16, ∑ y : Fin 256, entry m c (row ⟨16 * (t.val / 16) + s.val, by have : t.val < 16 := t.isLt; exact (show _ < 16 by omega)⟩ y) k :=
  Pipeline.eq_sum_fin_of_reset_step_apply_of_flush (M := EReal) (fun n h => fun k : Fin 128 => (outsAt0 m c n h).2.1 (ix2 0 k)) 16 (fun _ => 0)
    (fun t k => ∑ y : Fin 256, entry m c (row t y) k)
    (fun t h j => by
      rw [outsAt0_A m c t h]
      frame_out
      rw [pay1_apply]
      simp only [entry_eq m c t _ (carried_zero m c t h)]
      pointwise [k0_pay3])
    (fun t h j => by
      rw [outsAt0_B m c t h]
      frame_out
      simp only [read_unread_whole]
      rw [pay1_apply]
      simp only [entry_eq m c t _ (carried m c t h)])
    t ht k

/-- That is the sum over all rows: the points go through the blocks from the last to the first. -/
theorem block4_eq (t : Fin cfg0.N) (ht : t.val % 16 = 15) (k : Fin 128) :
    (outsAt0 m c t.val t.isLt).2.1 (ix2 0 k) = ∑ r : Fin 4096, entry m c r k := by
  refine (block4 m c t ht k).trans ?_
  rw [zero_add, ← Equiv.sum_comp Fin.revPerm]
  have h16 : t.val < 16 := t.isLt
  refine Fin.sum_mul_add_congr (S := 16) (n := 256) fun s y h => congrArg (fun r => entry m c r k) (Fin.ext ?_)
  show (15 - (16 * (t.val / 16) + (Fin.revPerm s).val)) * 256 + y.val = _
  rw [Fin.revPerm_apply, Fin.val_rev]
  simp
  omega

theorem place (t : Fin cfg0.N) (y : Fin 256) (k : Fin 128) (R : Fin 4096) (K : Fin 128) (hR : R.val = (15 - t.val) * 256 + y.val)
    (hK : K.val = k.val) : entry m c (row t y) k = entry m c R K := by
  rw [show R = row t y from Fin.ext hR, show K = k from Fin.ext hK]

theorem place_bias (k K : Fin 128) (hK : K.val = k.val) : (∑ r : Fin 4096, entry m c r k) = ∑ r : Fin 4096, entry m c r K := by
  rw [show K = k from Fin.ext hK]

theorem array3 : (dats m 0 c).arrAt 3 cfg0.N = grad m c := by
  refine (dats m 0 c).arrAt_eq_of_covers 3 _ (by decide +kernel) fun t hf y => ?_
  obtain ⟨-, -, -, e, -⟩ := index_facts t
  blk_simp
  rw [after0_3]
  obtain ⟨y0, y1, rfl⟩ : ∃ a b, y = ix2 a b := ⟨y 0, y 1, eq_ix2 y⟩
  exact (block3 m c t y0 y1).trans (place m c t y0 y1 _ _ (by blk_simp [e]) (by blk_simp [e]))

theorem array4 : (dats m 0 c).arrAt 4 cfg0.N = biasGrad m c := by
  refine (dats m 0 c).arrAt_eq_of_covers 4 _ (by decide +kernel) fun t hf y => ?_
  obtain ⟨-, -, -, -, e⟩ := index_facts t
  have ht := (flush0_4 t).mp hf
  blk_simp
  rw [after0_4]
  obtain ⟨z, y1, rfl⟩ : ∃ z b, y = ix2 z b := ⟨y 0, y 1, eq_ix2 y⟩
  obtain rfl : z = 0 := Fin.fin_one_eq_zero z
  exact (block4_eq m c t ht y1).trans (place_bias m c y1 _ (by blk_simp [e]))

/-- After the kernel's run the results hold the gradients, and the arguments what they held. -/
theorem kernel_run : θ_run defs (onTc (τ := τ) (main (F := Ideal))) ⟨m, fun _ => 0, ρ⟩ (fun r => ∀ c : Dev nD,
      r.2.mem ((c : Thread nD τ).loc main_v0_0) = grad m c
      ∧ r.2.mem ((c : Thread nD τ).loc main_v0_1) = biasGrad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c).1.trans (array3 m c), (h c).2.1.trans (array4 m c), (h c).2.2⟩) (Value.run_blocks m ρ)

/-- The reference's frame. -/
theorem reference_frame : Cert.quiescent_Reference26Ideal (hReference26Ideal := Cert.Reference26Ideal.Gen.facts) := fun m ρ _ =>
  (θ_run Cert.Reference26Ideal.defs _ _).mono
    (fun r h => ⟨fun c => (h c).2.2, sem_eq_zero_of_no_sems (by decide) r.2⟩) (Cert.Reference26Ideal.Value.run (F := Ideal) m ρ)

theorem infinity : Ideal.ofBits FTy.f32 0x7F800000#32 = ⊤ := by simp [Ideal.ofBits, Ideal.ieee]

/-- Over the extended reals kernel and reference have the same results. -/
theorem algebraic : Cert.algebraic_Kernel26Ideal_Reference26Ideal (hKernel26Ideal := Cert.Kernel26Ideal.Gen.facts)
    (hReference26Ideal := Cert.Reference26Ideal.Gen.facts) := by
  intro m ρ m' ρ' _ hm
  refine ⟨fun c => grad m c, fun c => biasGrad m c, kernel_run m ρ, ?_⟩
  refine (θ_run Cert.Reference26Ideal.defs _ _).mono (fun r h c => ?_) (Cert.Reference26Ideal.Value.run (F := Ideal) m' ρ')
  obtain ⟨a0, a1, a2⟩ := hm c
  obtain ⟨h0, h1, h2⟩ := h c
  rw [a0, a1, a2] at h0 h1
  have key : ∀ (r : Fin 4096) (k : Fin 128) (hr hu),
      -(-Host.reduceWindowAdd (F := Ideal) (φ := .f32) ![4096, 1] ![1, 1] ![0, 0] ![4095, 0] (back m c)
            (broadcastInDim Reference26Ideal.S_ ![] Reference26Ideal.Gen.bcast_S_S_ (constant Reference26Ideal.S_ FTy.f32 0#32)) hr hu (ix2 r k)
          * Ideal.exp ((if -(gates m c (ix2 r k) + bias m c (ix2 0 k)) = (⊤ : EReal) then 0 else -(gates m c (ix2 r k) + bias m c (ix2 0 k)))
            - (if logOnePlus (-(gates m c (ix2 r k) + bias m c (ix2 0 k))) = ⊤ then 0
              else logOnePlus (-(gates m c (ix2 r k) + bias m c (ix2 0 k)))))) = entry m c r k := fun r k hr hu => by
    rw [slope_eq, EReal.neg_mul, neg_neg]
    refine congrArg (fun z : EReal => z * slope (gates m c (ix2 r k) + bias m c (ix2 0 k))) ?_
    exact windowAdd_after _ _ (fun i => by pointwise) _ _ r k
  refine ⟨h0.trans (funext fun i => ?_), h1.trans (funext fun i => ?_), h2⟩
  · obtain ⟨r, k, rfl⟩ : ∃ r k, i = ix2 r k := ⟨i 0, i 1, eq_ix2 i⟩
    unfold grad
    clean_types
    pointwise
    simp only [infinity, ne_eq, not_true_eq_false, if_false]
    exact key r k _ _
  · obtain ⟨z, k, rfl⟩ : ∃ z k, i = ix2 z k := ⟨i 0, i 1, eq_ix2 i⟩
    unfold biasGrad
    clean_types
    pointwise
    simp only [infinity, ne_eq, not_true_eq_false, if_false]
    exact Finset.sum_congr rfl fun r _ => key r k _ _

end Cert.CumBwd

end
-- ==== Proof.ConvFwd.lean ====
/- The convolution of three taps over both halves of the input, and the first half's sigmoid gate on the second. Kernel and
   reference. -/
module

public import proofs.«01_k».proof.Defs
public import proofs.«01_k».proof.Proof.Gen.Kernel27Ideal.Value
public import proofs.«01_k».proof.Proof.Gen.Reference27Ideal.Run
public import proofs.«01_k».proof.Proof.ConvSpec
public import Idealize.ShloMosaic.Lib.Pipeline.ValueKit
public import Idealize.ShloMosaic.Lib.Pointwise
public import Idealize.ShloMosaic.Lib.Quiescent
public import Idealize.ShloMosaic.Lib.Pipeline.ReadBack
public import Idealize.ShloMosaic.Lib.Tactic.CleanTypes

@[expose] public section

set_option maxRecDepth 16384

noncomputable section

namespace Cert.ConvFwd

open Idealize.ShloMosaic Idealize.ShloMosaic.TcCoe Idealize.SL.Sem
open Idealize.ShloMosaic.Tactic
open Cert.ConvGrad (padRow conv sigm halfCol)
open Cert.Kernel27Ideal Cert.Kernel27Ideal.Gen

variable (m : (ℓ : Loc nD τ sig) → Buf (Elt Ideal) ℓ) (ρ : Dev nD → PrngReg) (c : Dev nD)

/-- The arguments, as launched: the two halves, the taps and the bias. -/
abbrev rows : FVec Ideal S4096x5632 .f32 := m ((c : Thread nD τ).loc main_arg0)
abbrev taps : FVec Ideal S3x5632 .f32 := m ((c : Thread nD τ).loc main_arg1)
abbrev bias : FVec Ideal S1x5632 .f32 := m ((c : Thread nD τ).loc main_arg2)

/-- Half `p` of the convolution at row `r`, and the gated half. -/
def half (p : Fin 2) (r : ℕ) (X : Fin 2816) : EReal := conv (rows m c) (taps m c) (bias m c) r (halfCol p X)
def entry (r : ℕ) (X : Fin 2816) : EReal := half m c 0 r X * sigm (half m c 0 r X) * half m c 1 r X
def gated : FVec Ideal S4096x2816 .bf16 := fun i => entry m c (i 0).val (i 1)

/-- Where the blocks lie: the rows go down the array within each block of columns. -/
theorem index_facts : ∀ t : Fin grid0.N, win0_0.index t = ![t.val % 16, t.val / 16] ∧ win0_1.index t = ![t.val % 16, t.val / 16 + 2]
    ∧ win0_2.index t = ![0, t.val / 16] ∧ win0_3.index t = ![0, t.val / 16 + 2] ∧ win0_4.index t = ![0, t.val / 16]
    ∧ win0_5.index t = ![0, t.val / 16 + 2] ∧ win0_6.index t = ![t.val % 16, t.val / 16] := by
  decide +kernel

/-- The row of the arrays that row `y` of point `t`'s blocks is, and the column of a half that column `x` is. -/
def base (t : Fin cfg0.N) : ℕ := 256 * (t.val % 16)

theorem base_lt (t : Fin cfg0.N) (y : Fin 256) : base t + y.val < 4096 := by
  unfold base
  omega

def col (t : Fin cfg0.N) (x : Fin 1408) : Fin 2816 := ⟨1408 * (t.val / 16) + x.val, by have : t.val < 32 := t.isLt; omega⟩

theorem rows0 (t : Fin cfg0.N) (y : Fin 256) (x : Fin 1408) :
    iblk m c 0 t (ix2 y x) = rows m c (ix2 ⟨base t + y.val, base_lt t y⟩ (halfCol 0 (col t x))) := by
  obtain ⟨e, -⟩ := index_facts t
  blk_ext [iblk, V, e, base, halfCol, col]

theorem rows1 (t : Fin cfg0.N) (y : Fin 256) (x : Fin 1408) :
    iblk m c 1 t (ix2 y x) = rows m c (ix2 ⟨base t + y.val, base_lt t y⟩ (halfCol 1 (col t x))) := by
  obtain ⟨-, e, -⟩ := index_facts t
  blk_ext [iblk, V, e, base, halfCol, col]

theorem taps0 (t : Fin cfg0.N) (k : Fin 3) (x : Fin 1408) : iblk m c 2 t (ix2 k x) = taps m c (ix2 k (halfCol 0 (col t x))) := by
  obtain ⟨-, -, e, -⟩ := index_facts t
  blk_ext [iblk, V, e, halfCol, col]

theorem taps1 (t : Fin cfg0.N) (k : Fin 3) (x : Fin 1408) : iblk m c 3 t (ix2 k x) = taps m c (ix2 k (halfCol 1 (col t x))) := by
  obtain ⟨-, -, -, e, -⟩ := index_facts t
  blk_ext [iblk, V, e, halfCol, col]

theorem bias0 (t : Fin cfg0.N) (x : Fin 1408) : iblk m c 4 t (ix2 0 x) = bias m c (ix2 0 (halfCol 0 (col t x))) := by
  obtain ⟨-, -, -, -, e, -⟩ := index_facts t
  blk_ext [iblk, V, e, halfCol, col]

theorem bias1 (t : Fin cfg0.N) (x : Fin 1408) : iblk m c 5 t (ix2 0 x) = bias m c (ix2 0 (halfCol 1 (col t x))) := by
  obtain ⟨-, -, -, -, -, e, -⟩ := index_facts t
  blk_ext [iblk, V, e, halfCol, col]

/-- A row of an array, read as a row of the array under two zero rows. -/
theorem padRow_eq (U : FVec Ideal S4096x5632 .f32) (n : ℕ) (hn : n < 4096) (q : Fin 5632) : padRow U (n + 2) q = U (ix2 ⟨n, hn⟩ q) := by
  unfold padRow
  rw [dif_pos ⟨by omega, by omega⟩]
  exact congrArg (fun k => U (ix2 k q)) (Fin.ext (by show n + 2 - 2 = n; omega))

/-- Rows of the array under two zero rows, each by where it comes from. -/
theorem padRow_tap0 (U : FVec Ideal S4096x5632 .f32) (r : Fin 4096) (q : Fin 5632) :
    padRow U r.val q = if h : r.val < 2 then 0 else U (ix2 ⟨r.val - 2, by omega⟩ q) := by
  unfold padRow
  by_cases h : r.val < 2
  · rw [dif_pos h, dif_neg (by omega)]
  · rw [dif_neg h, dif_pos (by omega)]

theorem padRow_tap1 (U : FVec Ideal S4096x5632 .f32) (r : Fin 4096) (q : Fin 5632) :
    padRow U (r.val + 1) q = if h : 1 + r.val < 2 then 0 else U (ix2 ⟨1 + r.val - 2, by omega⟩ q) := by
  unfold padRow
  by_cases h : 1 + r.val < 2
  · rw [dif_pos h, dif_neg (by omega)]
  · rw [dif_neg h, dif_pos (by omega)]
    exact congrArg (fun k => U (ix2 k q)) (Fin.ext (by show r.val + 1 - 2 = 1 + r.val - 2; omega))

theorem col_first (X : Fin 2816) : halfCol 0 X = ⟨X.val, by omega⟩ := Fin.ext (by show 2816 * 0 + X.val = _; simp)
theorem col_second (X : Fin 2816) : halfCol 1 X = ⟨2816 + X.val, by omega⟩ := rfl

/-- The eight rows before point `t`'s blocks, of which the first block's are zero. -/
def Carried (t : Fin cfg0.N) (p : Fin 2) (h : FVec Ideal S8x1408 .f32) : Prop :=
  ∀ (z : Fin 8) (x : Fin 1408), 6 ≤ z.val → h (ix2 z x) = padRow (rows m c) (base t + z.val - 6) (halfCol p (col t x))

/-- Eight carried rows over a block, moved down by `s`. -/
theorem shifted (s : ℕ) (hs : s = 1 ∨ s = 2) (t : Fin cfg0.N) (p : Fin 2) (y : Fin 256) (x : Fin 1408) (H : FVec Ideal S8x1408 .f32)
    (X : FVec Ideal S256x1408 .f32) (hH : Carried m c t p H)
    (hX : ∀ z : Fin 256, X (ix2 z x) = rows m c (ix2 ⟨base t + z.val, base_lt t z⟩ (halfCol p (col t x))))
    (hb : ¬(8 + y.val + 264 - s) % 264 < 8 → (8 + y.val + 264 - s) % 264 - 8 < 256) :
    (if h : (8 + y.val + 264 - s) % 264 < 8 then H (ix2 ⟨(8 + y.val + 264 - s) % 264, h⟩ x) else X (ix2 ⟨(8 + y.val + 264 - s) % 264 - 8, hb h⟩ x))
      = padRow (rows m c) (base t + y.val + 2 - s) (halfCol p (col t x)) := by
  split
  · next h =>
    rw [hH _ _ (by show 6 ≤ (8 + y.val + 264 - s) % 264; omega)]
    exact congrArg (fun k => padRow (rows m c) k _) (by show base t + (8 + y.val + 264 - s) % 264 - 6 = _; omega)
  · next h =>
    refine (hX _).trans ((padRow_eq (rows m c) _ (base_lt t _) _).symm.trans ?_)
    exact congrArg (fun k => padRow (rows m c) k _) (by show base t + ((8 + y.val + 264 - s) % 264 - 8) + 2 = _; omega)

/-- The first half's convolution on a block. -/
theorem gate_eq (t : Fin cfg0.N) (h : FVec Ideal S8x1408 .f32) (hc : Carried m c t 0 h) (y : Fin 256) (x : Fin 1408) :
    k0_pay6 (F := Ideal) (iblk m c 0 t) h (iblk m c 2 t) (iblk m c 4 t) (ix2 y x) = half m c 0 (base t + y.val) (col t x) := by
  have e1 := shifted m c 1 (Or.inl rfl) t 0 y x h (iblk m c 0 t) hc (fun z => rows0 m c t z x) (fun _ => by omega)
  have e2 := shifted m c 2 (Or.inr rfl) t 0 y x h (iblk m c 0 t) hc (fun z => rows0 m c t z x) (fun _ => by omega)
  have e0 := (rows0 m c t y x).trans (padRow_eq (rows m c) _ (base_lt t y) _).symm
  have ew := fun k => taps0 m c t k x
  have eb := bias0 m c t x
  generalize iblk m c 0 t = X at e0 e1 e2
  generalize iblk m c 2 t = W at ew
  generalize iblk m c 4 t = B at eb
  unfold half conv
  rw [← eb, ← ew, ← ew, ← ew, ← e0, show base t + y.val + 1 = base t + y.val + 2 - 1 from rfl, ← e1]
  rw [show base t + y.val = base t + y.val + 2 - 2 from rfl, ← e2]
  pointwise [k0_pay6]

/-- The gated second half on a block. -/
theorem gated_eq (t : Fin cfg0.N) (h h' : FVec Ideal S8x1408 .f32) (hc : Carried m c t 0 h) (hc' : Carried m c t 1 h') (y : Fin 256) (x : Fin 1408) :
    k0_pay1 (F := Ideal) (iblk m c 1 t) (k0_pay6 (iblk m c 0 t) h (iblk m c 2 t) (iblk m c 4 t)) (iblk m c 3 t) (iblk m c 5 t)
      (k0_pay8 (iblk m c 1 t) h') (k0_pay9 (iblk m c 1 t) h') (k0_pay10 (iblk m c 3 t)) (ix2 y x) = entry m c (base t + y.val) (col t x) := by
  unfold entry
  rw [← gate_eq m c t h hc y x]
  generalize k0_pay6 (F := Ideal) (iblk m c 0 t) h (iblk m c 2 t) (iblk m c 4 t) = g
  have e1 := shifted m c 1 (Or.inl rfl) t 1 y x h' (iblk m c 1 t) hc' (fun z => rows1 m c t z x) (fun _ => by omega)
  have e2 := shifted m c 2 (Or.inr rfl) t 1 y x h' (iblk m c 1 t) hc' (fun z => rows1 m c t z x) (fun _ => by omega)
  have e0 := (rows1 m c t y x).trans (padRow_eq (rows m c) _ (base_lt t y) _).symm
  have ew := fun k => taps1 m c t k x
  have eb := bias1 m c t x
  generalize iblk m c 1 t = X at e0 e1 e2
  generalize iblk m c 3 t = W at ew
  generalize iblk m c 5 t = B at eb
  unfold half conv sigm
  rw [← eb, ← ew, ← ew, ← ew, ← e0, show base t + y.val + 1 = base t + y.val + 2 - 1 from rfl, ← e1]
  rw [show base t + y.val = base t + y.val + 2 - 2 from rfl, ← e2]
  pointwise [k0_pay1, k0_pay8, k0_pay9, k0_pay7, k0_pay10]

/-- What a point leaves to the next: its blocks' last eight rows. -/
theorem carry0 (t : Fin cfg0.N) : (outsAt0 m c t.val t.isLt).2.1 = k0_pay2 (F := Ideal) (iblk m c 0 t) := by
  by_cases h : t.val % 16 = 0
  · rw [outsAt0_A m c t h]
    frame_out
  · rw [outsAt0_B m c t h]
    frame_out

theorem carry1 (t : Fin cfg0.N) : (outsAt0 m c t.val t.isLt).2.2 = k0_pay3 (F := Ideal) (iblk m c 1 t) := by
  by_cases h : t.val % 16 = 0
  · rw [outsAt0_A m c t h]
    frame_out
  · rw [outsAt0_B m c t h]
    frame_out

theorem place (R : ℕ) (n : ℕ) (q Q : Fin 5632) (hR : R = n) (hq : q.val = Q.val) : padRow (rows m c) R q = padRow (rows m c) n Q := by
  rw [hR, show q = Q from Fin.ext hq]

/-- They are the rows before the next point's blocks. -/
theorem carried0 (t : Fin cfg0.N) (ht : ¬t.val % 16 = 0) :
    Carried m c t 0 (outsAt0 m c (t.val - 1) (Nat.lt_of_le_of_lt (Nat.sub_le _ _) t.isLt)).2.1 := by
  intro z x hz
  rw [carry0 m c ⟨t.val - 1, Nat.lt_of_le_of_lt (Nat.sub_le _ _) t.isLt⟩]
  pointwise [k0_pay2]
  refine (rows0 m c _ _ _).trans ((padRow_eq (rows m c) _ (base_lt _ _) _).symm.trans (place m c _ _ _ _ ?_ ?_))
  · show base _ + (248 + z.val) + 2 = base t + z.val - 6
    unfold base
    simp only
    omega
  · show _ * (0 : ℕ) + (1408 * ((t.val - 1) / 16) + x.val) = _ * (0 : ℕ) + (1408 * (t.val / 16) + x.val)
    omega

theorem carried1 (t : Fin cfg0.N) (ht : ¬t.val % 16 = 0) :
    Carried m c t 1 (outsAt0 m c (t.val - 1) (Nat.lt_of_le_of_lt (Nat.sub_le _ _) t.isLt)).2.2 := by
  intro z x hz
  rw [carry1 m c ⟨t.val - 1, Nat.lt_of_le_of_lt (Nat.sub_le _ _) t.isLt⟩]
  pointwise [k0_pay3]
  refine (rows1 m c _ _ _).trans ((padRow_eq (rows m c) _ (base_lt _ _) _).symm.trans (place m c _ _ _ _ ?_ ?_))
  · show base _ + (248 + z.val) + 2 = base t + z.val - 6
    unfold base
    simp only
    omega
  · show _ * (1 : ℕ) + (1408 * ((t.val - 1) / 16) + x.val) = _ * (1 : ℕ) + (1408 * (t.val / 16) + x.val)
    omega

/-- Before the first block of rows nothing is carried. -/
theorem carried_zero (t : Fin cfg0.N) (ht : t.val % 16 = 0) (p : Fin 2) (h : FVec Ideal S8x1408 .f32) (hz : ∀ z x, h (ix2 z x) = (0 : EReal)) : Carried m c t p h := by
  intro z x _
  rw [hz]
  unfold padRow base
  rw [dif_neg (by omega)]

theorem block_eq (t : Fin cfg0.N) (y : Fin 256) (x : Fin 1408) : (outsAt0 m c t.val t.isLt).1 (ix2 y x) = entry m c (base t + y.val) (col t x) := by
  by_cases h : t.val % 16 = 0
  · rw [outsAt0_A m c t h]
    frame_out
    exact gated_eq m c t _ _ (carried_zero m c t h 0 _ fun z x => by pointwise [k0_pay4]) (carried_zero m c t h 1 _ fun z x => by pointwise [k0_pay5]) y x
  · rw [outsAt0_B m c t h]
    have h0 := carried0 m c t h
    have h1 := carried1 m c t h
    generalize outsAt0 m c (t.val - 1) (Nat.lt_of_le_of_lt (Nat.sub_le _ _) t.isLt) = o at h0 h1
    frame_out
    simp only [read_unread_whole]
    exact gated_eq m c t _ _ h0 h1 y x

theorem place_entry (t : Fin cfg0.N) (y : Fin 256) (x : Fin 1408) (R : Fin 4096) (X : Fin 2816) (hR : R.val = t.val % 16 * 256 + y.val)
    (hX : X.val = t.val / 16 * 1408 + x.val) : entry m c (base t + y.val) (col t x) = entry m c R.val X := by
  rw [hR, show X = col t x from Fin.ext (by rw [hX]; show _ = 1408 * (t.val / 16) + x.val; omega), show base t = t.val % 16 * 256 from Nat.mul_comm _ _]

theorem array6 : (dats m 0 c).arrAt 6 cfg0.N = gated m c := by
  refine (dats m 0 c).arrAt_eq_of_covers 6 _ (by decide +kernel) fun t hf y => ?_
  obtain ⟨-, -, -, -, -, -, e⟩ := index_facts t
  blk_simp
  rw [after0_6]
  obtain ⟨y0, y1, rfl⟩ : ∃ a b, y = ix2 a b := ⟨y 0, y 1, eq_ix2 y⟩
  exact (block_eq m c t y0 y1).trans (place_entry m c t y0 y1 _ _ (by blk_simp [e]) (by blk_simp [e]))

/-- After the kernel's run the result is the gated half, and the arguments what they held. -/
theorem kernel_run : θ_run defs (onTc (τ := τ) (main (F := Ideal))) ⟨m, fun _ => 0, ρ⟩ (fun r => ∀ c : Dev nD,
      r.2.mem ((c : Thread nD τ).loc main_v0) = gated m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c).1.trans (array6 m c), (h c).2⟩) (Value.run_blocks m ρ)

/-- The reference's frame. -/
theorem reference_frame : Cert.quiescent_Reference27Ideal (hReference27Ideal := Cert.Reference27Ideal.Gen.facts) := fun m ρ _ =>
  (θ_run Cert.Reference27Ideal.defs _ _).mono
    (fun r h => ⟨fun c => (h c).2, sem_eq_zero_of_no_sems (by decide) r.2⟩) (Cert.Reference27Ideal.Value.run (F := Ideal) m ρ)

/-- Over the extended reals kernel and reference have the same result. -/
theorem algebraic : Cert.algebraic_Kernel27Ideal_Reference27Ideal (hKernel27Ideal := Cert.Kernel27Ideal.Gen.facts)
    (hReference27Ideal := Cert.Reference27Ideal.Gen.facts) := by
  intro m ρ m' ρ' _ hm
  refine ⟨fun c => gated m c, kernel_run m ρ, ?_⟩
  refine (θ_run Cert.Reference27Ideal.defs _ _).mono (fun r h c => ?_) (Cert.Reference27Ideal.Value.run (F := Ideal) m' ρ')
  obtain ⟨a0, a1, a2⟩ := hm c
  obtain ⟨h0, h1⟩ := h c
  unfold Cert.Reference27Ideal.Value.res_main_v30 at h0
  rw [a0, a1, a2] at h0
  refine ⟨h0.trans (funext fun i => ?_), h1⟩
  obtain ⟨r, X, rfl⟩ : ∃ r X, i = ix2 r X := ⟨i 0, i 1, eq_ix2 i⟩
  unfold gated entry half conv sigm
  clean_types
  pointwise
  simp only [padRow_tap0, padRow_tap1, padRow_eq _ _ r.isLt, col_first, col_second, zero_sub]

end Cert.ConvFwd

end
-- ==== Proof.FMm.lean ====
/- The product that gives the forget gates' arguments: `f[r, d] = Σ_k h[r, k] · w_f[k, d]`, kernel and reference. -/
module

public import proofs.«01_k».proof.Defs
public import proofs.«01_k».proof.Proof.Gen.Kernel28Ideal.Value
public import proofs.«01_k».proof.Proof.Gen.Reference28Ideal.Run
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.FMm

open Idealize.ShloMosaic Idealize.ShloMosaic.TcCoe Idealize.SL.Sem
open Idealize.ShloMosaic.Tactic
open Cert.Kernel28Ideal Cert.Kernel28Ideal.Gen

variable (m : (ℓ : Loc nD τ sig) → Buf (Elt Ideal) ℓ) (ρ : Dev nD → PrngReg) (c : Dev nD)

/-- The normalised activation and the weight, as launched. -/
abbrev hn : FVec Ideal S4096x1024 .bf16 := m ((c : Thread nD τ).loc main_arg0)
abbrev weight : FVec Ideal S1x1x1024x128 .bf16 := m ((c : Thread nD τ).loc main_arg1)

/-- The product. -/
def product : FVec Ideal S4096x128 .f32 := fun i => ((∑ k : Fin 1024, hn m c (ix2 (i 0) k) * weight m c (ix4 0 0 k (i 1)) : EReal))

/-- Where the blocks lie. -/
theorem index_facts : ∀ t : Fin grid0.N, win0_0.index t = ![t.val, 0] ∧ win0_1.index t = ![0, 0, 0, 0] ∧ win0_2.index t = ![t.val, 0] := by
  decide +kernel

/-- After the run the result array is the product. -/
theorem array2 : (dats m 0 c).arrAt 2 cfg0.N = product m c := by
  refine (dats m 0 c).arrAt_eq_of_covers 2 _ (by decide +kernel) fun t hf y => ?_
  blk_simp
  rw [after0_2]
  frame_out
  unfold product hn weight
  obtain ⟨e0, e1, e2⟩ := index_facts t
  pointwise [k0_pay1]
  refine Fin.sum_fin_congr fun d => ?_
  congr 1
  · blk_ext [iblk, V, e0, e2]
  · blk_ext [iblk, V, e1, e2]

/-- After the kernel's run the result is the product, and the arguments what they were. -/
theorem kernel_run : θ_run defs (onTc (τ := τ) (main (F := Ideal))) ⟨m, fun _ => 0, ρ⟩ (fun r => ∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2⟩) (Value.run_blocks m ρ)

/-- The reference's frame. -/
theorem reference_frame : Cert.quiescent_Reference28Ideal (hReference28Ideal := Cert.Reference28Ideal.Gen.facts) := fun m ρ _ =>
  (θ_run Cert.Reference28Ideal.defs _ _).mono
    (fun r h => ⟨fun c => (h c).2, sem_eq_zero_of_no_sems (by decide) r.2⟩) (Cert.Reference28Ideal.Value.run (F := Ideal) m ρ)

/-- Over the extended reals kernel and reference have the same result. -/
theorem algebraic : Cert.algebraic_Kernel28Ideal_Reference28Ideal (hKernel28Ideal := Cert.Kernel28Ideal.Gen.facts)
    (hReference28Ideal := Cert.Reference28Ideal.Gen.facts) := by
  intro m ρ m' ρ' _ hm
  refine ⟨fun c => product m c, kernel_run m ρ, ?_⟩
  refine (θ_run Cert.Reference28Ideal.defs _ _).mono (fun r h c => ?_) (Cert.Reference28Ideal.Value.run (F := Ideal) m' ρ')
  obtain ⟨a0, a1⟩ := hm c
  obtain ⟨h0, h1⟩ := h c
  rw [a0, a1] at h0
  refine ⟨h0.trans (funext fun i => ?_), h1⟩
  obtain ⟨r, k, rfl⟩ : ∃ r k, i = ix2 r k := ⟨i 0, i 1, eq_ix2 i⟩
  unfold product
  clean_types
  pointwise

end Cert.FMm

end
-- ==== Proof.FDx.lean ====
/- The gradient of the forget gates' product at its input:
   `dh[r, k] = Σ_d dfl[r, d] · w_f[k, d]`, kernel and reference. -/
module

public import proofs.«01_k».proof.Defs
public import proofs.«01_k».proof.Proof.Gen.Kernel29Ideal.Value
public import proofs.«01_k».proof.Proof.Gen.Reference29Ideal.Run
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.FDx

open Idealize.ShloMosaic Idealize.ShloMosaic.TcCoe Idealize.SL.Sem
open Idealize.ShloMosaic.Tactic
open Cert.Kernel29Ideal Cert.Kernel29Ideal.Gen

variable (m : (ℓ : Loc nD τ sig) → Buf (Elt Ideal) ℓ) (ρ : Dev nD → PrngReg) (c : Dev nD)

/-- The incoming gradient and the weight, as launched. -/
abbrev dfl : FVec Ideal S4096x128 .bf16 := m ((c : Thread nD τ).loc main_arg0)
abbrev weight : FVec Ideal S1x1x1024x128 .bf16 := m ((c : Thread nD τ).loc main_arg1)

/-- The input's gradient. -/
def grad : FVec Ideal S4096x1024 .f32 := fun i => ∑ d : Fin 128, dfl m c (ix2 (i 0) d) * weight m c (ix4 0 0 (i 1) d)

/-- Where the blocks lie. -/
theorem index_facts : ∀ t : Fin grid0.N, win0_0.index t = ![t.val, 0] ∧ win0_1.index t = ![0, 0, 0, 0] ∧ win0_2.index t = ![t.val, 0] := by
  decide +kernel

/-- After the run the result array is the gradient. -/
theorem array2 : (dats m 0 c).arrAt 2 cfg0.N = grad m c := by
  refine (dats m 0 c).arrAt_eq_of_covers 2 _ (by decide +kernel) fun t hf y => ?_
  blk_simp
  rw [after0_2]
  frame_out
  unfold grad dfl weight
  obtain ⟨e0, e1, e2⟩ := index_facts t
  pointwise [k0_pay1]
  refine Fin.sum_fin_congr fun d => ?_
  congr 1
  · blk_ext [iblk, V, e0, e2]
  · blk_ext [iblk, V, e1, e2]

/-- After the kernel's run the result is the gradient, and the arguments what they were. -/
theorem kernel_run : θ_run defs (onTc (τ := τ) (main (F := Ideal))) ⟨m, fun _ => 0, ρ⟩ (fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2⟩) (Value.run_blocks m ρ)

/-- The reference's frame. -/
theorem reference_frame : Cert.quiescent_Reference29Ideal (hReference29Ideal := Cert.Reference29Ideal.Gen.facts) := fun m ρ _ =>
  (θ_run Cert.Reference29Ideal.defs _ _).mono
    (fun r h => ⟨fun c => (h c).2, sem_eq_zero_of_no_sems (by decide) r.2⟩) (Cert.Reference29Ideal.Value.run (F := Ideal) m ρ)

/-- Over the extended reals kernel and reference have the same result. -/
theorem algebraic : Cert.algebraic_Kernel29Ideal_Reference29Ideal (hKernel29Ideal := Cert.Kernel29Ideal.Gen.facts)
    (hReference29Ideal := Cert.Reference29Ideal.Gen.facts) := by
  intro m ρ m' ρ' _ hm
  refine ⟨fun c => grad m c, kernel_run m ρ, ?_⟩
  refine (θ_run Cert.Reference29Ideal.defs _ _).mono (fun r h c => ?_) (Cert.Reference29Ideal.Value.run (F := Ideal) m' ρ')
  obtain ⟨a0, a1⟩ := hm c
  obtain ⟨h0, h1⟩ := h c
  rw [a0, a1] at h0
  refine ⟨h0.trans (funext fun i => ?_), h1⟩
  unfold grad
  obtain ⟨r, k, rfl⟩ : ∃ r k, i = ix2 r k := ⟨i 0, i 1, eq_ix2 i⟩
  clean_types
  pointwise

end Cert.FDx

end
-- ==== Proof.FDw.lean ====
/- The gradient of the product of the forget gates' arguments at its weight: `dw[k, d] = Σ_r h[r, k] · dfl[r, d]`, kernel and reference. -/
module

public import proofs.«01_k».proof.Defs
public import proofs.«01_k».proof.Proof.Gen.Kernel30Ideal.Value
public import proofs.«01_k».proof.Proof.Gen.Reference30Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.FDw

open Idealize.ShloMosaic Idealize.ShloMosaic.TcCoe Idealize.SL.Sem
open Cert.Kernel30Ideal Cert.Kernel30Ideal.Gen

variable (m : (ℓ : Loc nD τ sig) → Buf (Elt Ideal) ℓ) (ρ : Dev nD → PrngReg) (c : Dev nD)

/-- The activation and the incoming gradient, as launched. -/
def hn : FVec Ideal S4096x1024 .bf16 := m ((c : Thread nD τ).loc main_arg0)
def dfl : FVec Ideal S4096x128 .bf16 := m ((c : Thread nD τ).loc main_arg1)

/-- The weight's gradient at row `k` and column `d`. -/
def entry (k : Fin 1024) (d : Fin 128) : EReal := ∑ r : Fin 4096, hn m c (ix2 r k) * dfl m c (ix2 r d)

/-- The weight's gradient as an array. -/
def grad : FVec Ideal S1x1024x128 .f32 := fun i => entry m c (i 1) (i 2)

/-- Where the blocks lie. -/
theorem index_facts : ∀ t : Fin grid0.N, win0_0.index t = ![0, t.val] ∧ win0_1.index t = ![0, 0, 0] ∧ win0_2.index t = ![0, t.val, 0] := by
  decide +kernel

/-- A grid point's block. -/
theorem block_apply (t : Fin cfg0.N) (k : Fin 512) (x : Fin 128) (K : Fin 1024) (X : Fin 128) (hK : K.val = t.val * 512 + k.val) (hX : X.val = x.val) :
    k0_pay2 (F := Ideal) (k0_pay1 (F := Ideal)) (iblk m c 0 t) (iblk m c 1 t) (ix3 0 k x) = entry m c K X := by
  unfold entry hn dfl
  obtain ⟨e0, e1, -⟩ := index_facts t
  pointwise [k0_pay1, k0_pay2]
  refine Fin.sum_fin_congr fun r => ?_
  congr 1
  · blk_ext [iblk, V, e0]
  · blk_simp [iblk]
    entry_read
    pointwise
    blk_ext [e1]

theorem array2 : (dats m 0 c).arrAt 2 cfg0.N = grad m c := by
  refine (dats m 0 c).arrAt_eq_of_covers 2 _ (by decide +kernel) fun t hf y => ?_
  obtain ⟨-, -, e2⟩ := index_facts t
  blk_simp
  rw [after0_2]
  obtain ⟨z, k, x, rfl⟩ : ∃ z k x, y = ix3 z k x := ⟨y 0, y 1, y 2, eq_ix3 y⟩
  obtain rfl : z = 0 := Fin.fin_one_eq_zero z
  unfold outsAt0
  frame_out
  exact block_apply m c t k x _ _ (by blk_simp [e2]) (by blk_simp [e2])

/-- After the kernel's run the result is the gradient, and the arguments what they held. -/
theorem kernel_run : θ_run defs (onTc (τ := τ) (main (F := Ideal))) ⟨m, fun _ => 0, ρ⟩ (fun r => ∀ c : Dev nD,
      r.2.mem ((c : Thread nD τ).loc main_v1) = grad m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2⟩) (Value.run_blocks m ρ)

/-- The reference's product, before the leading unit axis is put on. -/
abbrev product : FVec Ideal Cert.Reference30Ideal.S1x1024x128 .f32 :=
  broadcastInDim Cert.Reference30Ideal.S1x1024x128 ![1, 2] Cert.Reference30Ideal.Facts₀.bcast_S1024x128_S1x1024x128_1_2
    (transpose Cert.Reference30Ideal.S1024x128 [1, 0]
      (Host.dotGeneral Cert.Reference30Ideal.dot_S4096x128_S4096x1024_S128x1024_0_0_1_1_n_n none
        (extf .f32 (dfl m c) Cert.Reference30Ideal.Facts₀.bitsLt_bf16_f32) (extf .f32 (hn m c) Cert.Reference30Ideal.Facts₀.bitsLt_bf16_f32))
      Cert.Reference30Ideal.Facts₀.transposes_S128x1024_S1024x128_1_0)

theorem product_apply (i : Cert.Reference30Ideal.S1x1024x128.Idx) : product m c i = entry m c (i 1) (i 2) := by
  unfold entry
  obtain ⟨z, k, d, rfl⟩ : ∃ z k d, i = ix3 z k d := ⟨i 0, i 1, i 2, eq_ix3 i⟩
  pointwise [product]
  exact Finset.sum_congr rfl fun r _ => mul_comm _ _

/-- The reference's frame. -/
theorem reference_frame : Cert.quiescent_Reference30Ideal (hReference30Ideal := Cert.Reference30Ideal.Gen.facts) := fun m ρ _ =>
  (θ_run Cert.Reference30Ideal.defs _ _).mono
    (fun r h => ⟨fun c => (h c).2, sem_eq_zero_of_no_sems (by decide) r.2⟩) (Cert.Reference30Ideal.Value.run (F := Ideal) m ρ)

/-- Over the extended reals kernel and reference have the same result. -/
theorem algebraic : Cert.algebraic_Kernel30Ideal_Reference30Ideal (hKernel30Ideal := Cert.Kernel30Ideal.Gen.facts)
    (hReference30Ideal := Cert.Reference30Ideal.Gen.facts) := by
  intro m ρ m' ρ' _ hm
  refine ⟨fun c => grad m c, kernel_run m ρ, ?_⟩
  refine (θ_run Cert.Reference30Ideal.defs _ _).mono (fun r h c => ?_) (Cert.Reference30Ideal.Value.run (F := Ideal) m' ρ')
  obtain ⟨a0, a1⟩ := hm c
  obtain ⟨h0, h1⟩ := h c
  rw [a0, a1] at h0
  exact ⟨h0.trans (funext fun i => product_apply m c i), h1⟩

end Cert.FDw

end
-- ==== Proof.FirstNorm.lean ====
/- The first normalisation. Kernel and reference. -/
module

public import proofs.«01_k».proof.Defs
public import proofs.«01_k».proof.Proof.Gen.Kernel31Ideal.Value
public import proofs.«01_k».proof.Proof.Gen.Reference31Ideal.Run
public import proofs.«01_k».proof.Proof.InDxSpec
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.FirstNorm

open Idealize.ShloMosaic Idealize.ShloMosaic.TcCoe Idealize.SL.Sem
open Idealize.ShloMosaic.Tactic
open Cert.InDx (scale meanSquare)
open Cert.Kernel31Ideal Cert.Kernel31Ideal.Gen

variable (m : (ℓ : Loc nD τ sig) → Buf (Elt Ideal) ℓ) (ρ : Dev nD → PrngReg) (c : Dev nD)

/-- The arguments, as launched: the rows and the gain. -/
abbrev rows : FVec Ideal S4096x1024 .f32 := m ((c : Thread nD τ).loc main_arg0)
abbrev gain : FVec Ideal S1x1024 .f32 := m ((c : Thread nD τ).loc main_arg1)

/-- The normalised rows. -/
def entry (r : Fin 4096) (k : Fin 1024) : EReal := rows m c (ix2 r k) * scale (fun x => rows m c (ix2 r x)) * gain m c (ix2 0 k)
def whole : FVec Ideal S4096x1024 .f32 := fun i => entry m c (i 0) (i 1)

/-- Where the blocks lie. -/
theorem index_facts : ∀ t : Fin grid0.N, win0_0.index t = ![t.val, 0] ∧ win0_1.index t = ![0, 0] ∧ win0_2.index t = ![t.val, 0] := by
  decide +kernel

/-- The row of the arrays that row `y` of point `t`'s blocks is. -/
def row (t : Fin cfg0.N) (y : Fin 512) : Fin 4096 := ⟨t.val * 512 + y.val, by have : t.val < 8 := t.isLt; omega⟩

theorem rows_eq (t : Fin cfg0.N) (y : Fin 512) (k : Fin 1024) : iblk m c 0 t (ix2 y k) = rows m c (ix2 (row t y) k) := by
  obtain ⟨e, -⟩ := index_facts t
  unfold row
  blk_ext [iblk, V, e]

theorem gain_eq (t : Fin cfg0.N) (k : Fin 1024) : iblk m c 1 t (ix2 0 k) = gain m c (ix2 0 k) := by
  obtain ⟨-, e, -⟩ := index_facts t
  blk_ext [iblk, V, e]

theorem block_apply (t : Fin cfg0.N) (y : Fin 512) (k : Fin 1024) :
    k0_pay1 (F := Ideal) (iblk m c 0 t) (iblk m c 1 t) (ix2 y k) = entry m c (row t y) k := by
  have er := rows_eq m c t
  have eg := gain_eq m c t
  generalize iblk m c 0 t = x at er
  generalize iblk m c 1 t = g at eg
  unfold entry scale meanSquare
  simp only [← er, ← eg]
  pointwise [k0_pay1]

theorem place (t : Fin cfg0.N) (y : Fin 512) (x : Fin 1024) (R : Fin 4096) (X : Fin 1024) (hR : R.val = t.val * 512 + y.val) (hX : X.val = x.val) :
    entry m c (row t y) x = entry m c R X := by
  rw [show R = row t y from Fin.ext hR, show X = x from Fin.ext hX]

theorem array2 : (dats m 0 c).arrAt 2 cfg0.N = whole m c := by
  refine (dats m 0 c).arrAt_eq_of_covers 2 _ (by decide +kernel) fun t hf y => ?_
  obtain ⟨-, -, e⟩ := index_facts t
  blk_simp
  rw [after0_2]
  obtain ⟨y0, y1, rfl⟩ : ∃ a b, y = ix2 a b := ⟨y 0, y 1, eq_ix2 y⟩
  frame_out
  exact (block_apply m c t y0 y1).trans (place m c t y0 y1 _ _ (by blk_simp [e]) (by blk_simp [e]))

/-- After the kernel's run the result is that array, and the arguments are what they held. -/
theorem kernel_run : θ_run defs (onTc (τ := τ) (main (F := Ideal))) ⟨m, fun _ => 0, ρ⟩ (fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (array2 m c), (h c).2⟩) (Value.run_blocks m ρ)

/-- The reference's frame. -/
theorem reference_frame : Cert.quiescent_Reference31Ideal (hReference31Ideal := Cert.Reference31Ideal.Gen.facts) := fun m ρ _ =>
  (θ_run Cert.Reference31Ideal.defs _ _).mono
    (fun r h => ⟨fun c => (h c).2, sem_eq_zero_of_no_sems (by decide) r.2⟩) (Cert.Reference31Ideal.Value.run (F := Ideal) m ρ)

/-- Over the extended reals kernel and reference have the same result. -/
theorem algebraic : Cert.algebraic_Kernel31Ideal_Reference31Ideal (hKernel31Ideal := Cert.Kernel31Ideal.Gen.facts)
    (hReference31Ideal := Cert.Reference31Ideal.Gen.facts) := by
  intro m ρ m' ρ' _ hm
  refine ⟨fun c => whole m c, kernel_run m ρ, ?_⟩
  refine (θ_run Cert.Reference31Ideal.defs _ _).mono (fun r h c => ?_) (Cert.Reference31Ideal.Value.run (F := Ideal) m' ρ')
  obtain ⟨a0, a1⟩ := hm c
  obtain ⟨h0, h1⟩ := h c
  rw [a0, a1] at h0
  refine ⟨h0.trans (funext fun i => ?_), h1⟩
  obtain ⟨r, k, rfl⟩ : ∃ r k, i = ix2 r k := ⟨i 0, i 1, eq_ix2 i⟩
  unfold whole entry scale meanSquare
  clean_types
  pointwise

end Cert.FirstNorm

end
-- ==== Proof.KvSum.lean ====
/- The gradients of the keys and the values, each the sum of what the two attention layers return. Kernel and reference. -/
module

public import proofs.«01_k».proof.Defs
public import proofs.«01_k».proof.Proof.Gen.Kernel32Ideal.Value
public import proofs.«01_k».proof.Proof.Gen.Reference32Ideal.Run
public import Idealize.ShloMosaic.Lib.Pipeline.ValueKit
public import Idealize.ShloMosaic.Lib.Pointwise
public import Idealize.ShloMosaic.Lib.Quiescent
public import Idealize.ShloMosaic.Lib.Tactic.CleanTypes

@[expose] public section

set_option maxRecDepth 16384

noncomputable section

namespace Cert.KvSum

open Idealize.ShloMosaic Idealize.ShloMosaic.TcCoe Idealize.SL.Sem
open Idealize.ShloMosaic.Tactic
open Cert.Kernel32Ideal Cert.Kernel32Ideal.Gen

variable (m : (ℓ : Loc nD τ sig) → Buf (Elt Ideal) ℓ) (ρ : Dev nD → PrngReg) (c : Dev nD)

/-- The arguments, as launched: the two gradients of the keys, and the two of the values. -/
abbrev keys1 : FVec Ideal S4096x1024 .f32 := m ((c : Thread nD τ).loc main_arg0)
abbrev keys0 : FVec Ideal S4096x1024 .f32 := m ((c : Thread nD τ).loc main_arg1)
abbrev values1 : FVec Ideal S4096x1024 .f32 := m ((c : Thread nD τ).loc main_arg2)
abbrev values0 : FVec Ideal S4096x1024 .f32 := m ((c : Thread nD τ).loc main_arg3)

/-- The two sums side by side. -/
def entry (r : Fin 4096) (x : Fin 2048) : EReal :=
  if h : x.val < 1024 then (keys1 m c (ix2 r ⟨x.val, h⟩) : EReal) + keys0 m c (ix2 r ⟨x.val, h⟩)
  else (values1 m c (ix2 r ⟨x.val - 1024, by omega⟩) : EReal) + values0 m c (ix2 r ⟨x.val - 1024, by omega⟩)
def whole : FVec Ideal S4096x2048 .bf16 := fun i => entry m c (i 0) (i 1)

/-- Where the blocks lie. -/
theorem index_facts : ∀ t : Fin grid0.N, win0_0.index t = ![t.val, 0] ∧ win0_1.index t = ![t.val, 0] ∧ win0_2.index t = ![t.val, 0]
    ∧ win0_3.index t = ![t.val, 0] ∧ win0_4.index t = ![t.val, 0] := by
  decide +kernel

/-- The row of the arrays that row `y` of point `t`'s blocks is. -/
def row (t : Fin cfg0.N) (y : Fin 512) : Fin 4096 := ⟨t.val * 512 + y.val, by have : t.val < 8 := t.isLt; omega⟩

theorem keys1_eq (t : Fin cfg0.N) (y : Fin 512) (k : Fin 1024) : iblk m c 0 t (ix2 y k) = keys1 m c (ix2 (row t y) k) := by
  obtain ⟨e, -⟩ := index_facts t
  unfold row
  blk_ext [iblk, V, e]

theorem keys0_eq (t : Fin cfg0.N) (y : Fin 512) (k : Fin 1024) : iblk m c 1 t (ix2 y k) = keys0 m c (ix2 (row t y) k) := by
  obtain ⟨-, e, -⟩ := index_facts t
  unfold row
  blk_ext [iblk, V, e]

theorem values1_eq (t : Fin cfg0.N) (y : Fin 512) (k : Fin 1024) : iblk m c 2 t (ix2 y k) = values1 m c (ix2 (row t y) k) := by
  obtain ⟨-, -, e, -⟩ := index_facts t
  unfold row
  blk_ext [iblk, V, e]

theorem values0_eq (t : Fin cfg0.N) (y : Fin 512) (k : Fin 1024) : iblk m c 3 t (ix2 y k) = values0 m c (ix2 (row t y) k) := by
  obtain ⟨-, -, -, e, -⟩ := index_facts t
  unfold row
  blk_ext [iblk, V, e]

theorem block_apply (t : Fin cfg0.N) (y : Fin 512) (x : Fin 2048) :
    k0_pay1 (F := Ideal) (iblk m c 0 t) (iblk m c 1 t) (iblk m c 2 t) (iblk m c 3 t) (ix2 y x) = entry m c (row t y) x := by
  unfold entry
  simp only [← keys1_eq m c t, ← keys0_eq m c t, ← values1_eq m c t, ← values0_eq m c t]
  pointwise [k0_pay1]

theorem place (t : Fin cfg0.N) (y : Fin 512) (x : Fin 2048) (R : Fin 4096) (X : Fin 2048) (hR : R.val = t.val * 512 + y.val) (hX : X.val = x.val) :
    entry m c (row t y) x = entry m c R X := by
  rw [show R = row t y from Fin.ext hR, show X = x from Fin.ext hX]

theorem array4 : (dats m 0 c).arrAt 4 cfg0.N = whole m c := by
  refine (dats m 0 c).arrAt_eq_of_covers 4 _ (by decide +kernel) fun t hf y => ?_
  obtain ⟨-, -, -, -, e⟩ := index_facts t
  blk_simp
  rw [after0_4]
  obtain ⟨y0, y1, rfl⟩ : ∃ a b, y = ix2 a b := ⟨y 0, y 1, eq_ix2 y⟩
  frame_out
  exact (block_apply m c t y0 y1).trans (place m c t y0 y1 _ _ (by blk_simp [e]) (by blk_simp [e]))

/-- After the kernel's run the result is that array, and the arguments are what they held. -/
theorem kernel_run : θ_run defs (onTc (τ := τ) (main (F := Ideal))) ⟨m, fun _ => 0, ρ⟩ (fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (array4 m c), (h c).2⟩) (Value.run_blocks m ρ)

/-- The reference's frame. -/
theorem reference_frame : Cert.quiescent_Reference32Ideal (hReference32Ideal := Cert.Reference32Ideal.Gen.facts) := fun m ρ _ =>
  (θ_run Cert.Reference32Ideal.defs _ _).mono
    (fun r h => ⟨fun c => (h c).2, sem_eq_zero_of_no_sems (by decide) r.2⟩) (Cert.Reference32Ideal.Value.run (F := Ideal) m ρ)

/-- Over the extended reals kernel and reference have the same result. -/
theorem algebraic : Cert.algebraic_Kernel32Ideal_Reference32Ideal (hKernel32Ideal := Cert.Kernel32Ideal.Gen.facts)
    (hReference32Ideal := Cert.Reference32Ideal.Gen.facts) := by
  intro m ρ m' ρ' _ hm
  refine ⟨fun c => whole m c, kernel_run m ρ, ?_⟩
  refine (θ_run Cert.Reference32Ideal.defs _ _).mono (fun r h c => ?_) (Cert.Reference32Ideal.Value.run (F := Ideal) m' ρ')
  obtain ⟨a0, a1, a2, a3⟩ := hm c
  obtain ⟨h0, h1⟩ := h c
  rw [a0, a1, a2, a3] at h0
  refine ⟨h0.trans (funext fun i => ?_), h1⟩
  obtain ⟨r, x, rfl⟩ : ∃ r x, i = ix2 r x := ⟨i 0, i 1, eq_ix2 i⟩
  unfold whole entry
  clean_types
  pointwise
  by_cases hx : x.val < 1024
  · rw [dif_pos hx, dif_pos hx]
    exact add_comm _ _
  · rw [dif_neg hx, dif_neg hx]
    exact add_comm _ _

end Cert.KvSum

end
-- ==== Proof.AdamFfnIn.lean ====
/- The optimiser's step for w_ffn_in: the weight's change and the two new moments. Kernel and reference. -/
module

public import proofs.«01_k».proof.Defs
public import proofs.«01_k».proof.Proof.Gen.Kernel33Ideal.Value
public import proofs.«01_k».proof.Proof.Gen.Reference33Ideal.Run
public import Idealize.ShloMosaic.Lib.Pipeline.ValueKit
public import Idealize.ShloMosaic.Lib.Quiescent

@[expose] public section

namespace Cert.AdamFfnIn

open Idealize.ShloMosaic Idealize.ShloMosaic.TcCoe Idealize.SL.Sem
open Idealize.ShloMosaic.Tactic
open Cert.Kernel33Ideal Cert.Kernel33Ideal.Gen

variable (m : (ℓ : Loc nD τ sig) → Buf (Elt Ideal) ℓ) (c : Dev nD)

/-- The weight's change, of the weight, its gradient and the two moments. -/
noncomputable abbrev change := Value.G4 (F := Ideal) (m ((c : Thread nD τ).loc main_arg0)) (m ((c : Thread nD τ).loc main_arg1))
  (m ((c : Thread nD τ).loc main_arg2)) (m ((c : Thread nD τ).loc main_arg3))
/-- The new moments, each of the gradient and the old one. -/
noncomputable abbrev first := Value.G5 (F := Ideal) (m ((c : Thread nD τ).loc main_arg1)) (m ((c : Thread nD τ).loc main_arg2))
noncomputable abbrev second := Value.G6 (F := Ideal) (m ((c : Thread nD τ).loc main_arg1)) (m ((c : Thread nD τ).loc main_arg3))

/-- The reference's frame. -/
theorem reference_frame : Cert.quiescent_Reference33Ideal (hReference33Ideal := Cert.Reference33Ideal.Gen.facts) := fun m ρ _ =>
  (θ_run Cert.Reference33Ideal.defs _ _).mono
    (fun r h => ⟨fun c => (h c).2.2.2, sem_eq_zero_of_no_sems (by decide) r.2⟩) (Cert.Reference33Ideal.Value.run (F := Ideal) m ρ)

/-- Over the extended reals kernel and reference have the same results. -/
theorem algebraic : Cert.algebraic_Kernel33Ideal_Reference33Ideal (hKernel33Ideal := Cert.Kernel33Ideal.Gen.facts)
    (hReference33Ideal := Cert.Reference33Ideal.Gen.facts) := by
  intro m ρ m' ρ' _ hm
  refine ⟨fun c => change m c, fun c => first m c, fun c => second m c, Value.run m ρ, ?_⟩
  refine (θ_run Cert.Reference33Ideal.defs _ _).mono (fun r h c => ?_) (Cert.Reference33Ideal.Value.run (F := Ideal) m' ρ')
  obtain ⟨a0, a1, a2, a3⟩ := hm c
  obtain ⟨h0, h1, h2, h3⟩ := h c
  rw [a0, a1, a2, a3] at h0
  rw [a1, a2] at h1
  rw [a1, a3] at h2
  refine ⟨h0.trans (funext fun i => ?_), h1.trans (funext fun i => ?_), h2.trans (funext fun i => ?_), h3⟩
  · obtain ⟨r, k, rfl⟩ : ∃ r k, i = ix2 r k := ⟨i 0, i 1, eq_ix2 i⟩
    rfl
  · obtain ⟨r, k, rfl⟩ : ∃ r k, i = ix2 r k := ⟨i 0, i 1, eq_ix2 i⟩
    rfl
  · obtain ⟨r, k, rfl⟩ : ∃ r k, i = ix2 r k := ⟨i 0, i 1, eq_ix2 i⟩
    rfl

end Cert.AdamFfnIn

end
-- ==== Proof.AdamFfnOut.lean ====
/- The optimiser's step for w_ffn_out: the weight's change and the two new moments. Kernel and reference. -/
module

public import proofs.«01_k».proof.Defs
public import proofs.«01_k».proof.Proof.Gen.Kernel34Ideal.Value
public import proofs.«01_k».proof.Proof.Gen.Reference34Ideal.Run
public import Idealize.ShloMosaic.Lib.Pipeline.ValueKit
public import Idealize.ShloMosaic.Lib.Quiescent

@[expose] public section

namespace Cert.AdamFfnOut

open Idealize.ShloMosaic Idealize.ShloMosaic.TcCoe Idealize.SL.Sem
open Idealize.ShloMosaic.Tactic
open Cert.Kernel34Ideal Cert.Kernel34Ideal.Gen

variable (m : (ℓ : Loc nD τ sig) → Buf (Elt Ideal) ℓ) (c : Dev nD)

/-- The weight's change, of the weight, its gradient and the two moments. -/
noncomputable abbrev change := Value.G4 (F := Ideal) (m ((c : Thread nD τ).loc main_arg0)) (m ((c : Thread nD τ).loc main_arg1))
  (m ((c : Thread nD τ).loc main_arg2)) (m ((c : Thread nD τ).loc main_arg3))
/-- The new moments, each of the gradient and the old one. -/
noncomputable abbrev first := Value.G5 (F := Ideal) (m ((c : Thread nD τ).loc main_arg1)) (m ((c : Thread nD τ).loc main_arg2))
noncomputable abbrev second := Value.G6 (F := Ideal) (m ((c : Thread nD τ).loc main_arg1)) (m ((c : Thread nD τ).loc main_arg3))

/-- The reference's frame. -/
theorem reference_frame : Cert.quiescent_Reference34Ideal (hReference34Ideal := Cert.Reference34Ideal.Gen.facts) := fun m ρ _ =>
  (θ_run Cert.Reference34Ideal.defs _ _).mono
    (fun r h => ⟨fun c => (h c).2.2.2, sem_eq_zero_of_no_sems (by decide) r.2⟩) (Cert.Reference34Ideal.Value.run (F := Ideal) m ρ)

/-- Over the extended reals kernel and reference have the same results. -/
theorem algebraic : Cert.algebraic_Kernel34Ideal_Reference34Ideal (hKernel34Ideal := Cert.Kernel34Ideal.Gen.facts)
    (hReference34Ideal := Cert.Reference34Ideal.Gen.facts) := by
  intro m ρ m' ρ' _ hm
  refine ⟨fun c => change m c, fun c => first m c, fun c => second m c, Value.run m ρ, ?_⟩
  refine (θ_run Cert.Reference34Ideal.defs _ _).mono (fun r h c => ?_) (Cert.Reference34Ideal.Value.run (F := Ideal) m' ρ')
  obtain ⟨a0, a1, a2, a3⟩ := hm c
  obtain ⟨h0, h1, h2, h3⟩ := h c
  rw [a0, a1, a2, a3] at h0
  rw [a1, a2] at h1
  rw [a1, a3] at h2
  refine ⟨h0.trans (funext fun i => ?_), h1.trans (funext fun i => ?_), h2.trans (funext fun i => ?_), h3⟩
  · obtain ⟨r, k, rfl⟩ : ∃ r k, i = ix2 r k := ⟨i 0, i 1, eq_ix2 i⟩
    rfl
  · obtain ⟨r, k, rfl⟩ : ∃ r k, i = ix2 r k := ⟨i 0, i 1, eq_ix2 i⟩
    rfl
  · obtain ⟨r, k, rfl⟩ : ∃ r k, i = ix2 r k := ⟨i 0, i 1, eq_ix2 i⟩
    rfl

end Cert.AdamFfnOut

end
-- ==== Proof.AdamGlu.lean ====
/- The optimiser's step for w_glu: the weight's change and the two new moments. Kernel and reference. -/
module

public import proofs.«01_k».proof.Defs
public import proofs.«01_k».proof.Proof.Gen.Kernel35Ideal.Value
public import proofs.«01_k».proof.Proof.Gen.Reference35Ideal.Run
public import Idealize.ShloMosaic.Lib.Pipeline.ValueKit
public import Idealize.ShloMosaic.Lib.Quiescent

@[expose] public section

namespace Cert.AdamGlu

open Idealize.ShloMosaic Idealize.ShloMosaic.TcCoe Idealize.SL.Sem
open Idealize.ShloMosaic.Tactic
open Cert.Kernel35Ideal Cert.Kernel35Ideal.Gen

variable (m : (ℓ : Loc nD τ sig) → Buf (Elt Ideal) ℓ) (c : Dev nD)

/-- The weight's change, of the weight, its gradient and the two moments. -/
noncomputable abbrev change := Value.G4 (F := Ideal) (m ((c : Thread nD τ).loc main_arg0)) (m ((c : Thread nD τ).loc main_arg1))
  (m ((c : Thread nD τ).loc main_arg2)) (m ((c : Thread nD τ).loc main_arg3))
/-- The new moments, each of the gradient and the old one. -/
noncomputable abbrev first := Value.G5 (F := Ideal) (m ((c : Thread nD τ).loc main_arg1)) (m ((c : Thread nD τ).loc main_arg2))
noncomputable abbrev second := Value.G6 (F := Ideal) (m ((c : Thread nD τ).loc main_arg1)) (m ((c : Thread nD τ).loc main_arg3))

/-- The reference's frame. -/
theorem reference_frame : Cert.quiescent_Reference35Ideal (hReference35Ideal := Cert.Reference35Ideal.Gen.facts) := fun m ρ _ =>
  (θ_run Cert.Reference35Ideal.defs _ _).mono
    (fun r h => ⟨fun c => (h c).2.2.2, sem_eq_zero_of_no_sems (by decide) r.2⟩) (Cert.Reference35Ideal.Value.run (F := Ideal) m ρ)

/-- Over the extended reals kernel and reference have the same results. -/
theorem algebraic : Cert.algebraic_Kernel35Ideal_Reference35Ideal (hKernel35Ideal := Cert.Kernel35Ideal.Gen.facts)
    (hReference35Ideal := Cert.Reference35Ideal.Gen.facts) := by
  intro m ρ m' ρ' _ hm
  refine ⟨fun c => change m c, fun c => first m c, fun c => second m c, Value.run m ρ, ?_⟩
  refine (θ_run Cert.Reference35Ideal.defs _ _).mono (fun r h c => ?_) (Cert.Reference35Ideal.Value.run (F := Ideal) m' ρ')
  obtain ⟨a0, a1, a2, a3⟩ := hm c
  obtain ⟨h0, h1, h2, h3⟩ := h c
  rw [a0, a1, a2, a3] at h0
  rw [a1, a2] at h1
  rw [a1, a3] at h2
  refine ⟨h0.trans (funext fun i => ?_), h1.trans (funext fun i => ?_), h2.trans (funext fun i => ?_), h3⟩
  · obtain ⟨r, k, rfl⟩ : ∃ r k, i = ix2 r k := ⟨i 0, i 1, eq_ix2 i⟩
    rfl
  · obtain ⟨r, k, rfl⟩ : ∃ r k, i = ix2 r k := ⟨i 0, i 1, eq_ix2 i⟩
    rfl
  · obtain ⟨r, k, rfl⟩ : ∃ r k, i = ix2 r k := ⟨i 0, i 1, eq_ix2 i⟩
    rfl

end Cert.AdamGlu

end
-- ==== Proof.AdamQ.lean ====
/- The optimiser's step for w_q and w_o: the weight's change and the two new moments. Kernel and reference. -/
module

public import proofs.«01_k».proof.Defs
public import proofs.«01_k».proof.Proof.Gen.Kernel36Ideal.Value
public import proofs.«01_k».proof.Proof.Gen.Reference36Ideal.Run
public import Idealize.ShloMosaic.Lib.Pipeline.ValueKit
public import Idealize.ShloMosaic.Lib.Quiescent

@[expose] public section

namespace Cert.AdamQ

open Idealize.ShloMosaic Idealize.ShloMosaic.TcCoe Idealize.SL.Sem
open Idealize.ShloMosaic.Tactic
open Cert.Kernel36Ideal Cert.Kernel36Ideal.Gen

variable (m : (ℓ : Loc nD τ sig) → Buf (Elt Ideal) ℓ) (c : Dev nD)

/-- The weight's change, of the weight, its gradient and the two moments. -/
noncomputable abbrev change := Value.G4 (F := Ideal) (m ((c : Thread nD τ).loc main_arg0)) (m ((c : Thread nD τ).loc main_arg1))
  (m ((c : Thread nD τ).loc main_arg2)) (m ((c : Thread nD τ).loc main_arg3))
/-- The new moments, each of the gradient and the old one. -/
noncomputable abbrev first := Value.G5 (F := Ideal) (m ((c : Thread nD τ).loc main_arg1)) (m ((c : Thread nD τ).loc main_arg2))
noncomputable abbrev second := Value.G6 (F := Ideal) (m ((c : Thread nD τ).loc main_arg1)) (m ((c : Thread nD τ).loc main_arg3))

/-- The reference's frame. -/
theorem reference_frame : Cert.quiescent_Reference36Ideal (hReference36Ideal := Cert.Reference36Ideal.Gen.facts) := fun m ρ _ =>
  (θ_run Cert.Reference36Ideal.defs _ _).mono
    (fun r h => ⟨fun c => (h c).2.2.2, sem_eq_zero_of_no_sems (by decide) r.2⟩) (Cert.Reference36Ideal.Value.run (F := Ideal) m ρ)

/-- Over the extended reals kernel and reference have the same results. -/
theorem algebraic : Cert.algebraic_Kernel36Ideal_Reference36Ideal (hKernel36Ideal := Cert.Kernel36Ideal.Gen.facts)
    (hReference36Ideal := Cert.Reference36Ideal.Gen.facts) := by
  intro m ρ m' ρ' _ hm
  refine ⟨fun c => change m c, fun c => first m c, fun c => second m c, Value.run m ρ, ?_⟩
  refine (θ_run Cert.Reference36Ideal.defs _ _).mono (fun r h c => ?_) (Cert.Reference36Ideal.Value.run (F := Ideal) m' ρ')
  obtain ⟨a0, a1, a2, a3⟩ := hm c
  obtain ⟨h0, h1, h2, h3⟩ := h c
  rw [a0, a1, a2, a3] at h0
  rw [a1, a2] at h1
  rw [a1, a3] at h2
  refine ⟨h0.trans (funext fun i => ?_), h1.trans (funext fun i => ?_), h2.trans (funext fun i => ?_), h3⟩
  · obtain ⟨r, k, rfl⟩ : ∃ r k, i = ix2 r k := ⟨i 0, i 1, eq_ix2 i⟩
    rfl
  · obtain ⟨r, k, rfl⟩ : ∃ r k, i = ix2 r k := ⟨i 0, i 1, eq_ix2 i⟩
    rfl
  · obtain ⟨r, k, rfl⟩ : ∃ r k, i = ix2 r k := ⟨i 0, i 1, eq_ix2 i⟩
    rfl

end Cert.AdamQ

end
-- ==== Proof.AdamKv.lean ====
/- The optimiser's step for the weight of keys, values and forget gates: the weight's change and the two new moments. Kernel and reference. -/
module

public import proofs.«01_k».proof.Defs
public import proofs.«01_k».proof.Proof.Gen.Kernel37Ideal.Value
public import proofs.«01_k».proof.Proof.Gen.Reference37Ideal.Run
public import Idealize.ShloMosaic.Lib.Pipeline.ValueKit
public import Idealize.ShloMosaic.Lib.Quiescent

@[expose] public section

namespace Cert.AdamKv

open Idealize.ShloMosaic Idealize.ShloMosaic.TcCoe Idealize.SL.Sem
open Idealize.ShloMosaic.Tactic
open Cert.Kernel37Ideal Cert.Kernel37Ideal.Gen

variable (m : (ℓ : Loc nD τ sig) → Buf (Elt Ideal) ℓ) (c : Dev nD)

/-- The weight's change, of the weight, its gradient and the two moments. -/
noncomputable abbrev change := Value.G4 (F := Ideal) (m ((c : Thread nD τ).loc main_arg0)) (m ((c : Thread nD τ).loc main_arg1))
  (m ((c : Thread nD τ).loc main_arg2)) (m ((c : Thread nD τ).loc main_arg3))
/-- The new moments, each of the gradient and the old one. -/
noncomputable abbrev first := Value.G5 (F := Ideal) (m ((c : Thread nD τ).loc main_arg1)) (m ((c : Thread nD τ).loc main_arg2))
noncomputable abbrev second := Value.G6 (F := Ideal) (m ((c : Thread nD τ).loc main_arg1)) (m ((c : Thread nD τ).loc main_arg3))

/-- The reference's frame. -/
theorem reference_frame : Cert.quiescent_Reference37Ideal (hReference37Ideal := Cert.Reference37Ideal.Gen.facts) := fun m ρ _ =>
  (θ_run Cert.Reference37Ideal.defs _ _).mono
    (fun r h => ⟨fun c => (h c).2.2.2, sem_eq_zero_of_no_sems (by decide) r.2⟩) (Cert.Reference37Ideal.Value.run (F := Ideal) m ρ)

/-- Over the extended reals kernel and reference have the same results. -/
theorem algebraic : Cert.algebraic_Kernel37Ideal_Reference37Ideal (hKernel37Ideal := Cert.Kernel37Ideal.Gen.facts)
    (hReference37Ideal := Cert.Reference37Ideal.Gen.facts) := by
  intro m ρ m' ρ' _ hm
  refine ⟨fun c => change m c, fun c => first m c, fun c => second m c, Value.run m ρ, ?_⟩
  refine (θ_run Cert.Reference37Ideal.defs _ _).mono (fun r h c => ?_) (Cert.Reference37Ideal.Value.run (F := Ideal) m' ρ')
  obtain ⟨a0, a1, a2, a3⟩ := hm c
  obtain ⟨h0, h1, h2, h3⟩ := h c
  rw [a0, a1, a2, a3] at h0
  rw [a1, a2] at h1
  rw [a1, a3] at h2
  refine ⟨h0.trans (funext fun i => ?_), h1.trans (funext fun i => ?_), h2.trans (funext fun i => ?_), h3⟩
  · obtain ⟨r, k, rfl⟩ : ∃ r k, i = ix2 r k := ⟨i 0, i 1, eq_ix2 i⟩
    rfl
  · obtain ⟨r, k, rfl⟩ : ∃ r k, i = ix2 r k := ⟨i 0, i 1, eq_ix2 i⟩
    rfl
  · obtain ⟨r, k, rfl⟩ : ∃ r k, i = ix2 r k := ⟨i 0, i 1, eq_ix2 i⟩
    rfl

end Cert.AdamKv

end
-- ==== Proof.lean ====
module

public import proofs.«01_k».proof.Defs
public import proofs.«01_k».proof.Proof.ConvClaim
public import proofs.«01_k».proof.Proof.OutDx
public import proofs.«01_k».proof.Proof.OutDw
public import proofs.«01_k».proof.Proof.InDx
public import proofs.«01_k».proof.Proof.InDw
public import proofs.«01_k».proof.Proof.GluDx
public import proofs.«01_k».proof.Proof.GluDw
public import proofs.«01_k».proof.Proof.QDx
public import proofs.«01_k».proof.Proof.QDw
public import proofs.«01_k».proof.Proof.ODx
public import proofs.«01_k».proof.Proof.ODw
public import proofs.«01_k».proof.Proof.KvDx
public import proofs.«01_k».proof.Proof.KvDw
public import proofs.«01_k».proof.Proof.FfnIn
public import proofs.«01_k».proof.Proof.FfnOut
public import proofs.«01_k».proof.Proof.GluMm
public import proofs.«01_k».proof.Proof.QMm
public import proofs.«01_k».proof.Proof.OMm
public import proofs.«01_k».proof.Proof.KvMm
public import proofs.«01_k».proof.Proof.FfnOutS
public import proofs.«01_k».proof.Proof.FfnOutKv
public import proofs.«01_k».proof.Proof.LossHead
public import proofs.«01_k».proof.Proof.QDxFirst
public import proofs.«01_k».proof.Proof.MixNorm
public import proofs.«01_k».proof.Proof.Glu
public import proofs.«01_k».proof.Proof.CumBwd
public import proofs.«01_k».proof.Proof.ConvFwd
public import proofs.«01_k».proof.Proof.FMm
public import proofs.«01_k».proof.Proof.FDx
public import proofs.«01_k».proof.Proof.FDw
public import proofs.«01_k».proof.Proof.FirstNorm
public import proofs.«01_k».proof.Proof.KvSum
public import proofs.«01_k».proof.Proof.AdamFfnIn
public import proofs.«01_k».proof.Proof.AdamFfnOut
public import proofs.«01_k».proof.Proof.AdamGlu
public import proofs.«01_k».proof.Proof.AdamQ
public import proofs.«01_k».proof.Proof.AdamKv
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Kernel36.Frame
public import proofs.«01_k».proof.Proof.Gen.Kernel36Ideal.Value
public import proofs.«01_k».proof.Proof.Gen.Reference36Ideal.Run
public import proofs.«01_k».proof.Proof.Gen.Kernel37.Frame
public import proofs.«01_k».proof.Proof.Gen.Kernel37Ideal.Value
public import proofs.«01_k».proof.Proof.Gen.Reference37Ideal.Run

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.FiniteInputs.facts,
  Cert.ConvGrad.kernel_frame, fun m ρ _ => Cert.KernelIdeal.Gen.frame m ρ, fun m ρ _ => Cert.KernelIdeal.Gen.frame m ρ,
  Cert.ConvGrad.reference_frame, fun m ρ _ => Cert.ConvGrad.reference_frame m ρ trivial,
  fun m ρ _ => Cert.Kernel2.Gen.frame m ρ, fun m ρ _ => Cert.Kernel2Ideal.Gen.frame m ρ, Cert.OutDx.reference_frame,
  fun m ρ _ => Cert.Kernel3.Gen.frame m ρ, fun m ρ _ => Cert.Kernel3Ideal.Gen.frame m ρ, Cert.OutDw.reference_frame,
  fun m ρ _ => Cert.Kernel4.Gen.frame m ρ, fun m ρ _ => Cert.Kernel4Ideal.Gen.frame m ρ, Cert.InDx.reference_frame,
  fun m ρ _ => Cert.Kernel5.Gen.frame m ρ, fun m ρ _ => Cert.Kernel5Ideal.Gen.frame m ρ, Cert.InDw.reference_frame,
  fun m ρ _ => Cert.Kernel6.Gen.frame m ρ, fun m ρ _ => Cert.Kernel6Ideal.Gen.frame m ρ, Cert.GluDx.reference_frame,
  fun m ρ _ => Cert.Kernel7.Gen.frame m ρ, fun m ρ _ => Cert.Kernel7Ideal.Gen.frame m ρ, Cert.GluDw.reference_frame,
  fun m ρ _ => Cert.Kernel8.Gen.frame m ρ, fun m ρ _ => Cert.Kernel8Ideal.Gen.frame m ρ, Cert.QDx.reference_frame,
  fun m ρ _ => Cert.Kernel9.Gen.frame m ρ, fun m ρ _ => Cert.Kernel9Ideal.Gen.frame m ρ, Cert.QDw.reference_frame,
  fun m ρ _ => Cert.Kernel10.Gen.frame m ρ, fun m ρ _ => Cert.Kernel10Ideal.Gen.frame m ρ, Cert.ODx.reference_frame,
  fun m ρ _ => Cert.Kernel11.Gen.frame m ρ, fun m ρ _ => Cert.Kernel11Ideal.Gen.frame m ρ, Cert.ODw.reference_frame,
  fun m ρ _ => Cert.Kernel12.Gen.frame m ρ, fun m ρ _ => Cert.Kernel12Ideal.Gen.frame m ρ, Cert.KvDx.reference_frame,
  fun m ρ _ => Cert.Kernel13.Gen.frame m ρ, fun m ρ _ => Cert.Kernel13Ideal.Gen.frame m ρ, Cert.KvDw.reference_frame,
  fun m ρ _ => Cert.Kernel14.Gen.frame m ρ, fun m ρ _ => Cert.Kernel14Ideal.Gen.frame m ρ, Cert.FfnIn.reference_frame,
  fun m ρ _ => Cert.Kernel15.Gen.frame m ρ, fun m ρ _ => Cert.Kernel15Ideal.Gen.frame m ρ, Cert.FfnOut.reference_frame,
  fun m ρ _ => Cert.Kernel16.Gen.frame m ρ, fun m ρ _ => Cert.Kernel16Ideal.Gen.frame m ρ, Cert.GluMm.reference_frame,
  fun m ρ _ => Cert.Kernel17.Gen.frame m ρ, fun m ρ _ => Cert.Kernel17Ideal.Gen.frame m ρ, Cert.QMm.reference_frame,
  fun m ρ _ => Cert.Kernel18.Gen.frame m ρ, fun m ρ _ => Cert.Kernel18Ideal.Gen.frame m ρ, Cert.OMm.reference_frame,
  fun m ρ _ => Cert.Kernel19.Gen.frame m ρ, fun m ρ _ => Cert.Kernel19Ideal.Gen.frame m ρ, Cert.KvMm.reference_frame,
  fun m ρ _ => Cert.Kernel20.Gen.frame m ρ, fun m ρ _ => Cert.Kernel20Ideal.Gen.frame m ρ, Cert.FfnOutS.reference_frame,
  fun m ρ _ => Cert.Kernel21.Gen.frame m ρ, fun m ρ _ => Cert.Kernel21Ideal.Gen.frame m ρ, Cert.FfnOutKv.reference_frame,
  fun m ρ _ => Cert.Kernel22.Gen.frame m ρ, fun m ρ _ => Cert.Kernel22Ideal.Gen.frame m ρ, Cert.LossHead.reference_frame,
  fun m ρ _ => Cert.Kernel23.Gen.frame m ρ, fun m ρ _ => Cert.Kernel23Ideal.Gen.frame m ρ, Cert.QDxFirst.reference_frame,
  fun m ρ _ => Cert.Kernel24.Gen.frame m ρ, fun m ρ _ => Cert.Kernel24Ideal.Gen.frame m ρ, Cert.MixNorm.reference_frame,
  fun m ρ _ => Cert.Kernel25.Gen.frame m ρ, fun m ρ _ => Cert.Kernel25Ideal.Gen.frame m ρ, Cert.Glu.reference_frame,
  fun m ρ _ => Cert.Kernel26.Gen.frame m ρ, fun m ρ _ => Cert.Kernel26Ideal.Gen.frame m ρ, Cert.CumBwd.reference_frame,
  fun m ρ _ => Cert.Kernel27.Gen.frame m ρ, fun m ρ _ => Cert.Kernel27Ideal.Gen.frame m ρ, Cert.ConvFwd.reference_frame,
  fun m ρ _ => Cert.Kernel28.Gen.frame m ρ, fun m ρ _ => Cert.Kernel28Ideal.Gen.frame m ρ, Cert.FMm.reference_frame,
  fun m ρ _ => Cert.Kernel29.Gen.frame m ρ, fun m ρ _ => Cert.Kernel29Ideal.Gen.frame m ρ, Cert.FDx.reference_frame,
  fun m ρ _ => Cert.Kernel30.Gen.frame m ρ, fun m ρ _ => Cert.Kernel30Ideal.Gen.frame m ρ, Cert.FDw.reference_frame,
  fun m ρ _ => Cert.Kernel31.Gen.frame m ρ, fun m ρ _ => Cert.Kernel31Ideal.Gen.frame m ρ, Cert.FirstNorm.reference_frame,
  fun m ρ _ => Cert.Kernel32.Gen.frame m ρ, fun m ρ _ => Cert.Kernel32Ideal.Gen.frame m ρ, Cert.KvSum.reference_frame,
  fun m ρ _ => Cert.Kernel33.Gen.frame m ρ, fun m ρ _ => Cert.Kernel33Ideal.Gen.frame m ρ, Cert.AdamFfnIn.reference_frame,
  fun m ρ _ => Cert.Kernel34.Gen.frame m ρ, fun m ρ _ => Cert.Kernel34Ideal.Gen.frame m ρ, Cert.AdamFfnOut.reference_frame,
  fun m ρ _ => Cert.Kernel35.Gen.frame m ρ, fun m ρ _ => Cert.Kernel35Ideal.Gen.frame m ρ, Cert.AdamGlu.reference_frame,
  fun m ρ _ => Cert.Kernel36.Gen.frame m ρ, fun m ρ _ => Cert.Kernel36Ideal.Gen.frame m ρ, Cert.AdamQ.reference_frame,
  fun m ρ _ => Cert.Kernel37.Gen.frame m ρ, fun m ρ _ => Cert.Kernel37Ideal.Gen.frame m ρ, Cert.AdamKv.reference_frame,
  trivial, Cert.ConvGrad.algebraic,
  trivial, Cert.OutDx.algebraic,
  trivial, Cert.OutDw.algebraic,
  trivial, Cert.InDx.algebraic,
  trivial, Cert.InDw.algebraic,
  trivial, Cert.GluDx.algebraic,
  trivial, Cert.GluDw.algebraic,
  trivial, Cert.QDx.algebraic,
  trivial, Cert.QDw.algebraic,
  trivial, Cert.ODx.algebraic,
  trivial, Cert.ODw.algebraic,
  trivial, Cert.KvDx.algebraic,
  trivial, Cert.KvDw.algebraic,
  trivial, Cert.FfnIn.algebraic,
  trivial, Cert.FfnOut.algebraic,
  trivial, Cert.GluMm.algebraic,
  trivial, Cert.QMm.algebraic,
  trivial, Cert.OMm.algebraic,
  trivial, Cert.KvMm.algebraic,
  trivial, Cert.FfnOutS.algebraic,
  trivial, Cert.FfnOutKv.algebraic,
  trivial, Cert.LossHead.algebraic,
  trivial, Cert.QDxFirst.algebraic,
  trivial, Cert.MixNorm.algebraic,
  trivial, Cert.Glu.algebraic,
  trivial, Cert.CumBwd.algebraic,
  trivial, Cert.ConvFwd.algebraic,
  trivial, Cert.FMm.algebraic,
  trivial, Cert.FDx.algebraic,
  trivial, Cert.FDw.algebraic,
  trivial, Cert.FirstNorm.algebraic,
  trivial, Cert.KvSum.algebraic,
  trivial, Cert.AdamFfnIn.algebraic,
  trivial, Cert.AdamFfnOut.algebraic,
  trivial, Cert.AdamGlu.algebraic,
  trivial, Cert.AdamQ.algebraic,
  trivial, Cert.AdamKv.algebraic⟩

end Cert.Proof

end
